-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v9)) (v2 : (c : Dev Cert.Kernel2Ideal.nD) → Buf (Elt Ideal) ((c.tc : Thread Cert.Kernel2Ideal.nD Cert.Kernel2Ideal.τ).loc Cert.Kernel2Ideal.main_v27)) (v3 : (c : Dev Cert.Kernel2Ideal.nD) → Buf (Elt Ideal) ((c.tc : Thread Cert.Kernel2Ideal.nD Cert.Kernel2Ideal.τ).loc Cert.Kernel2Ideal.main_v66)) (v4 : (c : Dev Cert.Kernel2Ideal.nD) → Buf (Elt Ideal) ((c.tc : Thread Cert.Kernel2Ideal.nD Cert.Kernel2Ideal.τ).loc Cert.Kernel2Ideal.main_v29)) (v5 : (c : Dev Cert.Kernel2Ideal.nD) → Buf (Elt Ideal) ((c.tc : Thread Cert.Kernel2Ideal.nD Cert.Kernel2Ideal.τ).loc Cert.Kernel2Ideal.main_v68)) (v6 : (c : Dev Cert.Kernel2Ideal.nD) → Buf (Elt Ideal) ((c.tc : Thread Cert.Kernel2Ideal.nD Cert.Kernel2Ideal.τ).loc Cert.Kernel2Ideal.main_v35)) (v7 : (c : Dev Cert.Kernel2Ideal.nD) → Buf (Elt Ideal) ((c.tc : Thread Cert.Kernel2Ideal.nD Cert.Kernel2Ideal.τ).loc Cert.Kernel2Ideal.main_v75)) (v8 : (c : Dev Cert.Kernel2Ideal.nD) → Buf (Elt Ideal) ((c.tc : Thread Cert.Kernel2Ideal.nD Cert.Kernel2Ideal.τ).loc Cert.Kernel2Ideal.main_v34)) (v9 : (c : Dev Cert.Kernel2Ideal.nD) → Buf (Elt Ideal) ((c.tc : Thread Cert.Kernel2Ideal.nD Cert.Kernel2Ideal.τ).loc Cert.Kernel2Ideal.main_v73)) (v10 : (c : Dev Cert.Kernel2Ideal.nD) → Buf (Elt Ideal) ((c.tc : Thread Cert.Kernel2Ideal.nD Cert.Kernel2Ideal.τ).loc Cert.Kernel2Ideal.main_v20)) (v11 : (c : Dev Cert.Kernel2Ideal.nD) → Buf (Elt Ideal) ((c.tc : Thread Cert.Kernel2Ideal.nD Cert.Kernel2Ideal.τ).loc Cert.Kernel2Ideal.main_v59)) (v12 : (c : Dev Cert.Kernel2Ideal.nD) → Buf (Elt Ideal) ((c.tc : Thread Cert.Kernel2Ideal.nD Cert.Kernel2Ideal.τ).loc Cert.Kernel2Ideal.main_v88)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_v27) = v2 c
          ∧ r.2.mem ((c.tc : Thread Cert.Kernel2Ideal.nD Cert.Kernel2Ideal.τ).loc Cert.Kernel2Ideal.main_v66) = v3 c
          ∧ r.2.mem ((c.tc : Thread Cert.Kernel2Ideal.nD Cert.Kernel2Ideal.τ).loc Cert.Kernel2Ideal.main_v29) = v4 c
          ∧ r.2.mem ((c.tc : Thread Cert.Kernel2Ideal.nD Cert.Kernel2Ideal.τ).loc Cert.Kernel2Ideal.main_v68) = v5 c
          ∧ r.2.mem ((c.tc : Thread Cert.Kernel2Ideal.nD Cert.Kernel2Ideal.τ).loc Cert.Kernel2Ideal.main_v35) = v6 c
          ∧ r.2.mem ((c.tc : Thread Cert.Kernel2Ideal.nD Cert.Kernel2Ideal.τ).loc Cert.Kernel2Ideal.main_v75) = v7 c
          ∧ r.2.mem ((c.tc : Thread Cert.Kernel2Ideal.nD Cert.Kernel2Ideal.τ).loc Cert.Kernel2Ideal.main_v34) = v8 c
          ∧ r.2.mem ((c.tc : Thread Cert.Kernel2Ideal.nD Cert.Kernel2Ideal.τ).loc Cert.Kernel2Ideal.main_v73) = v9 c
          ∧ r.2.mem ((c.tc : Thread Cert.Kernel2Ideal.nD Cert.Kernel2Ideal.τ).loc Cert.Kernel2Ideal.main_v20) = v10 c
          ∧ r.2.mem ((c.tc : Thread Cert.Kernel2Ideal.nD Cert.Kernel2Ideal.τ).loc Cert.Kernel2Ideal.main_v59) = v11 c
          ∧ r.2.mem ((c.tc : Thread Cert.Kernel2Ideal.nD Cert.Kernel2Ideal.τ).loc Cert.Kernel2Ideal.main_v88) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_v47) = v4 c
          ∧ r.2.mem ((c.tc : Thread Cert.Reference2Ideal.nD Cert.Reference2Ideal.τ).loc Cert.Reference2Ideal.main_v86) = v5 c
          ∧ r.2.mem ((c.tc : Thread Cert.Reference2Ideal.nD Cert.Reference2Ideal.τ).loc Cert.Reference2Ideal.main_v53) = v6 c
          ∧ r.2.mem ((c.tc : Thread Cert.Reference2Ideal.nD Cert.Reference2Ideal.τ).loc Cert.Reference2Ideal.main_v93) = v7 c
          ∧ r.2.mem ((c.tc : Thread Cert.Reference2Ideal.nD Cert.Reference2Ideal.τ).loc Cert.Reference2Ideal.main_v52) = v8 c
          ∧ r.2.mem ((c.tc : Thread Cert.Reference2Ideal.nD Cert.Reference2Ideal.τ).loc Cert.Reference2Ideal.main_v91) = v9 c
          ∧ r.2.mem ((c.tc : Thread Cert.Reference2Ideal.nD Cert.Reference2Ideal.τ).loc Cert.Reference2Ideal.main_v38) = v10 c
          ∧ r.2.mem ((c.tc : Thread Cert.Reference2Ideal.nD Cert.Reference2Ideal.τ).loc Cert.Reference2Ideal.main_v77) = v11 c
          ∧ r.2.mem ((c.tc : Thread Cert.Reference2Ideal.nD Cert.Reference2Ideal.τ).loc Cert.Reference2Ideal.main_v106) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v73)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v73) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v60)) (v1 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v1) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x2048x512 : Shape := ⟨3, ![4, 2048, 512]⟩
abbrev S4x2048x2x64 : Shape := ⟨4, ![4, 2048, 2, 64]⟩
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S1x256x256 : Shape := ⟨3, ![1, 256, 256]⟩
abbrev S3x256x256 : Shape := ⟨3, ![3, 256, 256]⟩
abbrev S3x256x256x1 : Shape := ⟨4, ![3, 256, 256, 1]⟩
abbrev S32 : Shape := ⟨1, ![32]⟩
abbrev S1x1x1x32 : Shape := ⟨4, ![1, 1, 1, 32]⟩
abbrev S3x256x256x32 : Shape := ⟨4, ![3, 256, 256, 32]⟩
abbrev S8x3x256x256 : Shape := ⟨4, ![8, 3, 256, 256]⟩
abbrev S4x2048x8x64 : Shape := ⟨4, ![4, 2048, 8, 64]⟩
abbrev S4x8x64x2048 : Shape := ⟨4, ![4, 8, 64, 2048]⟩
abbrev S4x2048x128 : Shape := ⟨3, ![4, 2048, 128]⟩
abbrev S4x2x2048x64 : Shape := ⟨4, ![4, 2, 2048, 64]⟩
abbrev S4x8x256x2x64 : Shape := ⟨5, ![4, 8, 256, 2, 64]⟩
abbrev S4x2x8x64x256 : Shape := ⟨5, ![4, 2, 8, 64, 256]⟩
abbrev S1x2x64x256 : Shape := ⟨4, ![1, 2, 64, 256]⟩
abbrev S1x1x2048x64 : Shape := ⟨4, ![1, 1, 2048, 64]⟩
abbrev S1x1x8x64x256 : Shape := ⟨5, ![1, 1, 8, 64, 256]⟩
abbrev S2x3x256x256 : Shape := ⟨4, ![2, 3, 256, 256]⟩
abbrev S1x1x64x256 : Shape := ⟨4, ![1, 1, 64, 256]⟩
abbrev S64x256 : Shape := ⟨2, ![64, 256]⟩
abbrev S1x1x256x64 : Shape := ⟨4, ![1, 1, 256, 64]⟩
abbrev S256x64 : Shape := ⟨2, ![256, 64]⟩
abbrev S1x1x256x256 : Shape := ⟨4, ![1, 1, 256, 256]⟩
abbrev S1x1x1x64x256 : Shape := ⟨5, ![1, 1, 1, 64, 256]⟩

abbrev nBuf : Space → Nat
  | .hbm => 78
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S4x2048x2x64, .f32⟩
  | .hbm, ⟨2, _⟩ => ⟨S4x2048x2x64, .f32⟩
  | .hbm, ⟨3, _⟩ => ⟨S32x8, .f32⟩
  | .hbm, ⟨4, _⟩ => ⟨S256, .i32⟩
  | .hbm, ⟨5, _⟩ => ⟨S256x1, .i32⟩
  | .hbm, ⟨6, _⟩ => ⟨S256, .i32⟩
  | .hbm, ⟨7, _⟩ => ⟨S1x256, .i32⟩
  | .hbm, ⟨8, _⟩ => ⟨S_, .i32⟩
  | .hbm, ⟨9, _⟩ => ⟨S1x256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S1x256, .i32⟩
  | .hbm, ⟨16, _⟩ => ⟨S1x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S1x256x256, .i32⟩
  | .hbm, ⟨27, _⟩ => ⟨S1x256x256, .i32⟩
  | .hbm, ⟨28, _⟩ => ⟨S1x256x256, .i32⟩
  | .hbm, ⟨29, _⟩ => ⟨S3x256x256, .i32⟩
  | .hbm, ⟨30, _⟩ => ⟨S_, .i32⟩
  | .hbm, ⟨31, _⟩ => ⟨S3x256x256, .i32⟩
  | .hbm, ⟨32, _⟩ => ⟨S3x256x256, .i32⟩
  | .hbm, ⟨33, _⟩ => ⟨S_, .i32⟩
  | .hbm, ⟨34, _⟩ => ⟨S3x256x256, .i32⟩
  | .hbm, ⟨35, _⟩ => ⟨S3x256x256, .i32⟩
  | .hbm, ⟨36, _⟩ => ⟨S3x256x256, .f32⟩
  | .hbm, ⟨37, _⟩ => ⟨S_, .f32⟩
  | .hbm, ⟨38, _⟩ => ⟨S3x256x256, .f32⟩
  | .hbm, ⟨39, _⟩ => ⟨S3x256x256, .f32⟩
  | .hbm, ⟨40, _⟩ => ⟨S3x256x256, .f32⟩
  | .hbm, ⟨41, _⟩ => ⟨S_, .f32⟩
  | .hbm, ⟨42, _⟩ => ⟨S3x256x256, .f32⟩
  | .hbm, ⟨43, _⟩ => ⟨S3x256x256, .f32⟩
  | .hbm, ⟨44, _⟩ => ⟨S_, .f32⟩
  | .hbm, ⟨45, _⟩ => ⟨S3x256x256, .f32⟩
  | .hbm, ⟨46, _⟩ => ⟨S3x256x256, .f32⟩
  | .hbm, ⟨47, _⟩ => ⟨S3x256x256, .i32⟩
  | .hbm, ⟨48, _⟩ => ⟨S_, .i32⟩
  | .hbm, ⟨49, _⟩ => ⟨S3x256x256, .i32⟩
  | .hbm, ⟨50, _⟩ => ⟨S3x256x256, .i32⟩
  | .hbm, ⟨51, _⟩ => ⟨S_, .i32⟩
  | .hbm, ⟨52, _⟩ => ⟨S3x256x256, .i32⟩
  | .hbm, ⟨53, _⟩ => ⟨S3x256x256, .i1⟩
  | .hbm, ⟨54, _⟩ => ⟨S_, .i32⟩
  | .hbm, ⟨55, _⟩ => ⟨S3x256x256, .i32⟩
  | .hbm, ⟨56, _⟩ => ⟨S3x256x256, .i32⟩
  | .hbm, ⟨57, _⟩ => ⟨S3x256x256, .i32⟩
  | .hbm, ⟨58, _⟩ => ⟨S3x256x256x1, .i32⟩
  | .hbm, ⟨59, _⟩ => ⟨S32, .i32⟩
  | .hbm, ⟨60, _⟩ => ⟨S1x1x1x32, .i32⟩
  | .hbm, ⟨61, _⟩ => ⟨S3x256x256x32, .i32⟩
  | .hbm, ⟨62, _⟩ => ⟨S3x256x256x32, .i32⟩
  | .hbm, ⟨63, _⟩ => ⟨S3x256x256x32, .i1⟩
  | .hbm, ⟨64, _⟩ => ⟨S3x256x256x32, .f32⟩
  | .hbm, ⟨65, _⟩ => ⟨S8x3x256x256, .f32⟩
  | .hbm, ⟨66, _⟩ => ⟨S4x2048x8x64, .f32⟩
  | .hbm, ⟨67, _⟩ => ⟨S4x8x64x2048, .f32⟩
  | .hbm, ⟨68, _⟩ => ⟨S_, .f32⟩
  | .hbm, ⟨69, _⟩ => ⟨S4x8x64x2048, .f32⟩
  | .hbm, ⟨70, _⟩ => ⟨S4x8x64x2048, .f32⟩
  | .hbm, ⟨71, _⟩ => ⟨S4x2048x128, .f32⟩
  | .hbm, ⟨72, _⟩ => ⟨S4x2048x2x64, .f32⟩
  | .hbm, ⟨73, _⟩ => ⟨S4x2x2048x64, .f32⟩
  | .hbm, ⟨74, _⟩ => ⟨S4x2048x128, .f32⟩
  | .hbm, ⟨75, _⟩ => ⟨S4x8x256x2x64, .f32⟩
  | .hbm, ⟨76, _⟩ => ⟨S4x2x8x64x256, .f32⟩
  | .hbm, ⟨77, _⟩ => ⟨S4x8x64x2048, .f32⟩
  | .local _ .vmem, ⟨0, _⟩ => ⟨S1x2x64x256, .f32⟩
  | .local _ .vmem, ⟨1, _⟩ => ⟨S1x2x64x256, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x8x64x256, .f32⟩
  | .local _ .vmem, ⟨5, _⟩ => ⟨S1x1x8x64x256, .f32⟩
  | .local _ .vmem, ⟨6, _⟩ => ⟨S2x3x256x256, .f32⟩
  | .local _ .vmem, ⟨7, _⟩ => ⟨S2x3x256x256, .f32⟩
  | .local _ .vmem, ⟨8, _⟩ => ⟨S1x2x64x256, .f32⟩
  | .local _ .vmem, ⟨9, _⟩ => ⟨S1x2x64x256, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_12 : BitVec 32 := 1#32
  ⟨v10, v22, c1_i32_12⟩
def k0_mult1 (i : grid0.Coords) (k0_t1 : Fin (k0_t1_loop i).trips) : BitVec 32 :=
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32_12 : BitVec 32 := 1#32
  let arg8 : BitVec 32 := Scf.iv v10 c1_i32_12 k0_t1
  let c256_i32_25 : BitVec 32 := 256#32
  let v48 : BitVec 32 := Scalar.muli arg8 c256_i32_25
  v48
def k0_off1 (i : grid0.Coords) (k0_t1 : Fin (k0_t1_loop i).trips) : Fin 4 → Nat :=
  let c0_26 : Index := 0#32
  let c0_27 : Index := 0#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32_12 : BitVec 32 := 1#32
  let arg8 : BitVec 32 := Scf.iv v10 c1_i32_12 k0_t1
  let c256_i32_25 : BitVec 32 := 256#32
  let v48 : BitVec 32 := Scalar.muli arg8 c256_i32_25
  let v49 : BitVec 32 := v48
  let v50 : Index := Scalar.indexCast v49
  let c0_28 : Index := 0#32
  ![0, 0, v50.toNat, 0]
def k0_off2 (i : grid0.Coords) (k0_t1 : Fin (k0_t1_loop i).trips) : Fin 4 → Nat :=
  let c0_31 : Index := 0#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32_12 : BitVec 32 := 1#32
  let arg8 : BitVec 32 := Scf.iv v10 c1_i32_12 k0_t1
  let v55 : BitVec 32 := Scalar.subi arg2 arg8
  let c2_i32_30 : BitVec 32 := 2#32
  let v56 : BitVec 32 := Scalar.minsi v55 c2_i32_30
  let v57 : Index := Scalar.indexCast v56
  let c0_32 : Index := 0#32
  let c0_33 : Index := 0#32
  ![0, v57.toNat, 0, 0]
def k0_off3 (i : grid0.Coords) (k0_t1 : Fin (k0_t1_loop i).trips) : Fin 5 → Nat :=
  let c0_38 : Index := 0#32
  let c0_39 : Index := 0#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32_12 : BitVec 32 := 1#32
  let arg8 : BitVec 32 := Scf.iv v10 c1_i32_12 k0_t1
  let v77 : Index := Scalar.indexCast arg8
  let c0_40 : Index := 0#32
  let c0_41 : Index := 0#32
  ![0, 0, v77.toNat, 0, 0]
def k0_mult2 (i : grid0.Coords) (k0_t1 : Fin (k0_t1_loop i).trips) : BitVec 32 :=
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32_12 : BitVec 32 := 1#32
  let arg8 : BitVec 32 := Scf.iv v10 c1_i32_12 k0_t1
  let c256_i32_43 : BitVec 32 := 256#32
  let v86 : BitVec 32 := Scalar.muli arg8 c256_i32_43
  v86
def k0_off4 (i : grid0.Coords) (k0_t1 : Fin (k0_t1_loop i).trips) : Fin 4 → Nat :=
  let c1_49 : Index := 1#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32_12 : BitVec 32 := 1#32
  let arg8 : BitVec 32 := Scf.iv v10 c1_i32_12 k0_t1
  let v93 : BitVec 32 := Scalar.subi arg2 arg8
  let c2_i32_48 : BitVec 32 := 2#32
  let v94 : BitVec 32 := Scalar.minsi v93 c2_i32_48
  let v95 : Index := Scalar.indexCast v94
  let c0_50 : Index := 0#32
  let c0_51 : Index := 0#32
  ![1, v95.toNat, 0, 0]
@[reducible] def k0_t2_loop (i : grid0.Coords) : Scf.Loop 32 :=
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let v19 : BitVec 32 := Scalar.addi v10 v18
  let c1_i32_13 : BitVec 32 := 1#32
  ⟨v22, v19, c1_i32_13⟩
def k0_mult3 (i : grid0.Coords) (k0_t2 : Fin (k0_t2_loop i).trips) : BitVec 32 :=
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_13 : BitVec 32 := 1#32
  let arg8 : BitVec 32 := Scf.iv v22 c1_i32_13 k0_t2
  let c256_i32_25 : BitVec 32 := 256#32
  let v48 : BitVec 32 := Scalar.muli arg8 c256_i32_25
  v48
def k0_off5 (i : grid0.Coords) (k0_t2 : Fin (k0_t2_loop i).trips) : Fin 4 → Nat :=
  let c0_26 : Index := 0#32
  let c0_27 : Index := 0#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_13 : BitVec 32 := 1#32
  let arg8 : BitVec 32 := Scf.iv v22 c1_i32_13 k0_t2
  let c256_i32_25 : BitVec 32 := 256#32
  let v48 : BitVec 32 := Scalar.muli arg8 c256_i32_25
  let v49 : BitVec 32 := v48
  let v50 : Index := Scalar.indexCast v49
  let c0_28 : Index := 0#32
  ![0, 0, v50.toNat, 0]
def k0_off6 (i : grid0.Coords) (k0_t2 : Fin (k0_t2_loop i).trips) : Fin 4 → Nat :=
  let c0_31 : Index := 0#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_13 : BitVec 32 := 1#32
  let arg8 : BitVec 32 := Scf.iv v22 c1_i32_13 k0_t2
  let v55 : BitVec 32 := Scalar.subi arg2 arg8
  let c2_i32_30 : BitVec 32 := 2#32
  let v56 : BitVec 32 := Scalar.minsi v55 c2_i32_30
  let v57 : Index := Scalar.indexCast v56
  let c0_32 : Index := 0#32
  let c0_33 : Index := 0#32
  ![0, v57.toNat, 0, 0]
def k0_off7 (i : grid0.Coords) (k0_t2 : Fin (k0_t2_loop i).trips) : Fin 5 → Nat :=
  let c0_38 : Index := 0#32
  let c0_39 : Index := 0#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_13 : BitVec 32 := 1#32
  let arg8 : BitVec 32 := Scf.iv v22 c1_i32_13 k0_t2
  let v77 : Index := Scalar.indexCast arg8
  let c0_40 : Index := 0#32
  let c0_41 : Index := 0#32
  ![0, 0, v77.toNat, 0, 0]
def k0_mult4 (i : grid0.Coords) (k0_t2 : Fin (k0_t2_loop i).trips) : BitVec 32 :=
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_13 : BitVec 32 := 1#32
  let arg8 : BitVec 32 := Scf.iv v22 c1_i32_13 k0_t2
  let c256_i32_43 : BitVec 32 := 256#32
  let v86 : BitVec 32 := Scalar.muli arg8 c256_i32_43
  v86
def k0_off8 (i : grid0.Coords) (k0_t2 : Fin (k0_t2_loop i).trips) : Fin 4 → Nat :=
  let c1_49 : Index := 1#32
  let arg2 : BitVec 32 := BitVec.ofNat 32 (i 2).val
  let c2_i32 : BitVec 32 := 2#32
  let v9 : BitVec 32 := Scalar.subi arg2 c2_i32
  let c0_i32 : BitVec 32 := 0#32
  let v10 : BitVec 32 := Scalar.maxsi v9 c0_i32
  let c1_i32 : BitVec 32 := 1#32
  let v17 : BitVec 32 := Scalar.addi arg2 c1_i32
  let v18 : BitVec 32 := Scalar.subi v17 v10
  let c1_i32_11 : BitVec 32 := 1#32
  let v20 : BitVec 32 := Scalar.divsi v18 c1_i32_11
  let v21 : BitVec 32 := Scalar.muli v20 c1_i32_11
  let v22 : BitVec 32 := Scalar.addi v10 v21
  let c1_i32_13 : BitVec 32 := 1#32
  let arg8 : BitVec 32 := Scf.iv v22 c1_i32_13 k0_t2
  let v93 : BitVec 32 := Scalar.subi arg2 arg8
  let c2_i32_48 : BitVec 32 := 2#32
  let v94 : BitVec 32 := Scalar.minsi v93 c2_i32_48
  let v95 : Index := Scalar.indexCast v94
  let c0_50 : Index := 0#32
  let c0_51 : Index := 0#32
  ![1, v95.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![arg0.toNat, v17.toNat, c0_i32_4.toNat, c0_i32_5.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![arg0.toNat, v17.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x2x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x3x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x512 : Shape := ⟨3, ![4, 2048, 512]⟩
abbrev S4x2048x2x64 : Shape := ⟨4, ![4, 2048, 2, 64]⟩
abbrev S32x8 : Shape := ⟨2, ![32, 8]⟩
abbrev S4x2048x2x4x64 : Shape := ⟨5, ![4, 2048, 2, 4, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x32 : Shape := ⟨2, ![8, 32]⟩
abbrev S8 : Shape := ⟨1, ![8]⟩
abbrev S1x8x1 : Shape := ⟨3, ![1, 8, 1]⟩
abbrev S2048x1x2048 : Shape := ⟨3, ![2048, 1, 2048]⟩
abbrev S2048x8x2048 : Shape := ⟨3, ![2048, 8, 2048]⟩
abbrev S2048x8x2048x1 : Shape := ⟨4, ![2048, 8, 2048, 1]⟩
abbrev S2048x8x2048x2 : Shape := ⟨4, ![2048, 8, 2048, 2]⟩
abbrev S4x2x2048x2048x4 : Shape := ⟨5, ![4, 2, 2048, 2048, 4]⟩
abbrev S4x2048x2x4x2048 : Shape := ⟨5, ![4, 2048, 2, 4, 2048]⟩
abbrev S4x2048x8x2048 : Shape := ⟨4, ![4, 2048, 8, 2048]⟩
abbrev S1x2048x8x2048 : Shape := ⟨4, ![1, 2048, 8, 2048]⟩
abbrev S1x2048x1x2048 : Shape := ⟨4, ![1, 2048, 1, 2048]⟩
abbrev S4x2048x8 : Shape := ⟨3, ![4, 2048, 8]⟩
abbrev S4x2048x8x1 : Shape := ⟨4, ![4, 2048, 8, 1]⟩
abbrev S4x2x64x2048x4 : Shape := ⟨5, ![4, 2, 64, 2048, 4]⟩
abbrev S4x2048x8x64 : Shape := ⟨4, ![4, 2048, 8, 64]⟩
abbrev S4x8x64x2048 : Shape := ⟨4, ![4, 8, 64, 2048]⟩

abbrev nBuf : Space → Nat
  | .hbm => 112
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x2x64, .f32⟩
  | .hbm, ⟨2, _⟩ => ⟨S4x2048x2x64, .f32⟩
  | .hbm, ⟨3, _⟩ => ⟨S32x8, .f32⟩
  | .hbm, ⟨4, _⟩ => ⟨S4x2048x2x4x64, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i1⟩
  | .hbm, ⟨14, _⟩ => ⟨S_, .i32⟩
  | .hbm, ⟨15, _⟩ => ⟨S2048x2048, .i32⟩
  | .hbm, ⟨16, _⟩ => ⟨S2048x2048, .i1⟩
  | .hbm, ⟨17, _⟩ => ⟨S2048x2048, .i1⟩
  | .hbm, ⟨18, _⟩ => ⟨S8x32, .f32⟩
  | .hbm, ⟨19, _⟩ => ⟨S8, .i32⟩
  | .hbm, ⟨20, _⟩ => ⟨S1x8x1, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S_, .i32⟩
  | .hbm, ⟨43, _⟩ => ⟨S2048x2048, .i32⟩
  | .hbm, ⟨44, _⟩ => ⟨S2048x2048, .i1⟩
  | .hbm, ⟨45, _⟩ => ⟨S_, .i32⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S2048x1x2048, .i32⟩
  | .hbm, ⟨50, _⟩ => ⟨S_, .i32⟩
  | .hbm, ⟨51, _⟩ => ⟨S1x8x1, .i32⟩
  | .hbm, ⟨52, _⟩ => ⟨S1x8x1, .i1⟩
  | .hbm, ⟨53, _⟩ => ⟨S_, .i32⟩
  | .hbm, ⟨54, _⟩ => ⟨S1x8x1, .i32⟩
  | .hbm, ⟨55, _⟩ => ⟨S1x8x1, .i32⟩
  | .hbm, ⟨56, _⟩ => ⟨S1x8x1, .i32⟩
  | .hbm, ⟨57, _⟩ => ⟨S_, .i32⟩
  | .hbm, ⟨58, _⟩ => ⟨S2048x1x2048, .i32⟩
  | .hbm, ⟨59, _⟩ => ⟨S2048x1x2048, .i1⟩
  | .hbm, ⟨60, _⟩ => ⟨S_, .i32⟩
  | .hbm, ⟨61, _⟩ => ⟨S2048x1x2048, .i32⟩
  | .hbm, ⟨62, _⟩ => ⟨S2048x1x2048, .i32⟩
  | .hbm, ⟨63, _⟩ => ⟨S2048x1x2048, .i32⟩
  | .hbm, ⟨64, _⟩ => ⟨S2048x8x2048, .i32⟩
  | .hbm, ⟨65, _⟩ => ⟨S2048x8x2048, .i32⟩
  | .hbm, ⟨66, _⟩ => ⟨S2048x8x2048x1, .i32⟩
  | .hbm, ⟨67, _⟩ => ⟨S2048x8x2048x1, .i32⟩
  | .hbm, ⟨68, _⟩ => ⟨S2048x8x2048x2, .i32⟩
  | .hbm, ⟨69, _⟩ => ⟨S2048x8x2048, .f32⟩
  | .hbm, ⟨70, _⟩ => ⟨S4x2x2048x2048x4, .f32⟩
  | .hbm, ⟨71, _⟩ => ⟨S4x2048x2x4x2048, .f32⟩
  | .hbm, ⟨72, _⟩ => ⟨S4x2048x8x2048, .f32⟩
  | .hbm, ⟨73, _⟩ => ⟨S_, .f32⟩
  | .hbm, ⟨74, _⟩ => ⟨S4x2048x8x2048, .f32⟩
  | .hbm, ⟨75, _⟩ => ⟨S4x2048x8x2048, .f32⟩
  | .hbm, ⟨76, _⟩ => ⟨S1x2048x8x2048, .f32⟩
  | .hbm, ⟨77, _⟩ => ⟨S4x2048x8x2048, .f32⟩
  | .hbm, ⟨78, _⟩ => ⟨S4x2048x8x2048, .f32⟩
  | .hbm, ⟨79, _⟩ => ⟨S1x2048x1x2048, .i1⟩
  | .hbm, ⟨80, _⟩ => ⟨S_, .f32⟩
  | .hbm, ⟨81, _⟩ => ⟨S_, .f32⟩
  | .hbm, ⟨82, _⟩ => ⟨S4x2048x8x2048, .i1⟩
  | .hbm, ⟨83, _⟩ => ⟨S4x2048x8x2048, .f32⟩
  | .hbm, ⟨84, _⟩ => ⟨S4x2048x8x2048, .f32⟩
  | .hbm, ⟨85, _⟩ => ⟨S_, .f32⟩
  | .hbm, ⟨86, _⟩ => ⟨S4x2048x8, .f32⟩
  | .hbm, ⟨87, _⟩ => ⟨S4x2048x8x1, .f32⟩
  | .hbm, ⟨88, _⟩ => ⟨S4x2048x8x1, .f32⟩
  | .hbm, ⟨89, _⟩ => ⟨S_, .f32⟩
  | .hbm, ⟨90, _⟩ => ⟨S4x2048x8x1, .f32⟩
  | .hbm, ⟨91, _⟩ => ⟨S4x2048x8x1, .i1⟩
  | .hbm, ⟨92, _⟩ => ⟨S_, .f32⟩
  | .hbm, ⟨93, _⟩ => ⟨S_, .f32⟩
  | .hbm, ⟨94, _⟩ => ⟨S4x2048x8x1, .f32⟩
  | .hbm, ⟨95, _⟩ => ⟨S4x2048x8x1, .f32⟩
  | .hbm, ⟨96, _⟩ => ⟨S4x2048x8x2048, .f32⟩
  | .hbm, ⟨97, _⟩ => ⟨S4x2048x8x2048, .f32⟩
  | .hbm, ⟨98, _⟩ => ⟨S4x2048x8x2048, .f32⟩
  | .hbm, ⟨99, _⟩ => ⟨S_, .f32⟩
  | .hbm, ⟨100, _⟩ => ⟨S4x2048x8, .f32⟩
  | .hbm, ⟨101, _⟩ => ⟨S4x2048x8x1, .f32⟩
  | .hbm, ⟨102, _⟩ => ⟨S_, .f32⟩
  | .hbm, ⟨103, _⟩ => ⟨S4x2048x8x1, .f32⟩
  | .hbm, ⟨104, _⟩ => ⟨S4x2048x8x1, .f32⟩
  | .hbm, ⟨105, _⟩ => ⟨S4x2048x8x2048, .f32⟩
  | .hbm, ⟨106, _⟩ => ⟨S4x2048x8x2048, .f32⟩
  | .hbm, ⟨107, _⟩ => ⟨S4x2048x2x4x2048, .f32⟩
  | .hbm, ⟨108, _⟩ => ⟨S4x2x64x2048x4, .f32⟩
  | .hbm, ⟨109, _⟩ => ⟨S4x2048x2x4x64, .f32⟩
  | .hbm, ⟨110, _⟩ => ⟨S4x2048x8x64, .f32⟩
  | .hbm, ⟨111, _⟩ => ⟨S4x8x64x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_call2_v0 : Ref sig .tc := ⟨.hbm, 93, rfl⟩
abbrev main_call2_v1 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Kernel2.lean ====
abbrev S4x2048x2048 : Shape := ⟨3, ![4, 2048, 2048]⟩
abbrev S8x4x2048 : Shape := ⟨3, ![8, 4, 2048]⟩
abbrev S8x512x2x2x64 : Shape := ⟨5, ![8, 512, 2, 2, 64]⟩
abbrev S2048 : Shape := ⟨1, ![2048]⟩
abbrev S2048x5724 : Shape := ⟨2, ![2048, 5724]⟩
abbrev S512 : Shape := ⟨1, ![512]⟩
abbrev S8192x2048 : Shape := ⟨2, ![8192, 2048]⟩
abbrev S32x2048 : Shape := ⟨2, ![32, 2048]⟩
abbrev S8224x2048 : Shape := ⟨2, ![8224, 2048]⟩
abbrev S1x2048 : Shape := ⟨2, ![1, 2048]⟩
abbrev S8224x5724 : Shape := ⟨2, ![8224, 5724]⟩
abbrev S512x2048 : Shape := ⟨2, ![512, 2048]⟩
abbrev S2048x512 : Shape := ⟨2, ![2048, 512]⟩
abbrev S512x512 : Shape := ⟨2, ![512, 512]⟩
abbrev S512x1 : Shape := ⟨2, ![512, 1]⟩
abbrev S2048x256 : Shape := ⟨2, ![2048, 256]⟩
abbrev S512x256 : Shape := ⟨2, ![512, 256]⟩
abbrev S8192x5724 : Shape := ⟨2, ![8192, 5724]⟩
abbrev S4x2048x5724 : Shape := ⟨3, ![4, 2048, 5724]⟩
abbrev S32x5724 : Shape := ⟨2, ![32, 5724]⟩
abbrev S8x4x5724 : Shape := ⟨3, ![8, 4, 5724]⟩
abbrev S4x2048x512 : Shape := ⟨3, ![4, 2048, 512]⟩
abbrev S4x2048x768 : Shape := ⟨3, ![4, 2048, 768]⟩
abbrev S4x2048x24 : Shape := ⟨3, ![4, 2048, 24]⟩
abbrev S4x2048x256 : Shape := ⟨3, ![4, 2048, 256]⟩
abbrev S4x2048x64 : Shape := ⟨3, ![4, 2048, 64]⟩
abbrev S4x2048x4 : Shape := ⟨3, ![4, 2048, 4]⟩
abbrev S4x2048x1x512 : Shape := ⟨4, ![4, 2048, 1, 512]⟩
abbrev S4x2048x2x512 : Shape := ⟨4, ![4, 2048, 2, 512]⟩
abbrev S4x2048x2x8x64 : Shape := ⟨5, ![4, 2048, 2, 8, 64]⟩
abbrev S4x2048x6x2x64 : Shape := ⟨5, ![4, 2048, 6, 2, 64]⟩
abbrev S4x2048x4x2x64 : Shape := ⟨5, ![4, 2048, 4, 2, 64]⟩
abbrev S4x2048x2x2x64 : Shape := ⟨5, ![4, 2048, 2, 2, 64]⟩
abbrev S4x512x2x2x64 : Shape := ⟨5, ![4, 512, 2, 2, 64]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S8x4x512 : Shape := ⟨3, ![8, 4, 512]⟩
abbrev S8x4x768 : Shape := ⟨3, ![8, 4, 768]⟩
abbrev S8x4x24 : Shape := ⟨3, ![8, 4, 24]⟩
abbrev S8x4x256 : Shape := ⟨3, ![8, 4, 256]⟩
abbrev S8x4x64 : Shape := ⟨3, ![8, 4, 64]⟩
abbrev S8x4x4 : Shape := ⟨3, ![8, 4, 4]⟩
abbrev S8x4x1x512 : Shape := ⟨4, ![8, 4, 1, 512]⟩
abbrev S8x4x2x512 : Shape := ⟨4, ![8, 4, 2, 512]⟩
abbrev S8x4x2x8x64 : Shape := ⟨5, ![8, 4, 2, 8, 64]⟩
abbrev S8x4x6x2x64 : Shape := ⟨5, ![8, 4, 6, 2, 64]⟩
abbrev S8x4x4x2x64 : Shape := ⟨5, ![8, 4, 4, 2, 64]⟩
abbrev S8x4x2x2x64 : Shape := ⟨5, ![8, 4, 2, 2, 64]⟩
abbrev S8x516x2x2x64 : Shape := ⟨5, ![8, 516, 2, 2, 64]⟩
abbrev S8x4 : Shape := ⟨2, ![8, 4]⟩
abbrev S8x4x1 : Shape := ⟨3, ![8, 4, 1]⟩

abbrev nBuf : Space → Nat
  | .hbm => 101
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S8x512x2x2x64, .f32⟩
  | .hbm, ⟨3, _⟩ => ⟨S2048, .f32⟩
  | .hbm, ⟨4, _⟩ => ⟨S2048x5724, .f32⟩
  | .hbm, ⟨5, _⟩ => ⟨S512, .f32⟩
  | .hbm, ⟨6, _⟩ => ⟨S8192x2048, .f32⟩
  | .hbm, ⟨7, _⟩ => ⟨S32x2048, .f32⟩
  | .hbm, ⟨8, _⟩ => ⟨S8224x2048, .f32⟩
  | .hbm, ⟨9, _⟩ => ⟨S1x2048, .f32⟩
  | .hbm, ⟨10, _⟩ => ⟨S2048x5724, .bf16⟩
  | .hbm, ⟨11, _⟩ => ⟨S8224x5724, .f32⟩
  | .hbm, ⟨12, _⟩ => ⟨S8192x5724, .f32⟩
  | .hbm, ⟨13, _⟩ => ⟨S4x2048x5724, .f32⟩
  | .hbm, ⟨14, _⟩ => ⟨S32x5724, .f32⟩
  | .hbm, ⟨15, _⟩ => ⟨S8x4x5724, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S4x2048x768, .f32⟩
  | .hbm, ⟨21, _⟩ => ⟨S4x2048x24, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S4x2048x256, .f32⟩
  | .hbm, ⟨26, _⟩ => ⟨S4x2048x64, .f32⟩
  | .hbm, ⟨27, _⟩ => ⟨S4x2048x4, .f32⟩
  | .hbm, ⟨28, _⟩ => ⟨S4x2048x512, .f32⟩
  | .hbm, ⟨29, _⟩ => ⟨S4x2048x512, .f32⟩
  | .hbm, ⟨30, _⟩ => ⟨S4x2048x1x512, .f32⟩
  | .hbm, ⟨31, _⟩ => ⟨S4x2048x1x512, .f32⟩
  | .hbm, ⟨32, _⟩ => ⟨S4x2048x2x512, .f32⟩
  | .hbm, ⟨33, _⟩ => ⟨S4x2048x2x8x64, .f32⟩
  | .hbm, ⟨34, _⟩ => ⟨S4x2048x6x2x64, .f32⟩
  | .hbm, ⟨35, _⟩ => ⟨S4x2048x4x2x64, .f32⟩
  | .hbm, ⟨36, _⟩ => ⟨S4x2048x2x2x64, .f32⟩
  | .hbm, ⟨37, _⟩ => ⟨S4x2048x1x512, .f32⟩
  | .hbm, ⟨38, _⟩ => ⟨S4x2048x1x512, .f32⟩
  | .hbm, ⟨39, _⟩ => ⟨S4x2048x2x512, .f32⟩
  | .hbm, ⟨40, _⟩ => ⟨S4x2048x2x8x64, .f32⟩
  | .hbm, ⟨41, _⟩ => ⟨S4x512x2x2x64, .f32⟩
  | .hbm, ⟨42, _⟩ => ⟨S4x2048x512, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x512, .f32⟩
  | .hbm, ⟨54, _⟩ => ⟨S4x2048x512, .f32⟩
  | .hbm, ⟨55, _⟩ => ⟨S1x1x512, .f32⟩
  | .hbm, ⟨56, _⟩ => ⟨S4x2048x512, .f32⟩
  | .hbm, ⟨57, _⟩ => ⟨S4x2048x512, .f32⟩
  | .hbm, ⟨58, _⟩ => ⟨S8x4x512, .f32⟩
  | .hbm, ⟨59, _⟩ => ⟨S8x4x512, .f32⟩
  | .hbm, ⟨60, _⟩ => ⟨S8x4x512, .f32⟩
  | .hbm, ⟨61, _⟩ => ⟨S8x4x512, .f32⟩
  | .hbm, ⟨62, _⟩ => ⟨S8x4x768, .f32⟩
  | .hbm, ⟨63, _⟩ => ⟨S8x4x24, .f32⟩
  | .hbm, ⟨64, _⟩ => ⟨S8x4x512, .f32⟩
  | .hbm, ⟨65, _⟩ => ⟨S8x4x512, .f32⟩
  | .hbm, ⟨66, _⟩ => ⟨S8x4x512, .f32⟩
  | .hbm, ⟨67, _⟩ => ⟨S8x4x256, .f32⟩
  | .hbm, ⟨68, _⟩ => ⟨S8x4x64, .f32⟩
  | .hbm, ⟨69, _⟩ => ⟨S8x4x4, .f32⟩
  | .hbm, ⟨70, _⟩ => ⟨S8x4x512, .f32⟩
  | .hbm, ⟨71, _⟩ => ⟨S8x4x512, .f32⟩
  | .hbm, ⟨72, _⟩ => ⟨S8x4x1x512, .f32⟩
  | .hbm, ⟨73, _⟩ => ⟨S8x4x1x512, .f32⟩
  | .hbm, ⟨74, _⟩ => ⟨S8x4x2x512, .f32⟩
  | .hbm, ⟨75, _⟩ => ⟨S8x4x2x8x64, .f32⟩
  | .hbm, ⟨76, _⟩ => ⟨S8x4x6x2x64, .f32⟩
  | .hbm, ⟨77, _⟩ => ⟨S8x4x4x2x64, .f32⟩
  | .hbm, ⟨78, _⟩ => ⟨S8x4x2x2x64, .f32⟩
  | .hbm, ⟨79, _⟩ => ⟨S8x4x1x512, .f32⟩
  | .hbm, ⟨80, _⟩ => ⟨S8x4x1x512, .f32⟩
  | .hbm, ⟨81, _⟩ => ⟨S8x4x2x512, .f32⟩
  | .hbm, ⟨82, _⟩ => ⟨S8x4x2x8x64, .f32⟩
  | .hbm, ⟨83, _⟩ => ⟨S8x516x2x2x64, .f32⟩
  | .hbm, ⟨84, _⟩ => ⟨S8x512x2x2x64, .f32⟩
  | .hbm, ⟨85, _⟩ => ⟨S8x4x512, .f32⟩
  | .hbm, ⟨86, _⟩ => ⟨S_, .f32⟩
  | .hbm, ⟨87, _⟩ => ⟨S8x4, .f32⟩
  | .hbm, ⟨88, _⟩ => ⟨S8x4x1, .f32⟩
  | .hbm, ⟨89, _⟩ => ⟨S_, .f32⟩
  | .hbm, ⟨90, _⟩ => ⟨S8x4x1, .f32⟩
  | .hbm, ⟨91, _⟩ => ⟨S8x4x1, .f32⟩
  | .hbm, ⟨92, _⟩ => ⟨S_, .f32⟩
  | .hbm, ⟨93, _⟩ => ⟨S8x4x1, .f32⟩
  | .hbm, ⟨94, _⟩ => ⟨S8x4x1, .f32⟩
  | .hbm, ⟨95, _⟩ => ⟨S8x4x1, .f32⟩
  | .hbm, ⟨96, _⟩ => ⟨S8x4x512, .f32⟩
  | .hbm, ⟨97, _⟩ => ⟨S8x4x512, .f32⟩
  | .hbm, ⟨98, _⟩ => ⟨S1x1x512, .f32⟩
  | .hbm, ⟨99, _⟩ => ⟨S8x4x512, .f32⟩
  | .hbm, ⟨100, _⟩ => ⟨S8x4x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_2 : Ref sig .tc := ⟨.hbm, 86, rfl⟩
abbrev main_v77 : Ref sig .tc := ⟨.hbm, 87, rfl⟩
abbrev main_v78 : Ref sig .tc := ⟨.hbm, 88, rfl⟩
abbrev main_cst_3 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x2048 : Shape := ⟨3, ![4, 2048, 2048]⟩
abbrev S8x4x2048 : Shape := ⟨3, ![8, 4, 2048]⟩
abbrev S8x512x2x2x64 : Shape := ⟨5, ![8, 512, 2, 2, 64]⟩
abbrev S2048 : Shape := ⟨1, ![2048]⟩
abbrev S2048x5724 : Shape := ⟨2, ![2048, 5724]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x5724 : Shape := ⟨3, ![4, 2048, 5724]⟩
abbrev S8x4 : Shape := ⟨2, ![8, 4]⟩
abbrev S8x4x1 : Shape := ⟨3, ![8, 4, 1]⟩
abbrev S8x4x5724 : Shape := ⟨3, ![8, 4, 5724]⟩
abbrev S4x2048x512 : Shape := ⟨3, ![4, 2048, 512]⟩
abbrev S4x2048x768 : Shape := ⟨3, ![4, 2048, 768]⟩
abbrev S4x2048x24 : Shape := ⟨3, ![4, 2048, 24]⟩
abbrev S4x2048x256 : Shape := ⟨3, ![4, 2048, 256]⟩
abbrev S4x2048x64 : Shape := ⟨3, ![4, 2048, 64]⟩
abbrev S4x2048x4 : Shape := ⟨3, ![4, 2048, 4]⟩
abbrev S4x2048x1x512 : Shape := ⟨4, ![4, 2048, 1, 512]⟩
abbrev S4x2048x2x512 : Shape := ⟨4, ![4, 2048, 2, 512]⟩
abbrev S4x2048x2x8x64 : Shape := ⟨5, ![4, 2048, 2, 8, 64]⟩
abbrev S4x2048x6x2x64 : Shape := ⟨5, ![4, 2048, 6, 2, 64]⟩
abbrev S4x2048x4x2x64 : Shape := ⟨5, ![4, 2048, 4, 2, 64]⟩
abbrev S4x2048x2x2x64 : Shape := ⟨5, ![4, 2048, 2, 2, 64]⟩
abbrev S4x512x2x2x64 : Shape := ⟨5, ![4, 512, 2, 2, 64]⟩
abbrev S1x1x512 : Shape := ⟨3, ![1, 1, 512]⟩
abbrev S8x4x512 : Shape := ⟨3, ![8, 4, 512]⟩
abbrev S8x4x768 : Shape := ⟨3, ![8, 4, 768]⟩
abbrev S8x4x24 : Shape := ⟨3, ![8, 4, 24]⟩
abbrev S8x4x256 : Shape := ⟨3, ![8, 4, 256]⟩
abbrev S8x4x64 : Shape := ⟨3, ![8, 4, 64]⟩
abbrev S8x4x4 : Shape := ⟨3, ![8, 4, 4]⟩
abbrev S8x4x1x512 : Shape := ⟨4, ![8, 4, 1, 512]⟩
abbrev S8x4x2x512 : Shape := ⟨4, ![8, 4, 2, 512]⟩
abbrev S8x4x2x8x64 : Shape := ⟨5, ![8, 4, 2, 8, 64]⟩
abbrev S8x4x6x2x64 : Shape := ⟨5, ![8, 4, 6, 2, 64]⟩
abbrev S8x4x4x2x64 : Shape := ⟨5, ![8, 4, 4, 2, 64]⟩
abbrev S8x4x2x2x64 : Shape := ⟨5, ![8, 4, 2, 2, 64]⟩
abbrev S8x516x2x2x64 : Shape := ⟨5, ![8, 516, 2, 2, 64]⟩

abbrev nBuf : Space → Nat
  | .hbm => 125
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S8x512x2x2x64, .f32⟩
  | .hbm, ⟨3, _⟩ => ⟨S2048, .f32⟩
  | .hbm, ⟨4, _⟩ => ⟨S2048x5724, .f32⟩
  | .hbm, ⟨5, _⟩ => ⟨S512, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x5724, .f32⟩
  | .hbm, ⟨23, _⟩ => ⟨S8x4x2048, .f32⟩
  | .hbm, ⟨24, _⟩ => ⟨S_, .f32⟩
  | .hbm, ⟨25, _⟩ => ⟨S8x4, .f32⟩
  | .hbm, ⟨26, _⟩ => ⟨S8x4x1, .f32⟩
  | .hbm, ⟨27, _⟩ => ⟨S_, .f32⟩
  | .hbm, ⟨28, _⟩ => ⟨S8x4x1, .f32⟩
  | .hbm, ⟨29, _⟩ => ⟨S8x4x1, .f32⟩
  | .hbm, ⟨30, _⟩ => ⟨S_, .f32⟩
  | .hbm, ⟨31, _⟩ => ⟨S8x4x1, .f32⟩
  | .hbm, ⟨32, _⟩ => ⟨S8x4x1, .f32⟩
  | .hbm, ⟨33, _⟩ => ⟨S8x4x1, .f32⟩
  | .hbm, ⟨34, _⟩ => ⟨S8x4x2048, .f32⟩
  | .hbm, ⟨35, _⟩ => ⟨S8x4x2048, .f32⟩
  | .hbm, ⟨36, _⟩ => ⟨S1x1x2048, .f32⟩
  | .hbm, ⟨37, _⟩ => ⟨S8x4x2048, .f32⟩
  | .hbm, ⟨38, _⟩ => ⟨S8x4x2048, .f32⟩
  | .hbm, ⟨39, _⟩ => ⟨S8x4x5724, .f32⟩
  | .hbm, ⟨40, _⟩ => ⟨S4x2048x512, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S4x2048x768, .f32⟩
  | .hbm, ⟨45, _⟩ => ⟨S4x2048x24, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x2048x256, .f32⟩
  | .hbm, ⟨50, _⟩ => ⟨S4x2048x64, .f32⟩
  | .hbm, ⟨51, _⟩ => ⟨S4x2048x4, .f32⟩
  | .hbm, ⟨52, _⟩ => ⟨S4x2048x512, .f32⟩
  | .hbm, ⟨53, _⟩ => ⟨S4x2048x512, .f32⟩
  | .hbm, ⟨54, _⟩ => ⟨S4x2048x1x512, .f32⟩
  | .hbm, ⟨55, _⟩ => ⟨S4x2048x1x512, .f32⟩
  | .hbm, ⟨56, _⟩ => ⟨S4x2048x2x512, .f32⟩
  | .hbm, ⟨57, _⟩ => ⟨S4x2048x2x8x64, .f32⟩
  | .hbm, ⟨58, _⟩ => ⟨S4x2048x6x2x64, .f32⟩
  | .hbm, ⟨59, _⟩ => ⟨S4x2048x4x2x64, .f32⟩
  | .hbm, ⟨60, _⟩ => ⟨S4x2048x2x2x64, .f32⟩
  | .hbm, ⟨61, _⟩ => ⟨S4x2048x1x512, .f32⟩
  | .hbm, ⟨62, _⟩ => ⟨S4x2048x1x512, .f32⟩
  | .hbm, ⟨63, _⟩ => ⟨S4x2048x2x512, .f32⟩
  | .hbm, ⟨64, _⟩ => ⟨S4x2048x2x8x64, .f32⟩
  | .hbm, ⟨65, _⟩ => ⟨S4x512x2x2x64, .f32⟩
  | .hbm, ⟨66, _⟩ => ⟨S4x2048x512, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x512, .f32⟩
  | .hbm, ⟨78, _⟩ => ⟨S4x2048x512, .f32⟩
  | .hbm, ⟨79, _⟩ => ⟨S1x1x512, .f32⟩
  | .hbm, ⟨80, _⟩ => ⟨S4x2048x512, .f32⟩
  | .hbm, ⟨81, _⟩ => ⟨S4x2048x512, .f32⟩
  | .hbm, ⟨82, _⟩ => ⟨S8x4x512, .f32⟩
  | .hbm, ⟨83, _⟩ => ⟨S8x4x512, .f32⟩
  | .hbm, ⟨84, _⟩ => ⟨S8x4x512, .f32⟩
  | .hbm, ⟨85, _⟩ => ⟨S8x4x512, .f32⟩
  | .hbm, ⟨86, _⟩ => ⟨S8x4x768, .f32⟩
  | .hbm, ⟨87, _⟩ => ⟨S8x4x24, .f32⟩
  | .hbm, ⟨88, _⟩ => ⟨S8x4x512, .f32⟩
  | .hbm, ⟨89, _⟩ => ⟨S8x4x512, .f32⟩
  | .hbm, ⟨90, _⟩ => ⟨S8x4x512, .f32⟩
  | .hbm, ⟨91, _⟩ => ⟨S8x4x256, .f32⟩
  | .hbm, ⟨92, _⟩ => ⟨S8x4x64, .f32⟩
  | .hbm, ⟨93, _⟩ => ⟨S8x4x4, .f32⟩
  | .hbm, ⟨94, _⟩ => ⟨S8x4x512, .f32⟩
  | .hbm, ⟨95, _⟩ => ⟨S8x4x512, .f32⟩
  | .hbm, ⟨96, _⟩ => ⟨S8x4x1x512, .f32⟩
  | .hbm, ⟨97, _⟩ => ⟨S8x4x1x512, .f32⟩
  | .hbm, ⟨98, _⟩ => ⟨S8x4x2x512, .f32⟩
  | .hbm, ⟨99, _⟩ => ⟨S8x4x2x8x64, .f32⟩
  | .hbm, ⟨100, _⟩ => ⟨S8x4x6x2x64, .f32⟩
  | .hbm, ⟨101, _⟩ => ⟨S8x4x4x2x64, .f32⟩
  | .hbm, ⟨102, _⟩ => ⟨S8x4x2x2x64, .f32⟩
  | .hbm, ⟨103, _⟩ => ⟨S8x4x1x512, .f32⟩
  | .hbm, ⟨104, _⟩ => ⟨S8x4x1x512, .f32⟩
  | .hbm, ⟨105, _⟩ => ⟨S8x4x2x512, .f32⟩
  | .hbm, ⟨106, _⟩ => ⟨S8x4x2x8x64, .f32⟩
  | .hbm, ⟨107, _⟩ => ⟨S8x516x2x2x64, .f32⟩
  | .hbm, ⟨108, _⟩ => ⟨S8x512x2x2x64, .f32⟩
  | .hbm, ⟨109, _⟩ => ⟨S8x4x512, .f32⟩
  | .hbm, ⟨110, _⟩ => ⟨S_, .f32⟩
  | .hbm, ⟨111, _⟩ => ⟨S8x4, .f32⟩
  | .hbm, ⟨112, _⟩ => ⟨S8x4x1, .f32⟩
  | .hbm, ⟨113, _⟩ => ⟨S_, .f32⟩
  | .hbm, ⟨114, _⟩ => ⟨S8x4x1, .f32⟩
  | .hbm, ⟨115, _⟩ => ⟨S8x4x1, .f32⟩
  | .hbm, ⟨116, _⟩ => ⟨S_, .f32⟩
  | .hbm, ⟨117, _⟩ => ⟨S8x4x1, .f32⟩
  | .hbm, ⟨118, _⟩ => ⟨S8x4x1, .f32⟩
  | .hbm, ⟨119, _⟩ => ⟨S8x4x1, .f32⟩
  | .hbm, ⟨120, _⟩ => ⟨S8x4x512, .f32⟩
  | .hbm, ⟨121, _⟩ => ⟨S8x4x512, .f32⟩
  | .hbm, ⟨122, _⟩ => ⟨S1x1x512, .f32⟩
  | .hbm, ⟨123, _⟩ => ⟨S8x4x512, .f32⟩
  | .hbm, ⟨124, _⟩ => ⟨S8x4x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_8 : Ref sig .tc := ⟨.hbm, 110, rfl⟩
abbrev main_v95 : Ref sig .tc := ⟨.hbm, 111, rfl⟩
abbrev main_v96 : Ref sig .tc := ⟨.hbm, 112, rfl⟩
abbrev main_cst_9 : Ref sig .tc := ⟨.hbm, 113, rfl⟩
abbrev main_v97 : Ref sig .tc := ⟨.hbm, 114, rfl⟩
abbrev main_v98 : Ref sig .tc := ⟨.hbm, 115, rfl⟩
abbrev main_cst_10 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩

abbrev nD : Nat := 1
abbrev τ : Topo := Topo.v7x

variable {F : FTy → Type} [FloatOps F]
-- ==== Kernel3.lean ====
abbrev S8224x2048 : Shape := ⟨2, ![8224, 2048]⟩
abbrev S8224x512 : Shape := ⟨2, ![8224, 512]⟩
abbrev S2048 : Shape := ⟨1, ![2048]⟩
abbrev S2048x8192 : Shape := ⟨2, ![2048, 8192]⟩
abbrev S4x2048 : Shape := ⟨2, ![4, 2048]⟩
abbrev S4x512x2048 : Shape := ⟨3, ![4, 512, 2048]⟩
abbrev S2048x2048 : Shape := ⟨2, ![2048, 2048]⟩
abbrev S1x2048 : Shape := ⟨2, ![1, 2048]⟩
abbrev S8224x8192 : Shape := ⟨2, ![8224, 8192]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S_ : Shape := ⟨0, ![]⟩
abbrev S1x512x2048 : Shape := ⟨3, ![1, 512, 2048]⟩

abbrev nBuf : Space → Nat
  | .hbm => 93
  | .vmem => 8
  | .smem => 0
  | _ => 0

abbrev bufTy : (tb : Table) → Fin (tcTables nBuf tb) → BufTy
  | .hbm, ⟨0, _⟩ => ⟨S8224x2048, .f32⟩
  | .hbm, ⟨1, _⟩ => ⟨S8224x512, .f32⟩
  | .hbm, ⟨2, _⟩ => ⟨S8224x512, .f32⟩
  | .hbm, ⟨3, _⟩ => ⟨S8224x512, .f32⟩
  | .hbm, ⟨4, _⟩ => ⟨S8224x512, .f32⟩
  | .hbm, ⟨5, _⟩ => ⟨S2048, .f32⟩
  | .hbm, ⟨6, _⟩ => ⟨S2048x8192, .f32⟩
  | .hbm, ⟨7, _⟩ => ⟨S4x2048, .f32⟩
  | .hbm, ⟨8, _⟩ => ⟨S4x512x2048, .f32⟩
  | .hbm, ⟨9, _⟩ => ⟨S2048x2048, .f32⟩
  | .hbm, ⟨10, _⟩ => ⟨S1x2048, .f32⟩
  | .hbm, ⟨11, _⟩ => ⟨S2048x8192, .bf16⟩
  | .hbm, ⟨12, _⟩ => ⟨S8224x8192, .f32⟩
  | .hbm, ⟨13, _⟩ => ⟨S8224x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S8224x2048, .f32⟩
  | .hbm, ⟨18, _⟩ => ⟨S8224x2048, .f32⟩
  | .hbm, ⟨19, _⟩ => ⟨S8224x2048, .f32⟩
  | .hbm, ⟨20, _⟩ => ⟨S8224x2048, .f32⟩
  | .hbm, ⟨21, _⟩ => ⟨S_, .f32⟩
  | .hbm, ⟨22, _⟩ => ⟨S8224x2048, .f32⟩
  | .hbm, ⟨23, _⟩ => ⟨S8224x2048, .f32⟩
  | .hbm, ⟨24, _⟩ => ⟨S_, .f32⟩
  | .hbm, ⟨25, _⟩ => ⟨S8224x2048, .f32⟩
  | .hbm, ⟨26, _⟩ => ⟨S8224x2048, .f32⟩
  | .hbm, ⟨27, _⟩ => ⟨S1x512x2048, .f32⟩
  | .hbm, ⟨28, _⟩ => ⟨S512x2048, .f32⟩
  | .hbm, ⟨29, _⟩ => ⟨S8224x2048, .f32⟩
  | .hbm, ⟨30, _⟩ => ⟨S8224x2048, .f32⟩
  | .hbm, ⟨31, _⟩ => ⟨S_, .f32⟩
  | .hbm, ⟨32, _⟩ => ⟨S8224x2048, .f32⟩
  | .hbm, ⟨33, _⟩ => ⟨S8224x2048, .f32⟩
  | .hbm, ⟨34, _⟩ => ⟨S8224x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S8224x2048, .f32⟩
  | .hbm, ⟨39, _⟩ => ⟨S8224x2048, .f32⟩
  | .hbm, ⟨40, _⟩ => ⟨S8224x2048, .f32⟩
  | .hbm, ⟨41, _⟩ => ⟨S8224x2048, .f32⟩
  | .hbm, ⟨42, _⟩ => ⟨S_, .f32⟩
  | .hbm, ⟨43, _⟩ => ⟨S8224x2048, .f32⟩
  | .hbm, ⟨44, _⟩ => ⟨S8224x2048, .f32⟩
  | .hbm, ⟨45, _⟩ => ⟨S_, .f32⟩
  | .hbm, ⟨46, _⟩ => ⟨S8224x2048, .f32⟩
  | .hbm, ⟨47, _⟩ => ⟨S8224x2048, .f32⟩
  | .hbm, ⟨48, _⟩ => ⟨S1x512x2048, .f32⟩
  | .hbm, ⟨49, _⟩ => ⟨S512x2048, .f32⟩
  | .hbm, ⟨50, _⟩ => ⟨S8224x2048, .f32⟩
  | .hbm, ⟨51, _⟩ => ⟨S8224x2048, .f32⟩
  | .hbm, ⟨52, _⟩ => ⟨S8224x2048, .f32⟩
  | .hbm, ⟨53, _⟩ => ⟨S8224x2048, .f32⟩
  | .hbm, ⟨54, _⟩ => ⟨S1x2048, .f32⟩
  | .hbm, ⟨55, _⟩ => ⟨S2048, .f32⟩
  | .hbm, ⟨56, _⟩ => ⟨S1x2048, .f32⟩
  | .hbm, ⟨57, _⟩ => ⟨S8224x2048, .f32⟩
  | .hbm, ⟨58, _⟩ => ⟨S8224x2048, .f32⟩
  | .hbm, ⟨59, _⟩ => ⟨S8224x2048, .f32⟩
  | .hbm, ⟨60, _⟩ => ⟨S8224x2048, .f32⟩
  | .hbm, ⟨61, _⟩ => ⟨S_, .f32⟩
  | .hbm, ⟨62, _⟩ => ⟨S8224x2048, .f32⟩
  | .hbm, ⟨63, _⟩ => ⟨S8224x2048, .f32⟩
  | .hbm, ⟨64, _⟩ => ⟨S_, .f32⟩
  | .hbm, ⟨65, _⟩ => ⟨S8224x2048, .f32⟩
  | .hbm, ⟨66, _⟩ => ⟨S8224x2048, .f32⟩
  | .hbm, ⟨67, _⟩ => ⟨S1x512x2048, .f32⟩
  | .hbm, ⟨68, _⟩ => ⟨S512x2048, .f32⟩
  | .hbm, ⟨69, _⟩ => ⟨S8224x2048, .f32⟩
  | .hbm, ⟨70, _⟩ => ⟨S8224x2048, .f32⟩
  | .hbm, ⟨71, _⟩ => ⟨S8224x2048, .f32⟩
  | .hbm, ⟨72, _⟩ => ⟨S8224x2048, .f32⟩
  | .hbm, ⟨73, _⟩ => ⟨S1x2048, .f32⟩
  | .hbm, ⟨74, _⟩ => ⟨S2048, .f32⟩
  | .hbm, ⟨75, _⟩ => ⟨S1x2048, .f32⟩
  | .hbm, ⟨76, _⟩ => ⟨S8224x2048, .f32⟩
  | .hbm, ⟨77, _⟩ => ⟨S8224x2048, .f32⟩
  | .hbm, ⟨78, _⟩ => ⟨S8224x2048, .f32⟩
  | .hbm, ⟨79, _⟩ => ⟨S8224x2048, .f32⟩
  | .hbm, ⟨80, _⟩ => ⟨S_, .f32⟩
  | .hbm, ⟨81, _⟩ => ⟨S8224x2048, .f32⟩
  | .hbm, ⟨82, _⟩ => ⟨S8224x2048, .f32⟩
  | .hbm, ⟨83, _⟩ => ⟨S_, .f32⟩
  | .hbm, ⟨84, _⟩ => ⟨S8224x2048, .f32⟩
  | .hbm, ⟨85, _⟩ => ⟨S8224x2048, .f32⟩
  | .hbm, ⟨86, _⟩ => ⟨S1x512x2048, .f32⟩
  | .hbm, ⟨87, _⟩ => ⟨S512x2048, .f32⟩
  | .hbm, ⟨88, _⟩ => ⟨S8224x2048, .f32⟩
  | .hbm, ⟨89, _⟩ => ⟨S8224x2048, .f32⟩
  | .hbm, ⟨90, _⟩ => ⟨S8224x2048, .f32⟩
  | .hbm, ⟨91, _⟩ => ⟨S8224x2048, .f32⟩
  | .hbm, ⟨92, _⟩ => ⟨S8224x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S8224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8224x2048 : Shape := ⟨2, ![8224, 2048]⟩
abbrev S8224x512 : Shape := ⟨2, ![8224, 512]⟩
abbrev S2048 : Shape := ⟨1, ![2048]⟩
abbrev S2048x8192 : Shape := ⟨2, ![2048, 8192]⟩
abbrev S4x2048 : Shape := ⟨2, ![4, 2048]⟩
abbrev S4x512x2048 : Shape := ⟨3, ![4, 512, 2048]⟩
abbrev S2048x2048 : Shape := ⟨2, ![2048, 2048]⟩
abbrev S_ : Shape := ⟨0, ![]⟩
abbrev S8224 : Shape := ⟨1, ![8224]⟩
abbrev S8224x1 : Shape := ⟨2, ![8224, 1]⟩
abbrev S1x2048 : Shape := ⟨2, ![1, 2048]⟩
abbrev S8224x1x512 : Shape := ⟨3, ![8224, 1, 512]⟩
abbrev S8224x4x512 : Shape := ⟨3, ![8224, 4, 512]⟩
abbrev S4x2048x8224 : Shape := ⟨3, ![4, 2048, 8224]⟩
abbrev S8224x4x2048 : Shape := ⟨3, ![8224, 4, 2048]⟩
abbrev S8224x8192 : Shape := ⟨2, ![8224, 8192]⟩
abbrev S1x4x2048 : Shape := ⟨3, ![1, 4, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8224x2048, .f32⟩
  | .hbm, ⟨1, _⟩ => ⟨S8224x512, .f32⟩
  | .hbm, ⟨2, _⟩ => ⟨S8224x512, .f32⟩
  | .hbm, ⟨3, _⟩ => ⟨S8224x512, .f32⟩
  | .hbm, ⟨4, _⟩ => ⟨S8224x512, .f32⟩
  | .hbm, ⟨5, _⟩ => ⟨S2048, .f32⟩
  | .hbm, ⟨6, _⟩ => ⟨S2048x8192, .f32⟩
  | .hbm, ⟨7, _⟩ => ⟨S4x2048, .f32⟩
  | .hbm, ⟨8, _⟩ => ⟨S4x512x2048, .f32⟩
  | .hbm, ⟨9, _⟩ => ⟨S2048x2048, .f32⟩
  | .hbm, ⟨10, _⟩ => ⟨S8224x2048, .f32⟩
  | .hbm, ⟨11, _⟩ => ⟨S_, .f32⟩
  | .hbm, ⟨12, _⟩ => ⟨S8224, .f32⟩
  | .hbm, ⟨13, _⟩ => ⟨S8224x1, .f32⟩
  | .hbm, ⟨14, _⟩ => ⟨S_, .f32⟩
  | .hbm, ⟨15, _⟩ => ⟨S8224x1, .f32⟩
  | .hbm, ⟨16, _⟩ => ⟨S8224x1, .f32⟩
  | .hbm, ⟨17, _⟩ => ⟨S_, .f32⟩
  | .hbm, ⟨18, _⟩ => ⟨S8224x1, .f32⟩
  | .hbm, ⟨19, _⟩ => ⟨S8224x1, .f32⟩
  | .hbm, ⟨20, _⟩ => ⟨S8224x1, .f32⟩
  | .hbm, ⟨21, _⟩ => ⟨S8224x2048, .f32⟩
  | .hbm, ⟨22, _⟩ => ⟨S8224x2048, .f32⟩
  | .hbm, ⟨23, _⟩ => ⟨S1x2048, .f32⟩
  | .hbm, ⟨24, _⟩ => ⟨S8224x2048, .f32⟩
  | .hbm, ⟨25, _⟩ => ⟨S8224x2048, .f32⟩
  | .hbm, ⟨26, _⟩ => ⟨S8224x1x512, .f32⟩
  | .hbm, ⟨27, _⟩ => ⟨S8224x1x512, .f32⟩
  | .hbm, ⟨28, _⟩ => ⟨S8224x1x512, .f32⟩
  | .hbm, ⟨29, _⟩ => ⟨S8224x1x512, .f32⟩
  | .hbm, ⟨30, _⟩ => ⟨S8224x4x512, .f32⟩
  | .hbm, ⟨31, _⟩ => ⟨S4x2048x8224, .f32⟩
  | .hbm, ⟨32, _⟩ => ⟨S8224x4x2048, .f32⟩
  | .hbm, ⟨33, _⟩ => ⟨S8224x8192, .f32⟩
  | .hbm, ⟨34, _⟩ => ⟨S8224x4x2048, .f32⟩
  | .hbm, ⟨35, _⟩ => ⟨S1x4x2048, .f32⟩
  | .hbm, ⟨36, _⟩ => ⟨S8224x4x2048, .f32⟩
  | .hbm, ⟨37, _⟩ => ⟨S8224x4x2048, .f32⟩
  | .hbm, ⟨38, _⟩ => ⟨S8224x4x2048, .f32⟩
  | .hbm, ⟨39, _⟩ => ⟨S8224x4x2048, .f32⟩
  | .hbm, ⟨40, _⟩ => ⟨S_, .f32⟩
  | .hbm, ⟨41, _⟩ => ⟨S8224x4x2048, .f32⟩
  | .hbm, ⟨42, _⟩ => ⟨S8224x4x2048, .f32⟩
  | .hbm, ⟨43, _⟩ => ⟨S_, .f32⟩
  | .hbm, ⟨44, _⟩ => ⟨S8224x4x2048, .f32⟩
  | .hbm, ⟨45, _⟩ => ⟨S8224x4x2048, .f32⟩
  | .hbm, ⟨46, _⟩ => ⟨S8224x4x2048, .f32⟩
  | .hbm, ⟨47, _⟩ => ⟨S_, .f32⟩
  | .hbm, ⟨48, _⟩ => ⟨S8224x2048, .f32⟩
  | .hbm, ⟨49, _⟩ => ⟨S8224x2048, .f32⟩
  | .hbm, ⟨50, _⟩ => ⟨S8224x2048, .f32⟩
  | _, _ => ⟨S8224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel4.lean ====
abbrev S8224x2048 : Shape := ⟨2, ![8224, 2048]⟩
abbrev S2048 : Shape := ⟨1, ![2048]⟩
abbrev S2048x512 : Shape := ⟨2, ![2048, 512]⟩
abbrev S4x256x2048 : Shape := ⟨3, ![4, 256, 2048]⟩
abbrev S2048x1024 : Shape := ⟨2, ![2048, 1024]⟩
abbrev S8x256x2x4x128 : Shape := ⟨5, ![8, 256, 2, 4, 128]⟩
abbrev S512x2048 : Shape := ⟨2, ![512, 2048]⟩
abbrev S4x256x1024 : Shape := ⟨3, ![4, 256, 1024]⟩
abbrev S4x256x2x4x128 : Shape := ⟨5, ![4, 256, 2, 4, 128]⟩
abbrev S1x2048 : Shape := ⟨2, ![1, 2048]⟩
abbrev S8224x512 : Shape := ⟨2, ![8224, 512]⟩
abbrev S512x512 : Shape := ⟨2, ![512, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S8192x512 : Shape := ⟨2, ![8192, 512]⟩
abbrev S4x2048x512 : Shape := ⟨3, ![4, 2048, 512]⟩
abbrev S32x512 : Shape := ⟨2, ![32, 512]⟩
abbrev S8x4x512 : Shape := ⟨3, ![8, 4, 512]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x256x2048 : Shape := ⟨4, ![4, 4, 256, 2048]⟩
abbrev S4x2048x4x256 : Shape := ⟨4, ![4, 2048, 4, 256]⟩
abbrev S_ : Shape := ⟨0, ![]⟩
abbrev S4x2048x4 : Shape := ⟨3, ![4, 2048, 4]⟩
abbrev S4x2048x4x1 : Shape := ⟨4, ![4, 2048, 4, 1]⟩
abbrev S4x4x128x2048 : Shape := ⟨4, ![4, 4, 128, 2048]⟩
abbrev S4x2048x2048 : Shape := ⟨3, ![4, 2048, 2048]⟩
abbrev S8x4x4x128 : Shape := ⟨4, ![8, 4, 4, 128]⟩
abbrev S8x256x1x4x128 : Shape := ⟨5, ![8, 256, 1, 4, 128]⟩
abbrev S8x256x4x128 : Shape := ⟨4, ![8, 256, 4, 128]⟩
abbrev S8x4x256x4 : Shape := ⟨4, ![8, 4, 256, 4]⟩
abbrev S8x4x4x256 : Shape := ⟨4, ![8, 4, 4, 256]⟩
abbrev S8x4x4 : Shape := ⟨3, ![8, 4, 4]⟩
abbrev S8x4x4x1 : Shape := ⟨4, ![8, 4, 4, 1]⟩
abbrev S8x4x128x4 : Shape := ⟨4, ![8, 4, 128, 4]⟩
abbrev S8x4x2048 : Shape := ⟨3, ![8, 4, 2048]⟩
abbrev S8192x2048 : Shape := ⟨2, ![8192, 2048]⟩
abbrev S32x2048 : Shape := ⟨2, ![32, 2048]⟩

abbrev nBuf : Space → Nat
  | .hbm => 76
  | .vmem => 7
  | .smem => 0
  | _ => 0

abbrev bufTy : (tb : Table) → Fin (tcTables nBuf tb) → BufTy
  | .hbm, ⟨0, _⟩ => ⟨S8224x2048, .f32⟩
  | .hbm, ⟨1, _⟩ => ⟨S2048, .f32⟩
  | .hbm, ⟨2, _⟩ => ⟨S2048x512, .f32⟩
  | .hbm, ⟨3, _⟩ => ⟨S4x256x2048, .f32⟩
  | .hbm, ⟨4, _⟩ => ⟨S2048x1024, .f32⟩
  | .hbm, ⟨5, _⟩ => ⟨S8x256x2x4x128, .f32⟩
  | .hbm, ⟨6, _⟩ => ⟨S512x2048, .f32⟩
  | .hbm, ⟨7, _⟩ => ⟨S4x256x1024, .f32⟩
  | .hbm, ⟨8, _⟩ => ⟨S4x256x2x4x128, .f32⟩
  | .hbm, ⟨9, _⟩ => ⟨S1x2048, .f32⟩
  | .hbm, ⟨10, _⟩ => ⟨S2048x512, .bf16⟩
  | .hbm, ⟨11, _⟩ => ⟨S8224x512, .f32⟩
  | .hbm, ⟨12, _⟩ => ⟨S8192x512, .f32⟩
  | .hbm, ⟨13, _⟩ => ⟨S4x2048x512, .f32⟩
  | .hbm, ⟨14, _⟩ => ⟨S32x512, .f32⟩
  | .hbm, ⟨15, _⟩ => ⟨S8x4x512, .f32⟩
  | .hbm, ⟨16, _⟩ => ⟨S4x2048x4x128, .f32⟩
  | .hbm, ⟨17, _⟩ => ⟨S4x256x1x4x128, .f32⟩
  | .hbm, ⟨18, _⟩ => ⟨S4x256x4x128, .f32⟩
  | .hbm, ⟨19, _⟩ => ⟨S4x4x256x2048, .f32⟩
  | .hbm, ⟨20, _⟩ => ⟨S4x2048x4x256, .f32⟩
  | .hbm, ⟨21, _⟩ => ⟨S_, .f32⟩
  | .hbm, ⟨22, _⟩ => ⟨S4x2048x4x256, .f32⟩
  | .hbm, ⟨23, _⟩ => ⟨S4x2048x4x256, .f32⟩
  | .hbm, ⟨24, _⟩ => ⟨S_, .f32⟩
  | .hbm, ⟨25, _⟩ => ⟨S4x2048x4, .f32⟩
  | .hbm, ⟨26, _⟩ => ⟨S_, .f32⟩
  | .hbm, ⟨27, _⟩ => ⟨S4x2048x4, .f32⟩
  | .hbm, ⟨28, _⟩ => ⟨S4x2048x4, .f32⟩
  | .hbm, ⟨29, _⟩ => ⟨S4x2048x4x1, .f32⟩
  | .hbm, ⟨30, _⟩ => ⟨S4x2048x4x256, .f32⟩
  | .hbm, ⟨31, _⟩ => ⟨S4x2048x4x256, .f32⟩
  | .hbm, ⟨32, _⟩ => ⟨S4x2048x4x256, .f32⟩
  | .hbm, ⟨33, _⟩ => ⟨S_, .f32⟩
  | .hbm, ⟨34, _⟩ => ⟨S4x2048x4, .f32⟩
  | .hbm, ⟨35, _⟩ => ⟨S4x2048x4x1, .f32⟩
  | .hbm, ⟨36, _⟩ => ⟨S4x2048x4x256, .f32⟩
  | .hbm, ⟨37, _⟩ => ⟨S4x2048x4x256, .f32⟩
  | .hbm, ⟨38, _⟩ => ⟨S4x256x1x4x128, .f32⟩
  | .hbm, ⟨39, _⟩ => ⟨S4x256x4x128, .f32⟩
  | .hbm, ⟨40, _⟩ => ⟨S4x4x128x2048, .f32⟩
  | .hbm, ⟨41, _⟩ => ⟨S4x2048x4x128, .f32⟩
  | .hbm, ⟨42, _⟩ => ⟨S4x2048x512, .f32⟩
  | .hbm, ⟨43, _⟩ => ⟨S4x2048x2048, .f32⟩
  | .hbm, ⟨44, _⟩ => ⟨S8x4x4x128, .f32⟩
  | .hbm, ⟨45, _⟩ => ⟨S8x256x1x4x128, .f32⟩
  | .hbm, ⟨46, _⟩ => ⟨S8x256x4x128, .f32⟩
  | .hbm, ⟨47, _⟩ => ⟨S8x4x256x4, .f32⟩
  | .hbm, ⟨48, _⟩ => ⟨S8x4x4x256, .f32⟩
  | .hbm, ⟨49, _⟩ => ⟨S_, .f32⟩
  | .hbm, ⟨50, _⟩ => ⟨S8x4x4x256, .f32⟩
  | .hbm, ⟨51, _⟩ => ⟨S8x4x4x256, .f32⟩
  | .hbm, ⟨52, _⟩ => ⟨S_, .f32⟩
  | .hbm, ⟨53, _⟩ => ⟨S8x4x4, .f32⟩
  | .hbm, ⟨54, _⟩ => ⟨S_, .f32⟩
  | .hbm, ⟨55, _⟩ => ⟨S8x4x4, .f32⟩
  | .hbm, ⟨56, _⟩ => ⟨S8x4x4, .f32⟩
  | .hbm, ⟨57, _⟩ => ⟨S8x4x4x1, .f32⟩
  | .hbm, ⟨58, _⟩ => ⟨S8x4x4x256, .f32⟩
  | .hbm, ⟨59, _⟩ => ⟨S8x4x4x256, .f32⟩
  | .hbm, ⟨60, _⟩ => ⟨S8x4x4x256, .f32⟩
  | .hbm, ⟨61, _⟩ => ⟨S_, .f32⟩
  | .hbm, ⟨62, _⟩ => ⟨S8x4x4, .f32⟩
  | .hbm, ⟨63, _⟩ => ⟨S8x4x4x1, .f32⟩
  | .hbm, ⟨64, _⟩ => ⟨S8x4x4x256, .f32⟩
  | .hbm, ⟨65, _⟩ => ⟨S8x4x4x256, .f32⟩
  | .hbm, ⟨66, _⟩ => ⟨S8x256x1x4x128, .f32⟩
  | .hbm, ⟨67, _⟩ => ⟨S8x256x4x128, .f32⟩
  | .hbm, ⟨68, _⟩ => ⟨S8x4x128x4, .f32⟩
  | .hbm, ⟨69, _⟩ => ⟨S8x4x4x128, .f32⟩
  | .hbm, ⟨70, _⟩ => ⟨S8x4x512, .f32⟩
  | .hbm, ⟨71, _⟩ => ⟨S8x4x2048, .f32⟩
  | .hbm, ⟨72, _⟩ => ⟨S8192x2048, .f32⟩
  | .hbm, ⟨73, _⟩ => ⟨S32x2048, .f32⟩
  | .hbm, ⟨74, _⟩ => ⟨S8224x2048, .f32⟩
  | .hbm, ⟨75, _⟩ => ⟨S8224x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S8224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8224x2048 : Shape := ⟨2, ![8224, 2048]⟩
abbrev S2048 : Shape := ⟨1, ![2048]⟩
abbrev S2048x512 : Shape := ⟨2, ![2048, 512]⟩
abbrev S4x256x2048 : Shape := ⟨3, ![4, 256, 2048]⟩
abbrev S2048x1024 : Shape := ⟨2, ![2048, 1024]⟩
abbrev S8x256x2x4x128 : Shape := ⟨5, ![8, 256, 2, 4, 128]⟩
abbrev S512x2048 : Shape := ⟨2, ![512, 2048]⟩
abbrev S4x256x1024 : Shape := ⟨3, ![4, 256, 1024]⟩
abbrev S4x256x2x4x128 : Shape := ⟨5, ![4, 256, 2, 4, 128]⟩
abbrev S_ : Shape := ⟨0, ![]⟩
abbrev S8224 : Shape := ⟨1, ![8224]⟩
abbrev S8224x1 : Shape := ⟨2, ![8224, 1]⟩
abbrev S1x2048 : Shape := ⟨2, ![1, 2048]⟩
abbrev S8192x2048 : Shape := ⟨2, ![8192, 2048]⟩
abbrev S4x2048x2048 : Shape := ⟨3, ![4, 2048, 2048]⟩
abbrev S4x2048x512 : Shape := ⟨3, ![4, 2048, 512]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x256x2048 : Shape := ⟨4, ![4, 4, 256, 2048]⟩
abbrev S4x2048x4x256 : Shape := ⟨4, ![4, 2048, 4, 256]⟩
abbrev S4x2048x4 : Shape := ⟨3, ![4, 2048, 4]⟩
abbrev S4x2048x4x1 : Shape := ⟨4, ![4, 2048, 4, 1]⟩
abbrev S4x4x128x2048 : Shape := ⟨4, ![4, 4, 128, 2048]⟩
abbrev S32x2048 : Shape := ⟨2, ![32, 2048]⟩
abbrev S8x4x2048 : Shape := ⟨3, ![8, 4, 2048]⟩
abbrev S8x4x512 : Shape := ⟨3, ![8, 4, 512]⟩
abbrev S8x4x4x128 : Shape := ⟨4, ![8, 4, 4, 128]⟩
abbrev S8x256x1x4x128 : Shape := ⟨5, ![8, 256, 1, 4, 128]⟩
abbrev S8x256x4x128 : Shape := ⟨4, ![8, 256, 4, 128]⟩
abbrev S8x4x256x4 : Shape := ⟨4, ![8, 4, 256, 4]⟩
abbrev S8x4x4x256 : Shape := ⟨4, ![8, 4, 4, 256]⟩
abbrev S8x4x4 : Shape := ⟨3, ![8, 4, 4]⟩
abbrev S8x4x4x1 : Shape := ⟨4, ![8, 4, 4, 1]⟩
abbrev S8x4x128x4 : Shape := ⟨4, ![8, 4, 128, 4]⟩

abbrev nBuf : Space → Nat
  | .hbm => 91
  | .vmem => 0
  | .smem => 0
  | _ => 0

abbrev bufTy : (tb : Table) → Fin (tcTables nBuf tb) → BufTy
  | .hbm, ⟨0, _⟩ => ⟨S8224x2048, .f32⟩
  | .hbm, ⟨1, _⟩ => ⟨S2048, .f32⟩
  | .hbm, ⟨2, _⟩ => ⟨S2048x512, .f32⟩
  | .hbm, ⟨3, _⟩ => ⟨S4x256x2048, .f32⟩
  | .hbm, ⟨4, _⟩ => ⟨S2048x1024, .f32⟩
  | .hbm, ⟨5, _⟩ => ⟨S8x256x2x4x128, .f32⟩
  | .hbm, ⟨6, _⟩ => ⟨S512x2048, .f32⟩
  | .hbm, ⟨7, _⟩ => ⟨S4x256x1024, .f32⟩
  | .hbm, ⟨8, _⟩ => ⟨S4x256x2x4x128, .f32⟩
  | .hbm, ⟨9, _⟩ => ⟨S8224x2048, .f32⟩
  | .hbm, ⟨10, _⟩ => ⟨S_, .f32⟩
  | .hbm, ⟨11, _⟩ => ⟨S8224, .f32⟩
  | .hbm, ⟨12, _⟩ => ⟨S8224x1, .f32⟩
  | .hbm, ⟨13, _⟩ => ⟨S_, .f32⟩
  | .hbm, ⟨14, _⟩ => ⟨S8224x1, .f32⟩
  | .hbm, ⟨15, _⟩ => ⟨S8224x1, .f32⟩
  | .hbm, ⟨16, _⟩ => ⟨S_, .f32⟩
  | .hbm, ⟨17, _⟩ => ⟨S8224x1, .f32⟩
  | .hbm, ⟨18, _⟩ => ⟨S8224x1, .f32⟩
  | .hbm, ⟨19, _⟩ => ⟨S8224x1, .f32⟩
  | .hbm, ⟨20, _⟩ => ⟨S8224x2048, .f32⟩
  | .hbm, ⟨21, _⟩ => ⟨S8224x2048, .f32⟩
  | .hbm, ⟨22, _⟩ => ⟨S1x2048, .f32⟩
  | .hbm, ⟨23, _⟩ => ⟨S8224x2048, .f32⟩
  | .hbm, ⟨24, _⟩ => ⟨S8224x2048, .f32⟩
  | .hbm, ⟨25, _⟩ => ⟨S8192x2048, .f32⟩
  | .hbm, ⟨26, _⟩ => ⟨S4x2048x2048, .f32⟩
  | .hbm, ⟨27, _⟩ => ⟨S4x2048x512, .f32⟩
  | .hbm, ⟨28, _⟩ => ⟨S4x2048x4x128, .f32⟩
  | .hbm, ⟨29, _⟩ => ⟨S4x256x1x4x128, .f32⟩
  | .hbm, ⟨30, _⟩ => ⟨S4x256x4x128, .f32⟩
  | .hbm, ⟨31, _⟩ => ⟨S4x4x256x2048, .f32⟩
  | .hbm, ⟨32, _⟩ => ⟨S4x2048x4x256, .f32⟩
  | .hbm, ⟨33, _⟩ => ⟨S_, .f32⟩
  | .hbm, ⟨34, _⟩ => ⟨S4x2048x4x256, .f32⟩
  | .hbm, ⟨35, _⟩ => ⟨S4x2048x4x256, .f32⟩
  | .hbm, ⟨36, _⟩ => ⟨S_, .f32⟩
  | .hbm, ⟨37, _⟩ => ⟨S4x2048x4, .f32⟩
  | .hbm, ⟨38, _⟩ => ⟨S_, .f32⟩
  | .hbm, ⟨39, _⟩ => ⟨S4x2048x4, .f32⟩
  | .hbm, ⟨40, _⟩ => ⟨S4x2048x4, .f32⟩
  | .hbm, ⟨41, _⟩ => ⟨S4x2048x4x1, .f32⟩
  | .hbm, ⟨42, _⟩ => ⟨S4x2048x4x256, .f32⟩
  | .hbm, ⟨43, _⟩ => ⟨S4x2048x4x256, .f32⟩
  | .hbm, ⟨44, _⟩ => ⟨S4x2048x4x256, .f32⟩
  | .hbm, ⟨45, _⟩ => ⟨S_, .f32⟩
  | .hbm, ⟨46, _⟩ => ⟨S4x2048x4, .f32⟩
  | .hbm, ⟨47, _⟩ => ⟨S4x2048x4x1, .f32⟩
  | .hbm, ⟨48, _⟩ => ⟨S4x2048x4x256, .f32⟩
  | .hbm, ⟨49, _⟩ => ⟨S4x2048x4x256, .f32⟩
  | .hbm, ⟨50, _⟩ => ⟨S4x256x1x4x128, .f32⟩
  | .hbm, ⟨51, _⟩ => ⟨S4x256x4x128, .f32⟩
  | .hbm, ⟨52, _⟩ => ⟨S4x4x128x2048, .f32⟩
  | .hbm, ⟨53, _⟩ => ⟨S4x2048x4x128, .f32⟩
  | .hbm, ⟨54, _⟩ => ⟨S4x2048x512, .f32⟩
  | .hbm, ⟨55, _⟩ => ⟨S4x2048x2048, .f32⟩
  | .hbm, ⟨56, _⟩ => ⟨S32x2048, .f32⟩
  | .hbm, ⟨57, _⟩ => ⟨S8x4x2048, .f32⟩
  | .hbm, ⟨58, _⟩ => ⟨S8x4x512, .f32⟩
  | .hbm, ⟨59, _⟩ => ⟨S8x4x4x128, .f32⟩
  | .hbm, ⟨60, _⟩ => ⟨S8x256x1x4x128, .f32⟩
  | .hbm, ⟨61, _⟩ => ⟨S8x256x4x128, .f32⟩
  | .hbm, ⟨62, _⟩ => ⟨S8x4x256x4, .f32⟩
  | .hbm, ⟨63, _⟩ => ⟨S8x4x4x256, .f32⟩
  | .hbm, ⟨64, _⟩ => ⟨S_, .f32⟩
  | .hbm, ⟨65, _⟩ => ⟨S8x4x4x256, .f32⟩
  | .hbm, ⟨66, _⟩ => ⟨S8x4x4x256, .f32⟩
  | .hbm, ⟨67, _⟩ => ⟨S_, .f32⟩
  | .hbm, ⟨68, _⟩ => ⟨S8x4x4, .f32⟩
  | .hbm, ⟨69, _⟩ => ⟨S_, .f32⟩
  | .hbm, ⟨70, _⟩ => ⟨S8x4x4, .f32⟩
  | .hbm, ⟨71, _⟩ => ⟨S8x4x4, .f32⟩
  | .hbm, ⟨72, _⟩ => ⟨S8x4x4x1, .f32⟩
  | .hbm, ⟨73, _⟩ => ⟨S8x4x4x256, .f32⟩
  | .hbm, ⟨74, _⟩ => ⟨S8x4x4x256, .f32⟩
  | .hbm, ⟨75, _⟩ => ⟨S8x4x4x256, .f32⟩
  | .hbm, ⟨76, _⟩ => ⟨S_, .f32⟩
  | .hbm, ⟨77, _⟩ => ⟨S8x4x4, .f32⟩
  | .hbm, ⟨78, _⟩ => ⟨S8x4x4x1, .f32⟩
  | .hbm, ⟨79, _⟩ => ⟨S8x4x4x256, .f32⟩
  | .hbm, ⟨80, _⟩ => ⟨S8x4x4x256, .f32⟩
  | .hbm, ⟨81, _⟩ => ⟨S8x256x1x4x128, .f32⟩
  | .hbm, ⟨82, _⟩ => ⟨S8x256x4x128, .f32⟩
  | .hbm, ⟨83, _⟩ => ⟨S8x4x128x4, .f32⟩
  | .hbm, ⟨84, _⟩ => ⟨S8x4x4x128, .f32⟩
  | .hbm, ⟨85, _⟩ => ⟨S8x4x512, .f32⟩
  | .hbm, ⟨86, _⟩ => ⟨S8x4x2048, .f32⟩
  | .hbm, ⟨87, _⟩ => ⟨S8192x2048, .f32⟩
  | .hbm, ⟨88, _⟩ => ⟨S32x2048, .f32⟩
  | .hbm, ⟨89, _⟩ => ⟨S8224x2048, .f32⟩
  | .hbm, ⟨90, _⟩ => ⟨S8224x2048, .f32⟩
  | _, _ => ⟨S8224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.Online.lean ====
/- The mathematics of a softmax taken block by block over the extended reals. A state is the largest score so far, the
   sum of the weights against it, and the weighted sum of the values. Taking up one more block rescales the old state
   by one factor; at the end the quotient of the two sums is the ordinary softmax average. Scores may be infinite. -/
module

public import Idealize.ShloMosaic.PureOps.Ideal.Laws
public import Idealize.ShloMosaic.Lib.Pointwise

@[expose] public section

noncomputable section

namespace Cert.Proof.Online

open Idealize.ShloMosaic

/-- The weight of a score `s` against a maximum `m`. -/
def wt (s m : EReal) : EReal := Ideal.exp (s - m)

theorem wt_bot (m : EReal) : wt ⊥ m = 0 := by
  unfold wt; rw [EReal.bot_sub]; rfl

theorem wt_top_right (s : EReal) : wt s ⊤ = 0 := by
  unfold wt; rw [sub_eq_add_neg, EReal.neg_top, EReal.add_bot]; rfl

theorem exp_nonneg (x : EReal) : 0 ≤ Ideal.exp x := by
  induction x with
  | bot => exact le_refl (0 : EReal)
  | top => exact le_top
  | coe r => exact EReal.coe_nonneg.2 (Real.exp_pos r).le

theorem wt_nonneg (s m : EReal) : 0 ≤ wt s m := exp_nonneg _

/-- A weight against a maximum at least the score is a real number, at most one. -/
theorem wt_real {s m : EReal} (h : s ≤ m) : ∃ r : ℝ, 0 ≤ r ∧ wt s m = (r : EReal) := by
  induction m with
  | bot => rw [le_bot_iff.1 h]; exact ⟨0, le_refl _, wt_bot _⟩
  | top => exact ⟨0, le_refl _, wt_top_right _⟩
  | coe b =>
    induction s with
    | bot => exact ⟨0, le_refl _, wt_bot _⟩
    | top => exact absurd (top_le_iff.1 h) (EReal.coe_ne_top b)
    | coe a => exact ⟨Real.exp (a - b), (Real.exp_pos _).le, by unfold wt; rw [← EReal.coe_sub]; rfl⟩

theorem wt_ne_top {s m : EReal} (h : s ≤ m) : wt s m ≠ ⊤ := by
  obtain ⟨r, _, hr⟩ := wt_real h; rw [hr]; exact EReal.coe_ne_top r

/-- Rescaling: the weight against an old maximum times the old maximum's weight against the new one is the weight against
    the new one. -/
theorem wt_mul {s m m' : EReal} (h : s ≤ m) (h' : m ≤ m') : wt m m' * wt s m = wt s m' := by
  induction m' with
  | bot => rw [le_bot_iff.1 h'] at h ⊢; rw [le_bot_iff.1 h, wt_bot, zero_mul]
  | top => rw [wt_top_right, wt_top_right, zero_mul]
  | coe c =>
    induction m with
    | bot => rw [le_bot_iff.1 h, wt_bot, wt_bot, zero_mul]
    | top => exact absurd (top_le_iff.1 h') (EReal.coe_ne_top c)
    | coe b =>
      induction s with
      | bot => rw [wt_bot, wt_bot, mul_zero]
      | top => exact absurd (top_le_iff.1 h) (EReal.coe_ne_top b)
      | coe a =>
        unfold wt
        rw [← EReal.coe_sub, ← EReal.coe_sub, ← EReal.coe_sub]
        show ((Real.exp (b - c) : ℝ) : EReal) * ((Real.exp (a - b) : ℝ) : EReal) = ((Real.exp (a - c) : ℝ) : EReal)
        rw [← EReal.coe_mul, ← Real.exp_add]; congr 2; ring

/-- A nonnegative real factor goes inside a sum. -/
theorem mul_sum {ι : Type*} {a : EReal} (h0 : 0 ≤ a) (ht : a ≠ ⊤) (S : Finset ι) (f : ι → EReal) :
    a * ∑ i ∈ S, f i = ∑ i ∈ S, a * f i := by
  classical
  induction S using Finset.induction_on with
  | empty => simp
  | insert i S hi ih =>
    rw [Finset.sum_insert hi, Finset.sum_insert hi, EReal.left_distrib_of_nonneg_of_ne_top h0 ht, ih]

section State
variable {ι : Type*} [DecidableEq ι] (s v : ι → EReal)

/-- The sum of the weights of the keys in `S` against their largest score. -/
def den (S : Finset ι) : EReal := ∑ i ∈ S, wt (s i) (S.sup s)

/-- The sum of the values of the keys in `S`, weighted against their largest score. -/
def num (S : Finset ι) : EReal := ∑ i ∈ S, v i * wt (s i) (S.sup s)

theorem sup_step (S T : Finset ι) : max (S.sup s) (T.sup s) = (S ∪ T).sup s := Finset.sup_union.symm

theorem den_step {S T : Finset ι} (h : Disjoint S T) :
    wt (S.sup s) ((S ∪ T).sup s) * den s S + ∑ i ∈ T, wt (s i) ((S ∪ T).sup s) = den s (S ∪ T) := by
  have hm : S.sup s ≤ (S ∪ T).sup s := Finset.sup_mono Finset.subset_union_left
  unfold den
  rw [mul_sum (wt_nonneg _ _) (wt_ne_top hm), Finset.sum_union h]
  congr 1
  exact Finset.sum_congr rfl fun i hi => wt_mul (Finset.le_sup hi) hm

theorem num_step {S T : Finset ι} (h : Disjoint S T) :
    wt (S.sup s) ((S ∪ T).sup s) * num s v S + ∑ i ∈ T, v i * wt (s i) ((S ∪ T).sup s) = num s v (S ∪ T) := by
  have hm : S.sup s ≤ (S ∪ T).sup s := Finset.sup_mono Finset.subset_union_left
  unfold num
  rw [mul_sum (wt_nonneg _ _) (wt_ne_top hm), Finset.sum_union h]
  congr 1
  refine Finset.sum_congr rfl fun i hi => ?_
  rw [mul_left_comm, wt_mul (Finset.le_sup hi) hm]

end State

section Final
variable {ι : Type*} [Fintype ι] [DecidableEq ι] (s v : ι → EReal)

/-- Keys whose score is `⊥` count for nothing. -/
theorem sup_subset {S : Finset ι} (h : ∀ i, i ∉ S → s i = ⊥) : S.sup s = Finset.univ.sup s := by
  refine le_antisymm (Finset.sup_mono (Finset.subset_univ S)) (Finset.sup_le fun i _ => ?_)
  by_cases hi : i ∈ S
  · exact Finset.le_sup hi
  · rw [h i hi]; exact bot_le

theorem den_subset {S : Finset ι} (h : ∀ i, i ∉ S → s i = ⊥) : den s S = den s Finset.univ := by
  unfold den
  rw [sup_subset s h]
  refine Finset.sum_subset (Finset.subset_univ S) fun i _ hi => ?_
  rw [h i hi, wt_bot]

theorem num_subset {S : Finset ι} (h : ∀ i, i ∉ S → s i = ⊥) : num s v S = num s v Finset.univ := by
  unfold num
  rw [sup_subset s h]
  refine Finset.sum_subset (Finset.subset_univ S) fun i _ hi => ?_
  rw [h i hi, wt_bot, mul_zero]

/-- The plain softmax's weight of one key, its maximum replaced by zero where it is not finite. -/
def smMax : EReal := if max (Finset.univ.sup s) (-(Finset.univ.sup s)) < ⊤ then Finset.univ.sup s else 0

theorem sum_real (S : Finset ι) (f : ι → EReal) (h : ∀ i ∈ S, ∃ r : ℝ, 0 ≤ r ∧ f i = (r : EReal)) :
    ∃ r : ℝ, 0 ≤ r ∧ ∑ i ∈ S, f i = (r : EReal) := by
  induction S using Finset.induction_on with
  | empty => exact ⟨0, le_refl _, by simp⟩
  | insert i S hi ih =>
    obtain ⟨a, ha, ea⟩ := h i (Finset.mem_insert_self i S)
    obtain ⟨b, hb, eb⟩ := ih fun j hj => h j (Finset.mem_insert_of_mem hj)
    exact ⟨a + b, add_nonneg ha hb, by rw [Finset.sum_insert hi, ea, eb, EReal.coe_add]⟩

/-- Dividing by a positive real is multiplying by one. -/
theorem div_pos_real {d : ℝ} (hd : 0 < d) (x : EReal) : Ideal.div x (d : EReal) = x * ((d⁻¹ : ℝ) : EReal) := by
  unfold Ideal.div
  rw [if_neg (by exact_mod_cast hd.ne'), EReal.coe_inv]

theorem div_top (x : EReal) : Ideal.div x ⊤ = 0 := by
  unfold Ideal.div
  rw [if_neg (by simp), EReal.inv_top, mul_zero]

/-- THE QUOTIENT: the weighted sum over the sum of the weights is the average under the plain softmax, whatever the
    scores and values. `c` is the small positive floor of the denominator. -/
theorem quotient {c : ℝ} (hc : 0 < c) :
    Ideal.div (num s v Finset.univ) (max (den s Finset.univ) (c : EReal))
      = ∑ i, Ideal.div (wt (s i) (smMax s)) (max (∑ k, wt (s k) (smMax s)) (c : EReal)) * v i := by
  have hle : ∀ i, s i ≤ Finset.univ.sup s := fun i => Finset.le_sup (Finset.mem_univ i)
  rcases eq_or_ne (Finset.univ.sup s) ⊤ with htop | hnt
  · have h0 : num s v Finset.univ = 0 := by
      unfold num; rw [htop]; exact Finset.sum_eq_zero fun i _ => by rw [wt_top_right, mul_zero]
    have h1 : den s Finset.univ = 0 := by
      unfold den; rw [htop]; exact Finset.sum_eq_zero fun i _ => wt_top_right _
    have hm : smMax s = 0 := by unfold smMax; rw [htop]; simp
    have hex : ∃ i, s i = ⊤ := by
      by_contra hne
      push Not at hne
      have : Finset.univ.sup s < ⊤ := (Finset.sup_lt_iff (by exact bot_lt_top)).2 fun i _ => lt_top_iff_ne_top.2 (hne i)
      exact absurd htop this.ne
    obtain ⟨k, hk⟩ := hex
    have hsum : ∑ k, wt (s k) (smMax s) = ⊤ := by
      rw [← top_le_iff]
      have hkt : wt (s k) (smMax s) = ⊤ := by
        rw [hk, hm]; unfold wt; rw [sub_zero]; rfl
      rw [← hkt]
      exact Finset.single_le_sum (f := fun k => wt (s k) (smMax s)) (fun i _ => wt_nonneg _ _) (Finset.mem_univ k)
    rw [h0, h1, hsum, max_eq_right (EReal.coe_nonneg.2 hc.le), max_eq_left le_top, div_pos_real hc, zero_mul]
    exact (Finset.sum_eq_zero fun i _ => by rw [div_top, zero_mul]).symm
  · have hm : ∀ i, wt (s i) (smMax s) = wt (s i) (Finset.univ.sup s) := by
      intro i
      rcases eq_or_ne (Finset.univ.sup s) ⊥ with hb | hnb
      · have : s i = ⊥ := le_bot_iff.1 (hb ▸ hle i)
        rw [this, wt_bot, wt_bot]
      · have : smMax s = Finset.univ.sup s := by
          unfold smMax
          rw [if_pos]
          refine max_lt (lt_top_iff_ne_top.2 hnt) (lt_top_iff_ne_top.2 ?_)
          rwa [Ne, EReal.neg_eq_top_iff]
        rw [this]
    have hd : ∑ k, wt (s k) (smMax s) = den s Finset.univ := Finset.sum_congr rfl fun i _ => hm i
    obtain ⟨d, hd0, hd'⟩ := sum_real (Finset.univ) (fun i => wt (s i) (Finset.univ.sup s)) fun i _ => wt_real (hle i)
    have hmax : max (den s Finset.univ) (c : EReal) = ((max d c : ℝ) : EReal) := by
      unfold den; rw [hd', EReal.coe_strictMono.monotone.map_max]
    have hpos : 0 < max d c := lt_max_of_lt_right hc
    rw [hd, hmax, div_pos_real hpos, mul_comm]
    unfold num
    rw [mul_sum (EReal.coe_nonneg.2 (inv_pos.2 hpos).le) (EReal.coe_ne_top _)]
    refine Finset.sum_congr rfl fun i _ => ?_
    rw [div_pos_real hpos, hm, mul_comm (wt _ _), mul_assoc, mul_comm (v i)]

end Final

end Cert.Proof.Online

end
-- ==== Proof.Step.lean ====
/- One block of keys, one head, inside the kernel's loop: what the body's step does to the running maximum, the sum of
   the weights and the weighted sum, read at one query column. -/
module

public import proofs.«01_k».proof.Proof.Gen.KernelIdeal.Frame
public import proofs.«01_k».proof.Proof.Online
public import Idealize.ShloMosaic.Lib.Pointwise

@[expose] public section

set_option maxRecDepth 16384

noncomputable section

namespace Cert.KernelIdeal.Win

open Cert.KernelIdeal Cert.KernelIdeal.Gen Idealize.ShloMosaic Cert.Proof.Online

/-- The masked scores of one block: key row by query column. -/
abbrev HS (ok : IVec S256x256 1) (q : FVec Ideal S64x256 .bf16) (kt : Vec Ideal S1x1x256x64 .f32)
    (bt : Vec Ideal S1x1x256x256 .f32) : FVec Ideal S256x256 .f32 := k0_pay9 q ok kt bt

/-- The new running maximum. -/
abbrev HM (ok : IVec S256x256 1) (q : FVec Ideal S64x256 .bf16) (kt : Vec Ideal S1x1x256x64 .f32)
    (bt : Vec Ideal S1x1x256x256 .f32) (m : FVec Ideal S1x256 .f32) : FVec Ideal S1x256 .f32 := k0_pay10 q m ok kt bt

/-- The new sum of weights. -/
abbrev HL (ok : IVec S256x256 1) (q : FVec Ideal S64x256 .bf16) (kt : Vec Ideal S1x1x256x64 .f32)
    (bt : Vec Ideal S1x1x256x256 .f32) (m l : FVec Ideal S1x256 .f32) : FVec Ideal S1x256 .f32 := k0_pay13 q m l ok kt bt

/-- The new weighted sum of values. -/
abbrev HA (ok : IVec S256x256 1) (q : FVec Ideal S64x256 .bf16) (kt : Vec Ideal S1x1x256x64 .f32)
    (bt : Vec Ideal S1x1x256x256 .f32) (vt : Vec Ideal S1x1x1x64x256 .f32) (m : FVec Ideal S1x256 .f32)
    (a : FVec Ideal S64x256 .f32) : FVec Ideal S64x256 .f32 :=
  k0_pay39 a (k0_pay11 q m ok kt bt) (k0_pay14 vt) (k0_pay15 q m ok kt bt)

theorem mask_bot : (Named.named κ "mask" 0xF149F2CA#32 : Ideal .f32) = (⊥ : EReal) := rfl

theorem neg_inf : (Ideal.ofBits .f32 0xFF800000#32 : EReal) = ⊥ := by
  simp [Ideal.ofBits, Ideal.ieee]

theorem sup_fold {n : Nat} (f : Fin n → EReal) : Finset.univ.fold max ⊥ f = Finset.univ.sup f := rfl

variable (ok : IVec S256x256 1) (q : FVec Ideal S64x256 .bf16) (kt : Vec Ideal S1x1x256x64 .f32)
  (bt : Vec Ideal S1x1x256x256 .f32) (vt : Vec Ideal S1x1x1x64x256 .f32) (m l : FVec Ideal S1x256 .f32)
  (a : FVec Ideal S64x256 .f32)

theorem HS_apply (i r : Fin 256) : HS ok q kt bt (ix2 i r)
    = if ok (ix2 i r) = 1#1 then (∑ d : Fin 64, kt (ix4 0 0 i d) * q (ix2 d r)) + bt (ix4 0 0 i r) else (⊥ : EReal) := by
  unfold HS
  pointwise [k0_pay9, mask_bot]
  rfl

theorem HM_apply (r : Fin 256) : HM ok q kt bt m (ix2 0 r)
    = max (m (ix2 0 r)) (Finset.univ.sup fun i : Fin 256 => HS ok q kt bt (ix2 i r)) := by
  unfold HM HS
  pointwise [k0_pay10]
  rw [neg_inf]; rfl

theorem HL_apply (r : Fin 256) : HL ok q kt bt m l (ix2 0 r)
    = wt (m (ix2 0 r)) (HM ok q kt bt m (ix2 0 r)) * l (ix2 0 r)
      + ∑ i : Fin 256, wt (HS ok q kt bt (ix2 i r)) (HM ok q kt bt m (ix2 0 r)) := by
  unfold HL HM HS
  pointwise [k0_pay13, k0_pay12, k0_pay11]
  refine congrArg₂ (· + ·) rfl (Finset.sum_congr rfl fun i _ => ?_)
  show (if _ then _ else _) = _
  split
  · rfl
  · rename_i h
    have hs : k0_pay9 q ok kt bt (ix2 i r) = (⊥ : EReal) := (HS_apply ok q kt bt i r).trans (if_neg h)
    rw [hs]; exact (wt_bot _).symm

theorem HA_apply (d : Fin 64) (r : Fin 256) : HA ok q kt bt vt m a (ix2 d r)
    = wt (m (ix2 0 r)) (HM ok q kt bt m (ix2 0 r)) * a (ix2 d r)
      + ∑ i : Fin 256, vt (ix5 0 0 0 d i) * wt (HS ok q kt bt (ix2 i r)) (HM ok q kt bt m (ix2 0 r)) := by
  unfold HA HM HS
  pointwise [k0_pay39, k0_pay14, k0_pay15, k0_pay12, k0_pay11]
  refine congrArg₂ (· + ·) rfl (Finset.sum_congr rfl fun i _ => ?_)
  show (if _ then _ else _) = _
  split
  · rfl
  · rename_i h
    have hs : k0_pay9 q ok kt bt (ix2 i r) = (⊥ : EReal) := (HS_apply ok q kt bt i r).trans (if_neg h)
    rw [hs, wt_bot, mul_zero]

end Cert.KernelIdeal.Win

end
-- ==== Proof.Trip.lean ====
/- What one trip of the kernel's loop over key blocks yields, and what the loop has gathered after some trips. -/
module

public import proofs.«01_k».proof.Proof.Step

@[expose] public section

set_option maxRecDepth 16384

noncomputable section

namespace Cert.KernelIdeal.Win

open Cert.KernelIdeal Cert.KernelIdeal.Gen Idealize.ShloMosaic Cert.Proof.Online
open Idealize.ShloMosaic.TcCoe Idealize.SL.Sem Idealize.ShloMosaic.Tactic

/-- What the loop carries: maximum, sum of weights and weighted sum, for each of the step's two heads. -/
abbrev Carry := FVec Ideal S1x256 .f32 × FVec Ideal S1x256 .f32 × FVec Ideal S64x256 .f32
  × FVec Ideal S1x256 .f32 × FVec Ideal S1x256 .f32 × FVec Ideal S64x256 .f32

section
variable (i : grid0.Coords) (x1 : Vec Ideal S1x1x2048x64 .f32) (x2 : Vec Ideal S1x1x8x64x256 .f32)
  (x3 : Vec Ideal S2x3x256x256 .f32) (k : Fin (k0_t1_loop i).trips)

/-- The trip's block of keys, of values, and the two heads' tiles of bias. -/
abbrev ldK : Vec Ideal S1x1x256x64 .f32 :=
  View.ld x1 (Rect.unit (s := S1x1x2048x64) (k0_off1 i k) S1x1x256x64.size (k0_off1_inb i k))
abbrev ldV : Vec Ideal S1x1x1x64x256 .f32 :=
  View.ld x2 (Rect.unit (s := S1x1x8x64x256) (k0_off3 i k) S1x1x1x64x256.size (k0_off3_inb i k))
abbrev ldB0 : Vec Ideal S1x1x256x256 .f32 :=
  View.ld x3 (Rect.unit (s := S2x3x256x256) (k0_off2 i k) S1x1x256x256.size (k0_off2_inb i k))
abbrev ldB1 : Vec Ideal S1x1x256x256 .f32 :=
  View.ld x3 (Rect.unit (s := S2x3x256x256) (k0_off4 i k) S1x1x256x256.size (k0_off4_inb i k))

/-- One trip on the carried values. -/
def trip (arg2 v10 : BitVec 32) (v0 v3 : Vec Ideal S1x1x64x256 .f32) (c : Carry) : Carry :=
  let ok := k0_pay2 i arg2 k0_pay32 v10 1#32 k
  let q0 : FVec Ideal S64x256 .bf16 := k0_pay31 v0
  let q1 : FVec Ideal S64x256 .bf16 := k0_pay31 v3
  (HM ok q0 (ldK i x1 k) (ldB0 i x3 k) c.1, HL ok q0 (ldK i x1 k) (ldB0 i x3 k) c.1 c.2.1,
    HA ok q0 (ldK i x1 k) (ldB0 i x3 k) (ldV i x2 k) c.1 c.2.2.1,
    HM ok q1 (ldK i x1 k) (ldB1 i x3 k) c.2.2.2.1, HL ok q1 (ldK i x1 k) (ldB1 i x3 k) c.2.2.2.1 c.2.2.2.2.1,
    HA ok q1 (ldK i x1 k) (ldB1 i x3 k) (ldV i x2 k) c.2.2.2.1 c.2.2.2.2.2)
end

theorem tripR_eq (𝒱 : Variants) (c : Dev nD) (bd : Option 𝒱.V) (i : grid0.Coords) (arg3 : Memref sig .tc .vmem S1x2x64x256 .f32) (harg3 : arg3.IsWhole) (arg4 : Memref sig .tc .vmem S1x1x2048x64 .f32) (harg4 : arg4.IsWhole) (arg5 : Memref sig .tc .vmem S1x1x8x64x256 .f32) (harg5 : arg5.IsWhole) (arg6 : Memref sig .tc .vmem S2x3x256x256 .f32) (harg6 : arg6.IsWhole) (arg7 : Memref sig .tc .vmem S1x2x64x256 .f32) (harg7 : arg7.IsWhole) (arg2 : BitVec 32) (v0 : Vec Ideal S1x1x64x256 .f32) (v3 : Vec Ideal S1x1x64x256 .f32) (v10 : BitVec 32) (x1 : Vec Ideal S1x1x2048x64 .f32) (x2 : Vec Ideal S1x1x8x64x256 .f32) (x3 : Vec Ideal S2x3x256x256 .f32) (k : Fin (k0_t1_loop i).trips) (acc : Carry) :
    tripR_k0_t1 (F := Ideal) 𝒱 c bd i arg3 harg3 arg4 harg4 arg5 harg5 arg6 harg6 arg7 harg7 arg2 v0 v3 v10
      (harg4.unread x1) (harg5.unread x2) (harg6.unread x3) k acc = trip i x1 x2 x3 k arg2 v10 v0 v3 acc := by
  unfold tripR_k0_t1 trip_k0_t1
  dsimp only
  sl_unfold_words
  simp only [View.readAt_eq_ld, harg4.read_unread, harg5.read_unread, harg6.read_unread]
  rfl

end Cert.KernelIdeal.Win

end
-- ==== Proof.Tile.lean ====
/- The blocks one trip of the kernel's loop reads, by the absolute positions of their keys and queries, and its mask. -/
module
public import proofs.«01_k».proof.Proof.Trip
@[expose] public section
set_option maxRecDepth 16384
noncomputable section
namespace Cert.KernelIdeal.Win
open Cert.KernelIdeal Cert.KernelIdeal.Gen Idealize.ShloMosaic Cert.Proof.Online
open Idealize.ShloMosaic.TcCoe Idealize.SL.Sem Idealize.ShloMosaic.Tactic

/-- The first key block of a query block, as the kernel computes it. -/
def lo (q : Nat) : BitVec 32 := Scalar.maxsi (Scalar.subi (BitVec.ofNat 32 q) 2#32) 0#32

theorem trips1 (i : grid0.Coords) : (k0_t1_loop i).trips = min (i 2).val 2 + 1 := by
  have h : ∀ q : Fin 8, (Scf.trips (lo q.val) (Scalar.addi (lo q.val) (Scalar.muli (Scalar.divsi (Scalar.subi (Scalar.addi (BitVec.ofNat 32 q.val) 1#32) (lo q.val)) 1#32) 1#32)) 1#32) = min q.val 2 + 1 := by decide +kernel
  exact h (i 2)

theorem trip_lt (i : grid0.Coords) (k : Fin (k0_t1_loop i).trips) : k.val < min (i 2).val 2 + 1 :=
  lt_of_lt_of_eq k.isLt (trips1 i)

theorem sge_iff {w : Nat} (x y : BitVec w) : IntOp.cmpi .sge x y = 1#1 ↔ y.toInt ≤ x.toInt := by
  unfold IntOp.cmpi
  rw [← BitVec.sle_iff_toInt_le]
  show BitVec.ofBool (y.sle x) = 1#1 ↔ _
  cases y.sle x <;> simp

theorem slt_iff {w : Nat} (x y : BitVec w) : IntOp.cmpi .slt x y = 1#1 ↔ x.toInt < y.toInt := by
  unfold IntOp.cmpi
  rw [← BitVec.slt_iff_toInt_lt]
  show BitVec.ofBool (x.slt y) = 1#1 ↔ _
  cases x.slt y <;> simp

theorem andi_iff (x y : BitVec 1) : IntOp.andi x y = 1#1 ↔ x = 1#1 ∧ y = 1#1 := by
  revert x y; decide

theorem toInt_small (n : Nat) (h : n < 2147483648) : (BitVec.ofNat 32 n).toInt = n := by
  rw [BitVec.toInt_ofNat']
  unfold Int.bmod
  dsimp only
  split <;> omega

/-- Distances are small enough for the words that hold them. -/
theorem dist_word (r x n : Nat) (hr : r < 1048576) (hx : x < 1048576) (hn : n < 1048576) :
    (BitVec.ofNat 32 r - BitVec.ofNat 32 x + BitVec.ofNat 32 n).toInt = (r : Int) - x + n := by
  rw [BitVec.toInt_add, BitVec.toInt_sub, toInt_small r (by omega), toInt_small x (by omega), toInt_small n (by omega)]
  unfold Int.bmod
  dsimp only
  split <;> split <;> omega

theorem iv_eq (q : Fin 8) (k : Nat) (hk : k < min q.val 2 + 1) : Scf.iv (lo q.val) 1#32 k = BitVec.ofNat 32 (q.val - 2 + k) := by
  have h : ∀ q : Fin 8, ∀ k : Fin 3, Scf.iv (lo q.val) 1#32 k.val = BitVec.ofNat 32 (q.val - 2 + k.val) := by decide +kernel
  exact h q ⟨k, by omega⟩

theorem off1 (i : grid0.Coords) (k : Fin (k0_t1_loop i).trips) : k0_off1 i k = ![0, 0, 256 * ((i 2).val - 2 + k.val), 0] := by
  have h : ∀ q : Fin 8, ∀ k : Fin 3, (Scalar.muli (Scf.iv (lo q.val) 1#32 k.val) 256#32).toNat = 256 * (q.val - 2 + k.val) := by decide +kernel
  have hk := trip_lt i k
  funext a
  fin_cases a
  · rfl
  · rfl
  · exact h (i 2) ⟨k.val, by omega⟩
  · rfl
theorem off3 (i : grid0.Coords) (k : Fin (k0_t1_loop i).trips) : k0_off3 i k = ![0, 0, (i 2).val - 2 + k.val, 0, 0] := by
  have h : ∀ q : Fin 8, ∀ k : Fin 3, (Scf.iv (lo q.val) 1#32 k.val).toNat = (q.val - 2 + k.val) := by decide +kernel
  have hk := trip_lt i k
  funext a
  fin_cases a
  · rfl
  · rfl
  · exact h (i 2) ⟨k.val, by omega⟩
  · rfl
  · rfl
theorem off2 (i : grid0.Coords) (k : Fin (k0_t1_loop i).trips) : k0_off2 i k = ![0, (i 2).val - ((i 2).val - 2 + k.val), 0, 0] := by
  have h : ∀ q : Fin 8, ∀ k : Fin 3, k.val < min q.val 2 + 1 → (Scalar.minsi (Scalar.subi (BitVec.ofNat 32 q.val) (Scf.iv (lo q.val) 1#32 k.val)) 2#32).toNat = q.val - (q.val - 2 + k.val) := by decide +kernel
  have hk := trip_lt i k
  funext a
  fin_cases a
  · rfl
  · exact h (i 2) ⟨k.val, by omega⟩ hk
  · rfl
  · rfl
theorem off4 (i : grid0.Coords) (k : Fin (k0_t1_loop i).trips) : k0_off4 i k = ![1, (i 2).val - ((i 2).val - 2 + k.val), 0, 0] := by
  have h : ∀ q : Fin 8, ∀ k : Fin 3, k.val < min q.val 2 + 1 → (Scalar.minsi (Scalar.subi (BitVec.ofNat 32 q.val) (Scf.iv (lo q.val) 1#32 k.val)) 2#32).toNat = q.val - (q.val - 2 + k.val) := by decide +kernel
  have hk := trip_lt i k
  funext a
  fin_cases a
  · rfl
  · exact h (i 2) ⟨k.val, by omega⟩ hk
  · rfl
  · rfl

/-- A read through a rectangle of unit stride, at an index named by its coordinates. -/
theorem ld_at {s : Shape} {e : EltTy} (x : Vec Ideal s e) (off size : Fin s.rank → Nat) (inb) (j : (Rect.unit (s := s) off size inb).shape.Idx) (K : s.Idx)
    {off' : Fin s.rank → Nat} (ho : off = off') (h : ∀ a, (K a).val = off' a + (j a).val) : View.ld x (Rect.unit (s := s) off size inb) j = x K := by
  rw [View.ld_unit]
  exact congrArg x (funext fun a => Fin.ext (by rw [h a, ← ho]; rfl))

theorem ld_K (i : grid0.Coords) (x1 : Vec Ideal S1x1x2048x64 .f32) (k : Fin (k0_t1_loop i).trips) (r : Fin 256) (d : Fin 64) (K : Fin 2048)
  (h : K.val = 256 * ((i 2).val - 2 + k.val) + r.val) :
  ldK i x1 k (ix4 0 0 r d) = x1 (ix4 0 0 K d) := by
  refine ld_at x1 _ _ _ _ _ (off1 i k) fun a => ?_
  fin_cases a
  · rfl
  · rfl
  · exact h
  · exact (Nat.zero_add _).symm

theorem ld_V (i : grid0.Coords) (x2 : Vec Ideal S1x1x8x64x256 .f32) (k : Fin (k0_t1_loop i).trips) (r : Fin 256) (d : Fin 64) (K : Fin 8)
  (h : K.val = ((i 2).val - 2 + k.val)) :
  ldV i x2 k (ix5 0 0 0 d r) = x2 (ix5 0 0 K d r) := by
  refine ld_at x2 _ _ _ _ _ (off3 i k) fun a => ?_
  fin_cases a
  · rfl
  · rfl
  · exact h
  · exact (Nat.zero_add _).symm
  · exact (Nat.zero_add _).symm

theorem ld_B0 (i : grid0.Coords) (x3 : Vec Ideal S2x3x256x256 .f32) (k : Fin (k0_t1_loop i).trips) (x r : Fin 256) (t : Fin 3)
  (h : t.val = (i 2).val - ((i 2).val - 2 + k.val)) : ldB0 i x3 k (ix4 0 0 x r) = x3 (ix4 0 t x r) := by
  refine ld_at x3 _ _ _ _ _ (off2 i k) fun a => ?_
  fin_cases a
  · rfl
  · exact h
  · exact (Nat.zero_add _).symm
  · exact (Nat.zero_add _).symm

theorem ld_B1 (i : grid0.Coords) (x3 : Vec Ideal S2x3x256x256 .f32) (k : Fin (k0_t1_loop i).trips) (x r : Fin 256) (t : Fin 3)
  (h : t.val = (i 2).val - ((i 2).val - 2 + k.val)) : ldB1 i x3 k (ix4 0 0 x r) = x3 (ix4 1 t x r) := by
  refine ld_at x3 _ _ _ _ _ (off4 i k) fun a => ?_
  fin_cases a
  · rfl
  · exact h
  · exact (Nat.zero_add _).symm
  · exact (Nat.zero_add _).symm

/-- The mask of a block, in terms of absolute positions. -/
theorem ok_iff (i : grid0.Coords) (k : Fin (k0_t1_loop i).trips) (x r : Fin 256) :
  k0_pay2 i (BitVec.ofNat 32 (i 2).val) k0_pay32 (lo (i 2).val) 1#32 k (ix2 x r) = 1#1
    ↔ 256 * ((i 2).val - 2 + k.val) + x.val ≤ 256 * (i 2).val + r.val
      ∧ 256 * (i 2).val + r.val < 256 * ((i 2).val - 2 + k.val) + x.val + 512 := by
  have hk := trip_lt i k
  have hq := (i 2).isLt
  change (i 2).val < 8 at hq
  have hd : Scalar.muli (Scalar.subi (BitVec.ofNat 32 (i 2).val) (Scf.iv (lo (i 2).val) 1#32 k.val)) 256#32 = BitVec.ofNat 32 (256 * ((i 2).val - ((i 2).val - 2 + k.val))) := by
    have h : ∀ q : Fin 8, ∀ k : Fin 3, k.val < min q.val 2 + 1 → Scalar.muli (Scalar.subi (BitVec.ofNat 32 q.val) (Scf.iv (lo q.val) 1#32 k.val)) 256#32 = BitVec.ofNat 32 (256 * (q.val - (q.val - 2 + k.val))) := by decide +kernel
    exact h (i 2) ⟨k.val, by omega⟩ hk
  pointwise [k0_pay2, k0_pay32]
  rw [hd]
  have h1 : (BitVec.ofNat 32 r.val - BitVec.ofNat 32 x.val + BitVec.ofNat 32 (256 * ((i 2).val - ((i 2).val - 2 + k.val)))).toInt = (r.val : Int) - x.val + (256 * ((i 2).val - ((i 2).val - 2 + k.val)) : Nat) := by
    exact dist_word _ _ _ (by omega) (by omega) (by omega)
  rw [andi_iff, sge_iff, slt_iff]
  change (0#32).toInt ≤ (BitVec.ofNat 32 r.val - BitVec.ofNat 32 x.val + BitVec.ofNat 32 (256 * ((i 2).val - ((i 2).val - 2 + k.val)))).toInt ∧ (BitVec.ofNat 32 r.val - BitVec.ofNat 32 x.val + BitVec.ofNat 32 (256 * ((i 2).val - ((i 2).val - 2 + k.val)))).toInt < (512#32).toInt ↔ _
  rw [h1]
  have h0 : (0#32).toInt = 0 := by decide
  have h5 : (512#32).toInt = 512 := by decide
  rw [h0, h5]
  omega
end Cert.KernelIdeal.Win
end
-- ==== Proof.Loop.lean ====
/- What the kernel's loop over key blocks has gathered after some trips: the running maximum, the sum of weights and the
   weighted sum of the keys met so far, for each query column and head. -/
module
public import proofs.«01_k».proof.Proof.Tile
@[expose] public section
set_option maxRecDepth 16384
noncomputable section
namespace Cert.KernelIdeal.Win
open Cert.KernelIdeal Cert.KernelIdeal.Gen Idealize.ShloMosaic Cert.Proof.Online
open Idealize.ShloMosaic.TcCoe Idealize.SL.Sem Idealize.ShloMosaic.Tactic

/-- The keys of one block of 256. -/
def emb (j : Fin 8) : Fin 256 ↪ Fin 2048 where
  toFun x := ⟨256 * j.val + x.val, by omega⟩
  inj' x y h := by
    have := congrArg Fin.val h
    dsimp only at this
    exact Fin.ext (by omega)

/-- The keys of the blocks from `a` up to, not including, `b`. -/
def keys (a b : Nat) : Finset (Fin 2048) := Finset.univ.filter fun K => 256 * a ≤ K.val ∧ K.val < 256 * b

theorem keys_self (a : Nat) : keys a a = ∅ := by
  unfold keys
  exact Finset.filter_eq_empty_iff.2 fun K _ h => by omega

theorem mem_emb (j : Fin 8) (K : Fin 2048) : K ∈ Finset.univ.map (emb j) ↔ 256 * j.val ≤ K.val ∧ K.val < 256 * (j.val + 1) := by
  rw [Finset.mem_map]
  constructor
  · rintro ⟨x, _, rfl⟩
    show _ ≤ 256 * j.val + x.val ∧ 256 * j.val + x.val < _
    omega
  · intro h
    exact ⟨⟨K.val - 256 * j.val, by omega⟩, Finset.mem_univ _, Fin.ext (by show 256 * j.val + (K.val - 256 * j.val) = K.val; omega)⟩

theorem keys_succ (a : Nat) (b : Fin 8) (h : a ≤ b.val) : keys a (b.val + 1) = keys a b.val ∪ Finset.univ.map (emb b) := by
  ext K
  rw [Finset.mem_union, mem_emb]
  unfold keys
  rw [Finset.mem_filter, Finset.mem_filter]
  simp only [Finset.mem_univ, true_and]
  omega

theorem keys_disj (a : Nat) (b : Fin 8) : Disjoint (keys a b.val) (Finset.univ.map (emb b)) := by
  rw [Finset.disjoint_left]
  intro K h h'
  rw [mem_emb] at h'
  unfold keys at h
  rw [Finset.mem_filter] at h
  omega

section lane
variable {s : Fin 2048 → EReal} {S : Finset (Fin 2048)} {e : Fin 256 ↪ Fin 2048} {r : Fin 256}
  {ok : IVec S256x256 1} {q : FVec Ideal S64x256 .bf16} {kt : Vec Ideal S1x1x256x64 .f32}
  {bt : Vec Ideal S1x1x256x256 .f32} {m : FVec Ideal S1x256 .f32}
  (hs : ∀ i, HS ok q kt bt (ix2 i r) = s (e i)) (hm : m (ix2 0 r) = S.sup s)
include hs hm

theorem lane_max : HM ok q kt bt m (ix2 0 r) = (S ∪ Finset.univ.map e).sup s := by
  rw [HM_apply, hm, ← sup_step, Finset.sup_map]
  exact congrArg (max _) (Finset.sup_congr rfl fun i _ => hs i)

theorem lane_den (hd : Disjoint S (Finset.univ.map e)) {l : FVec Ideal S1x256 .f32} (hl : l (ix2 0 r) = den s S) :
    HL ok q kt bt m l (ix2 0 r) = den s (S ∪ Finset.univ.map e) := by
  rw [HL_apply, lane_max hs hm, hm, hl, ← den_step s hd, Finset.sum_map]
  refine congrArg₂ (· + ·) rfl (Finset.sum_congr rfl fun i _ => ?_)
  rw [hs i]

theorem lane_num (hd : Disjoint S (Finset.univ.map e)) {v : Fin 2048 → EReal} {d : Fin 64} {vt : Vec Ideal S1x1x1x64x256 .f32}
    (hv : ∀ i, vt (ix5 0 0 0 d i) = v (e i)) {a : FVec Ideal S64x256 .f32} (ha : a (ix2 d r) = num s v S) :
    HA ok q kt bt vt m a (ix2 d r) = num s v (S ∪ Finset.univ.map e) := by
  rw [HA_apply, lane_max hs hm, hm, ha, ← num_step s v hd, Finset.sum_map]
  refine congrArg₂ (· + ·) rfl (Finset.sum_congr rfl fun i _ => ?_)
  rw [hs i, hv i]
end lane

section
variable (i : grid0.Coords) (x0 : Vec Ideal S1x2x64x256 .f32) (x1 : Vec Ideal S1x1x2048x64 .f32)
  (x2 : Vec Ideal S1x1x8x64x256 .f32) (x3 : Vec Ideal S2x3x256x256 .f32)

/-- Which of the three bias tiles, and which row of it, a key of a query block's window reads. -/
def tile (q : Nat) (K : Fin 2048) : Fin 3 := ⟨min (q - K.val / 256) 2, by omega⟩
def row (K : Fin 2048) : Fin 256 := ⟨K.val % 256, Nat.mod_lt _ (by decide)⟩
def blkOf (K : Fin 2048) : Fin 8 := ⟨K.val / 256, by omega⟩

/-- The masked score of every key for one query of the step's block. -/
def score (h : Fin 2) (r : Fin 256) (K : Fin 2048) : EReal :=
  if K.val ≤ 256 * (i 2).val + r.val ∧ 256 * (i 2).val + r.val < K.val + 512 then
    (∑ d : Fin 64, x1 (ix4 0 0 K d) * x0 (ix4 0 h d r)) + x3 (ix4 h (tile (i 2).val K) (row K) r)
  else ⊥

def value (d : Fin 64) (K : Fin 2048) : EReal := x2 (ix5 0 0 (blkOf K) d (row K))

/-- What the carried values are, once the keys in `S` are met. -/
def Inv (S : Finset (Fin 2048)) (c : Carry) : Prop := ∀ r : Fin 256,
  c.1 (ix2 0 r) = S.sup (score i x0 x1 x3 0 r) ∧ c.2.1 (ix2 0 r) = den (score i x0 x1 x3 0 r) S
    ∧ (∀ d, c.2.2.1 (ix2 d r) = num (score i x0 x1 x3 0 r) (value x2 d) S)
    ∧ c.2.2.2.1 (ix2 0 r) = S.sup (score i x0 x1 x3 1 r) ∧ c.2.2.2.2.1 (ix2 0 r) = den (score i x0 x1 x3 1 r) S
    ∧ (∀ d, c.2.2.2.2.2 (ix2 d r) = num (score i x0 x1 x3 1 r) (value x2 d) S)

theorem inv_trip (k : Fin (k0_t1_loop i).trips) (b : Fin 8) (hb : b.val = (i 2).val - 2 + k.val)
    {v0 v3 : Vec Ideal S1x1x64x256 .f32} (h0 : ∀ d r, v0 (ix4 0 0 d r) = x0 (ix4 0 0 d r)) (h3 : ∀ d r, v3 (ix4 0 0 d r) = x0 (ix4 0 1 d r))
    {S : Finset (Fin 2048)} (hd : Disjoint S (Finset.univ.map (emb b))) {c : Carry} (hc : Inv i x0 x1 x2 x3 S c) :
    Inv i x0 x1 x2 x3 (S ∪ Finset.univ.map (emb b)) (trip i x1 x2 x3 k (BitVec.ofNat 32 (i 2).val) (lo (i 2).val) v0 v3 c) := by
  intro r
  obtain ⟨a1, a2, a3, a4, a5, a6⟩ := hc r
  have hk := trip_lt i k
  have hqk : ∀ (v : Vec Ideal S1x1x64x256 .f32) d r, k0_pay31 (F := Ideal) v (ix2 d r) = v (ix4 0 0 d r) := fun v d r => by
    pointwise [k0_pay31]
  have hemb : ∀ x, ((emb b) x).val = 256 * ((i 2).val - 2 + k.val) + x.val := fun x => by rw [← hb]; rfl
  have hrow : ∀ x, row (emb b x) = x := fun x => Fin.ext (by show ((emb b) x).val % 256 = _; rw [hemb]; omega)
  have hblk : ∀ x, blkOf (emb b x) = b := fun x => Fin.ext (by show ((emb b) x).val / 256 = _; rw [hemb]; omega)
  have htile : ∀ x, (tile (i 2).val (emb b x)).val = (i 2).val - ((i 2).val - 2 + k.val) := fun x => by
    show min ((i 2).val - ((emb b) x).val / 256) 2 = _; rw [hemb]; omega
  have hv : ∀ d x, ldV i x2 k (ix5 0 0 0 d x) = value x2 d (emb b x) := fun d x => by
    unfold value; rw [hrow, hblk]; exact ld_V i x2 k x d b hb
  have s0 : ∀ x, HS (k0_pay2 i (BitVec.ofNat 32 (i 2).val) k0_pay32 (lo (i 2).val) 1#32 k) (k0_pay31 v0) (ldK i x1 k) (ldB0 i x3 k) (ix2 x r)
      = score i x0 x1 x3 0 r (emb b x) := fun x => by
    rw [HS_apply]; unfold score
    simp only [ok_iff, hemb]
    refine if_congr Iff.rfl ?_ rfl
    rw [hrow, ld_B0 i x3 k x r _ (htile x)]
    refine congrArg (· + _) (Finset.sum_congr rfl fun d _ => ?_)
    rw [hqk, h0, ld_K i x1 k x d _ (hemb x)]
  have s1 : ∀ x, HS (k0_pay2 i (BitVec.ofNat 32 (i 2).val) k0_pay32 (lo (i 2).val) 1#32 k) (k0_pay31 v3) (ldK i x1 k) (ldB1 i x3 k) (ix2 x r)
      = score i x0 x1 x3 1 r (emb b x) := fun x => by
    rw [HS_apply]; unfold score
    simp only [ok_iff, hemb]
    refine if_congr Iff.rfl ?_ rfl
    rw [hrow, ld_B1 i x3 k x r _ (htile x)]
    refine congrArg (· + _) (Finset.sum_congr rfl fun d _ => ?_)
    rw [hqk, h3, ld_K i x1 k x d _ (hemb x)]
  exact ⟨lane_max s0 a1, lane_den s0 a1 hd a2, fun d => lane_num s0 a1 hd (hv d) (a3 d),
    lane_max s1 a4, lane_den s1 a4 hd a5, fun d => lane_num s1 a4 hd (hv d) (a6 d)⟩

theorem inv_init : Inv i x0 x1 x2 x3 (keys ((i 2).val - 2) ((i 2).val - 2 + 0))
    (k0_pay33, k0_pay34, k0_pay35, k0_pay36, k0_pay37, k0_pay38) := by
  intro r
  rw [Nat.add_zero, keys_self]
  refine ⟨?_, ?_, fun d => ?_, ?_, ?_, fun d => ?_⟩
  all_goals (pointwise [k0_pay33, k0_pay34, k0_pay35, k0_pay36, k0_pay37, k0_pay38, mask_bot]; try simp [den, num])
end
end Cert.KernelIdeal.Win
end
-- ==== Proof.Out.lean ====
/- What one grid point of the kernel leaves in its output block: for each head, feature and query column, the weighted
   sum of all keys' values over the sum of their weights. -/
module
public import proofs.«01_k».proof.Proof.Loop
@[expose] public section
set_option maxRecDepth 16384
noncomputable section
namespace Cert.KernelIdeal.Win
open Cert.KernelIdeal Cert.KernelIdeal.Gen Idealize.ShloMosaic Cert.Proof.Online
open Idealize.ShloMosaic.TcCoe Idealize.SL.Sem Idealize.ShloMosaic.Tactic

section
variable (c : Dev nD) (i : grid0.Coords) (arg3 : Memref sig .tc .vmem S1x2x64x256 .f32) (harg3 : arg3.IsWhole) (arg4 : Memref sig .tc .vmem S1x1x2048x64 .f32) (harg4 : arg4.IsWhole) (arg5 : Memref sig .tc .vmem S1x1x8x64x256 .f32) (harg5 : arg5.IsWhole) (arg6 : Memref sig .tc .vmem S2x3x256x256 .f32) (harg6 : arg6.IsWhole) (arg7 : Memref sig .tc .vmem S1x2x64x256 .f32) (harg7 : arg7.IsWhole)
  (x0 : Vec Ideal S1x2x64x256 .f32) (x1 : Vec Ideal S1x1x2048x64 .f32) (x2 : Vec Ideal S1x1x8x64x256 .f32) (x3 : Vec Ideal S2x3x256x256 .f32)

/-- The two heads' queries, as the body loads them. -/
abbrev ldQ0 : Vec Ideal S1x1x64x256 .f32 := View.ld x0 (Rect.unit (s := S1x2x64x256) ![0, 0, 0, 0] S1x1x64x256.size (by decide))
abbrev ldQ1 : Vec Ideal S1x1x64x256 .f32 := View.ld x0 (Rect.unit (s := S1x2x64x256) ![0, 1, 0, 0] S1x1x64x256.size (by decide))

/-- The carried values before trip `n`. -/
def st (n : Nat) : Carry :=
  st_k0_t1 (F := Ideal) Variants.none c none i arg3 harg3 arg4 harg4 arg5 harg5 arg6 harg6 arg7 harg7 (BitVec.ofNat 32 (i 2).val)
    (ldQ0 x0) (ldQ1 x0) (lo (i 2).val) (harg4.unread x1) (harg5.unread x2) (harg6.unread x3)
    (k0_pay33, k0_pay34, k0_pay35, k0_pay36, k0_pay37, k0_pay38) n

/-- … and after both loops: the second makes no trip. -/
def fin : Carry :=
  st_k0_t2 (F := Ideal) Variants.none c none i arg3 harg3 arg4 harg4 arg5 harg5 arg6 harg6 arg7 harg7 (BitVec.ofNat 32 (i 2).val)
    (ldQ0 x0) (ldQ1 x0) (k0_t1_loop i).ub (harg4.unread x1) (harg5.unread x2) (harg6.unread x3)
    (st c i arg3 harg3 arg4 harg4 arg5 harg5 arg6 harg6 arg7 harg7 x0 x1 x2 x3 (k0_t1_loop i).trips) (k0_t2_loop i).trips

theorem trips2 (i : grid0.Coords) : (k0_t2_loop i).trips = 0 := by
  have h : ∀ q : Fin 8, (Scf.trips (Scalar.addi (lo q.val) (Scalar.muli (Scalar.divsi (Scalar.subi (Scalar.addi (BitVec.ofNat 32 q.val) 1#32) (lo q.val)) 1#32) 1#32))
    (Scalar.addi (lo q.val) (Scalar.subi (Scalar.addi (BitVec.ofNat 32 q.val) 1#32) (lo q.val))) 1#32) = 0 := by decide +kernel
  exact h (i 2)

theorem fin_eq : fin c i arg3 harg3 arg4 harg4 arg5 harg5 arg6 harg6 arg7 harg7 x0 x1 x2 x3
    = st c i arg3 harg3 arg4 harg4 arg5 harg5 arg6 harg6 arg7 harg7 x0 x1 x2 x3 (k0_t1_loop i).trips := by
  unfold fin
  rw [trips2]
  rfl

theorem out_eq : out0_A_4 (F := Ideal) c i arg3 harg3 arg4 harg4 arg5 harg5 arg6 harg6 arg7 harg7 x0 x1 x2 x3
    = View.canon (Val := Elt Ideal) (s := S1x2x64x256) (e := .f32)
      [⟨Rect.unit (s := S1x2x64x256) ![0, 1, 0, 0] S1x1x64x256.size (by decide),
        k0_pay1 (fin c i arg3 harg3 arg4 harg4 arg5 harg5 arg6 harg6 arg7 harg7 x0 x1 x2 x3).2.2.2.2.1 (fin c i arg3 harg3 arg4 harg4 arg5 harg5 arg6 harg6 arg7 harg7 x0 x1 x2 x3).2.2.2.2.2⟩,
       ⟨Rect.unit (s := S1x2x64x256) ![0, 0, 0, 0] S1x1x64x256.size (by decide),
        k0_pay41 (fin c i arg3 harg3 arg4 harg4 arg5 harg5 arg6 harg6 arg7 harg7 x0 x1 x2 x3).2.1 (fin c i arg3 harg3 arg4 harg4 arg5 harg5 arg6 harg6 arg7 harg7 x0 x1 x2 x3).2.2.1⟩] := by
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  simp only [View.readAt_eq_ld, harg3.read_unread]
  rfl

theorem inv_st : ∀ n ≤ (k0_t1_loop i).trips, Inv i x0 x1 x2 x3 (keys ((i 2).val - 2) ((i 2).val - 2 + n))
    (st c i arg3 harg3 arg4 harg4 arg5 harg5 arg6 harg6 arg7 harg7 x0 x1 x2 x3 n)
  | 0, _ => inv_init i x0 x1 x2 x3
  | n + 1, h => by
    have ih := inv_st n (Nat.le_of_succ_le h)
    have hq : (i 2).val < 8 := (i 2).isLt
    have hn := trip_lt i ⟨n, h⟩
    dsimp only at hn
    have hstep : st c i arg3 harg3 arg4 harg4 arg5 harg5 arg6 harg6 arg7 harg7 x0 x1 x2 x3 (n + 1)
        = trip i x1 x2 x3 ⟨n, h⟩ (BitVec.ofNat 32 (i 2).val) (lo (i 2).val) (ldQ0 x0) (ldQ1 x0)
          (st c i arg3 harg3 arg4 harg4 arg5 harg5 arg6 harg6 arg7 harg7 x0 x1 x2 x3 n) := by
      unfold st
      exact (st_k0_t1_succ Variants.none c none i arg3 harg3 arg4 harg4 arg5 harg5 arg6 harg6 arg7 harg7 _ _ _ _ _ _ _ _ ⟨n, h⟩).trans
        (tripR_eq ..)
    rw [hstep]
    have hk : keys ((i 2).val - 2) ((i 2).val - 2 + (n + 1)) = keys ((i 2).val - 2) ((i 2).val - 2 + n) ∪ Finset.univ.map (emb ⟨(i 2).val - 2 + n, by omega⟩) :=
      keys_succ _ ⟨(i 2).val - 2 + n, by omega⟩ (Nat.le_add_right _ _)
    rw [hk]
    refine inv_trip i x0 x1 x2 x3 ⟨n, h⟩ ⟨(i 2).val - 2 + n, by omega⟩ rfl (fun d r => ?_) (fun d r => ?_) (keys_disj _ _) ih
    · exact ld_at x0 _ _ _ _ _ rfl (fun a => by fin_cases a <;> first | rfl | exact (Nat.zero_add _).symm)
    · exact ld_at x0 _ _ _ _ _ rfl (fun a => by fin_cases a <;> first | rfl | exact (Nat.zero_add _).symm)

theorem tiny : ∃ e : ℝ, 0 < e ∧ Ideal.ofBits .f32 0x0DA24260#32 = (e : EReal) := by
  refine ⟨10633824 * 2 ^ (-123 : ℤ), by positivity, ?_⟩
  simp [Ideal.ofBits, Ideal.ieee]

/-- The smallest number the kernel divides by. -/
def eps : EReal := Ideal.ofBits .f32 0x0DA24260#32

/-- What the block holds, whichever the copies of it the body was given. -/
def blockOut (h : Fin 2) (d : Fin 64) (r : Fin 256) : EReal :=
  Ideal.div (num (score i x0 x1 x3 h r) (value x2 d) Finset.univ) (max (den (score i x0 x1 x3 h r) Finset.univ) eps)

theorem inv_fin : Inv i x0 x1 x2 x3 (keys ((i 2).val - 2) ((i 2).val + 1)) (fin c i arg3 harg3 arg4 harg4 arg5 harg5 arg6 harg6 arg7 harg7 x0 x1 x2 x3) := by
  rw [fin_eq]
  have h := inv_st c i arg3 harg3 arg4 harg4 arg5 harg5 arg6 harg6 arg7 harg7 x0 x1 x2 x3 _ (le_refl (k0_t1_loop i).trips)
  have : (i 2).val - 2 + (k0_t1_loop i).trips = (i 2).val + 1 := by rw [trips1]; omega
  rwa [this] at h

theorem out_of_keys (h : Fin 2) (r : Fin 256) (K : Fin 2048) (hK : K ∉ keys ((i 2).val - 2) ((i 2).val + 1)) :
    score i x0 x1 x3 h r K = ⊥ := by
  unfold score
  refine if_neg fun hh => hK ?_
  unfold keys
  rw [Finset.mem_filter]
  have := r.isLt
  exact ⟨Finset.mem_univ _, by omega⟩

theorem pay1_apply (l : FVec Ideal S1x256 .f32) (a : FVec Ideal S64x256 .f32) (d : Fin 64) (r : Fin 256) :
    k0_pay1 l a (ix4 0 0 d r) = Ideal.div (a (ix2 d r)) (max (l (ix2 0 r)) eps) := by
  pointwise [k0_pay1]
  rfl

theorem pay41_apply (l : FVec Ideal S1x256 .f32) (a : FVec Ideal S64x256 .f32) (d : Fin 64) (r : Fin 256) :
    k0_pay41 l a (ix4 0 0 d r) = Ideal.div (a (ix2 d r)) (max (l (ix2 0 r)) eps) := by
  pointwise [k0_pay41]
  rfl

theorem emb_at {h : Fin 2} {inb} (d : Fin 64) (r : Fin 256) :
    (Rect.unit (s := S1x2x64x256) ![0, h.val, 0, 0] S1x1x64x256.size inb).emb (ix4 (0 : Fin 1) (0 : Fin 1) d r) = ix4 0 h d r := by
  funext a
  refine Fin.ext ?_
  fin_cases a
  · rfl
  · show h.val + 1 * 0 = h.val; omega
  · show 0 + 1 * d.val = d.val; omega
  · show 0 + 1 * r.val = r.val; omega

theorem out_apply (h : Fin 2) (d : Fin 64) (r : Fin 256) :
    out0_A_4 (F := Ideal) c i arg3 harg3 arg4 harg4 arg5 harg5 arg6 harg6 arg7 harg7 x0 x1 x2 x3 (ix4 0 h d r) = blockOut i x0 x1 x2 x3 h d r := by
  have hf := inv_fin c i arg3 harg3 arg4 harg4 arg5 harg5 arg6 harg6 arg7 harg7 x0 x1 x2 x3
  rw [out_eq]
  generalize fin c i arg3 harg3 arg4 harg4 arg5 harg5 arg6 harg6 arg7 harg7 x0 x1 x2 x3 = C at hf
  refine View.canon_apply_of_pieces (Val := Elt Ideal) (S := S1x2x64x256) (e := .f32)
    (fun y => blockOut i x0 x1 x2 x3 (y 1) (y 2) (y 3)) _ ?_ _ ?_
  · intro p hp
    rw [List.mem_cons, List.mem_singleton] at hp
    rcases hp with rfl | rfl
    · intro y
      change S1x1x64x256.Idx at y
      idx_vars y
      obtain rfl : y0 = 0 := Subsingleton.elim _ _
      obtain rfl : y1 = 0 := Subsingleton.elim _ _
      rw [show (Rect.unit (s := S1x2x64x256) ![0, 1, 0, 0] S1x1x64x256.size _).emb (ix4 (0 : Fin 1) (0 : Fin 1) y2 y3) = ix4 0 1 y2 y3 from emb_at (h := 1) y2 y3]
      refine (pay1_apply _ _ _ _).trans ?_
      obtain ⟨_, _, _, _, h5, h6⟩ := hf y3
      rw [h5, h6, den_subset _ (out_of_keys i x0 x1 x3 1 y3), num_subset _ _ (out_of_keys i x0 x1 x3 1 y3)]
      rfl
    · intro y
      change S1x1x64x256.Idx at y
      idx_vars y
      obtain rfl : y0 = 0 := Subsingleton.elim _ _
      obtain rfl : y1 = 0 := Subsingleton.elim _ _
      rw [show (Rect.unit (s := S1x2x64x256) ![0, 0, 0, 0] S1x1x64x256.size _).emb (ix4 (0 : Fin 1) (0 : Fin 1) y2 y3) = ix4 0 0 y2 y3 from emb_at (h := 0) y2 y3]
      refine (pay41_apply _ _ _ _).trans ?_
      obtain ⟨_, h2, h3, _⟩ := hf y3
      rw [h2, h3, den_subset _ (out_of_keys i x0 x1 x3 0 y3), num_subset _ _ (out_of_keys i x0 x1 x3 0 y3)]
      rfl
  · fin_cases h
    · refine ⟨_, List.mem_cons_of_mem _ (List.mem_singleton.2 rfl), ?_⟩
      rw [Rect.mem_set_unit]
      intro a
      have := d.isLt; have := r.isLt
      fin_cases a
      · exact ⟨le_refl _, Nat.one_pos⟩
      · exact ⟨le_refl _, Nat.one_pos⟩
      · show 0 ≤ d.val ∧ d.val < 0 + 64; omega
      · show 0 ≤ r.val ∧ r.val < 0 + 256; omega
    · refine ⟨_, List.mem_cons_self .., ?_⟩
      rw [Rect.mem_set_unit]
      intro a
      have := d.isLt; have := r.isLt
      fin_cases a
      · exact ⟨le_refl _, Nat.one_pos⟩
      · exact ⟨le_refl _, Nat.lt_succ_self _⟩
      · show 0 ≤ d.val ∧ d.val < 0 + 64; omega
      · show 0 ≤ r.val ∧ r.val < 0 + 256; omega
end
end Cert.KernelIdeal.Win
end
-- ==== Proof.Arr.lean ====
/- The kernel's whole result, each entry from the arrays its windows read. -/
module
public import proofs.«01_k».proof.Proof.Out
public import proofs.«01_k».proof.Proof.Gen.KernelIdeal.Value
public import Idealize.ShloMosaic.Lib.Pipeline.ValueKit
@[expose] public section
set_option maxRecDepth 16384
noncomputable section
namespace Cert.KernelIdeal.Win
open Cert.KernelIdeal Cert.KernelIdeal.Gen Idealize.ShloMosaic Cert.Proof.Online
open Idealize.ShloMosaic.TcCoe Idealize.SL.Sem Idealize.ShloMosaic.Tactic

/-- The key and value head that a query head reads. -/
def kvHead (h : Fin 8) : Fin 2 := ⟨h.val / 4, by omega⟩
def lane (Q : Fin 2048) : Fin 256 := ⟨Q.val % 256, Nat.mod_lt _ (by decide)⟩

section
variable (qT : FVec Ideal S4x8x64x2048 .f32) (kA : FVec Ideal S4x2x2048x64 .f32) (vT : FVec Ideal S4x2x8x64x256 .f32)
  (bt : FVec Ideal S8x3x256x256 .f32)

def scoreA (b : Fin 4) (h : Fin 8) (Q K : Fin 2048) : EReal :=
  if K.val ≤ Q.val ∧ Q.val < K.val + 512 then
    (∑ d : Fin 64, kA (ix4 b (kvHead h) K d) * qT (ix4 b h d Q)) + bt (ix4 h (tile (Q.val / 256) K) (row K) (lane Q))
  else ⊥

def valueA (b : Fin 4) (h : Fin 8) (d : Fin 64) (K : Fin 2048) : EReal := vT (ix5 b (kvHead h) (blkOf K) d (row K))

def arrOut (b : Fin 4) (h : Fin 8) (d : Fin 64) (Q : Fin 2048) : EReal :=
  Ideal.div (num (scoreA qT kA bt b h Q) (valueA vT b h d) Finset.univ) (max (den (scoreA qT kA bt b h Q) Finset.univ) eps)
end

variable (m : (ℓ : Loc nD τ sig) → Buf (Elt Ideal) ℓ)

theorem idx0 : ∀ t : Fin cfg0.N, win0_0.index t = ![(grid0.coords t 0).val, (grid0.coords t 1).val, 0, (grid0.coords t 2).val] :=
  (by decide +kernel : ∀ t : Fin grid0.N, _)
theorem idx1 : ∀ t : Fin cfg0.N, win0_1.index t = ![(grid0.coords t 0).val, (grid0.coords t 1).val / 2, 0, 0] :=
  (by decide +kernel : ∀ t : Fin grid0.N, _)
theorem idx2 : ∀ t : Fin cfg0.N, win0_2.index t = ![(grid0.coords t 0).val, (grid0.coords t 1).val / 2, 0, 0, 0] :=
  (by decide +kernel : ∀ t : Fin grid0.N, _)
theorem idx3 : ∀ t : Fin cfg0.N, win0_3.index t = ![(grid0.coords t 1).val, 0, 0, 0] :=
  (by decide +kernel : ∀ t : Fin grid0.N, _)
theorem idx4 : ∀ t : Fin cfg0.N, win0_4.index t = ![(grid0.coords t 0).val, (grid0.coords t 1).val, 0, (grid0.coords t 2).val] :=
  (by decide +kernel : ∀ t : Fin grid0.N, _)

section reads
variable (c : Dev nD) (t : Fin cfg0.N)

theorem read0 (x : Fin 2) (d : Fin 64) (r : Fin 256) (B : Fin 4) (H : Fin 8) (Q : Fin 2048) (hB : B.val = ((grid0.coords t) 0).val)
    (hH : H.val = 2 * ((grid0.coords t) 1).val + x.val) (hQ : Q.val = 256 * ((grid0.coords t) 2).val + r.val) :
    iblk m c 0 t (ix4 0 x d r) = V m c main_v54 (ix4 B H d Q) := by
  blk_simp [iblk]
  refine congrArg (V m c main_v54) (funext fun a => Fin.ext ?_)
  fin_cases a <;> blk_simp [idx0 t]
  · exact hB.symm
  · exact (congrArg (· + x.val) (Nat.mul_comm _ _)).trans hH.symm
  · rfl
  · exact (congrArg (· + r.val) (Nat.mul_comm _ _)).trans hQ.symm

theorem read1 (K : Fin 2048) (d : Fin 64) (B : Fin 4) (H : Fin 8) (x : Fin 2) (hB : B.val = ((grid0.coords t) 0).val)
    (hH : H.val = 2 * ((grid0.coords t) 1).val + x.val) :
    iblk m c 1 t (ix4 0 0 K d) = V m c main_v57 (ix4 B (kvHead H) K d) := by
  have hk : (kvHead H).val = ((grid0.coords t) 1).val / 2 := by unfold kvHead; show H.val / 4 = _; omega
  blk_simp [iblk]
  refine congrArg (V m c main_v57) (funext fun a => Fin.ext ?_)
  fin_cases a <;> blk_simp [idx1 t]
  · exact hB.symm
  · exact hk.symm
  all_goals rfl

theorem read2 (K : Fin 8) (d : Fin 64) (r : Fin 256) (B : Fin 4) (H : Fin 8) (x : Fin 2) (hB : B.val = ((grid0.coords t) 0).val)
    (hH : H.val = 2 * ((grid0.coords t) 1).val + x.val) :
    iblk m c 2 t (ix5 0 0 K d r) = V m c main_v60 (ix5 B (kvHead H) K d r) := by
  have hk : (kvHead H).val = ((grid0.coords t) 1).val / 2 := by unfold kvHead; show H.val / 4 = _; omega
  blk_simp [iblk]
  refine congrArg (V m c main_v60) (funext fun a => Fin.ext ?_)
  fin_cases a <;> blk_simp [idx2 t]
  · exact hB.symm
  · exact hk.symm
  all_goals rfl

theorem read3 (e : Fin 3) (k r : Fin 256) (H : Fin 8) (x : Fin 2) (hH : H.val = 2 * ((grid0.coords t) 1).val + x.val) :
    iblk m c 3 t (ix4 x e k r) = V m c main_v50 (ix4 H e k r) := by
  blk_simp [iblk]
  refine congrArg (V m c main_v50) (funext fun a => Fin.ext ?_)
  fin_cases a <;> blk_simp [idx3 t]
  · exact (congrArg (· + x.val) (Nat.mul_comm _ _)).trans hH.symm
  all_goals rfl

theorem block_eq (x : Fin 2) (d : Fin 64) (r : Fin 256) (B : Fin 4) (H : Fin 8) (D : Fin 64) (Q : Fin 2048)
    (hB : B.val = ((grid0.coords t) 0).val) (hH : H.val = 2 * ((grid0.coords t) 1).val + x.val) (hD : D.val = d.val)
    (hQ : Q.val = 256 * ((grid0.coords t) 2).val + r.val) :
    blockOut (grid0.coords t) (iblk m c 0 t) (iblk m c 1 t) (iblk m c 2 t) (iblk m c 3 t) x d r
      = arrOut (V m c main_v54) (V m c main_v57) (V m c main_v60) (V m c main_v50) B H D Q := by
  obtain rfl : D = d := Fin.ext hD
  have hr : lane Q = r := Fin.ext (by show Q.val % 256 = r.val; omega)
  have hq : ((grid0.coords t) 2).val = Q.val / 256 := by omega
  have hs : score (grid0.coords t) (iblk m c 0 t) (iblk m c 1 t) (iblk m c 3 t) x r
      = scoreA (V m c main_v54) (V m c main_v57) (V m c main_v50) B H Q := by
    funext K
    unfold score scoreA
    refine if_congr (by rw [hQ]) (congrArg₂ (· + ·) (Finset.sum_congr rfl fun e _ => congrArg₂ (· * ·) ?_ ?_) ?_) rfl
    · exact read1 m c t K e B H x hB hH
    · exact read0 m c t x e r B H Q hB hH hQ
    · rw [hr, ← hq]; exact read3 m c t _ _ r H x hH
  have hv : value (iblk m c 2 t) D = valueA (V m c main_v60) B H D := by
    funext K
    exact read2 m c t _ D _ B H x hB hH
  unfold blockOut arrOut
  rw [hs, hv]
end reads

theorem arr_eq (c : Dev nD) : (dats m 0 c).arrAt 4 cfg0.N
    = fun y : S4x8x64x2048.Idx => arrOut (V m c main_v54) (V m c main_v57) (V m c main_v60) (V m c main_v50) (y 0) (y 1) (y 2) (y 3) := by
  refine (dats m 0 c).arrAt_eq_of_covers 4 _ (by decide +kernel) fun t hf y => ?_
  blk_simp
  rw [after0_4]
  unfold outsAt0
  change S1x2x64x256.Idx at y
  idx_vars y
  obtain rfl : y0 = 0 := Subsingleton.elim _ _
  rw [out_apply]
  refine block_eq m c t y1 y2 y3 _ _ _ _ ?_ ?_ ?_ ?_
  · blk_simp [idx4 t]; rfl
  · blk_simp [idx4 t]; exact congrArg (· + y1.val) (Nat.mul_comm _ _)
  · blk_simp [idx4 t]
  · blk_simp [idx4 t]; exact congrArg (· + y3.val) (Nat.mul_comm _ _)
end Cert.KernelIdeal.Win
end
-- ==== Proof.Bucket.lean ====
/- The bucket of a distance between a query and a key: small distances each their own, larger ones by their logarithm, at
   most 31. Both programs compute it with the same operations; here, that it is always one of the 32 rows of the table. -/
module
public import proofs.«01_k».proof.Proof.Online
@[expose] public section
noncomputable section
namespace Cert.Proof.Bucket
open Idealize.ShloMosaic

/-- The logarithmic part, before it is cut at 31: `n` is the distance, at least 1. -/
def large (n : BitVec 32) : EReal :=
  (Ideal.div (Ideal.log (Ideal.div (((n.toInt : ℝ) : EReal)) (Ideal.ofBits .f32 1098907648#32))) (Ideal.ofBits .f32 1074075026#32) : EReal)
    * (Ideal.ofBits .f32 1098907648#32 : EReal)

def bucketW (x : BitVec 32) : BitVec 32 :=
  Scalar.select (IntOp.cmpi .slt (IntOp.maxsi x 0#32) 16#32) (IntOp.maxsi x 0#32)
    (IntOp.minsi (IntOp.addi 16#32 (FloatOps.fptosi (F := Ideal) (φ := .f32) 32 (large (IntOp.maxsi (IntOp.maxsi x 0#32) 1#32)))) 31#32)

theorem c16 : (Ideal.ofBits .f32 1098907648#32 : EReal) = ((16 : ℝ) : EReal) := by
  simp [Ideal.ofBits, Ideal.ieee]
  norm_cast
  norm_num

theorem cLog : ∃ c : ℝ, 2 ≤ c ∧ (Ideal.ofBits .f32 1074075026#32 : EReal) = (c : EReal) := by
  refine ⟨8721810 * 2 ^ (-22 : ℤ), by norm_num, ?_⟩
  simp [Ideal.ofBits, Ideal.ieee]

theorem large_eq (n : BitVec 32) (h : 16 ≤ n.toInt) : ∃ r : ℝ, 0 ≤ r ∧ r ≤ (n.toInt : ℝ) / 2 ∧ large n = (r : EReal) := by
  obtain ⟨c, hc, hcl⟩ := cLog
  have h16 : (16 : ℝ) ≤ (n.toInt : ℝ) := by exact_mod_cast h
  have hpos : (0 : ℝ) < (n.toInt : ℝ) * (1 / 16) := by linarith
  refine ⟨Real.log ((n.toInt : ℝ) * (1 / 16)) * (1 / c) * 16, ?_, ?_, ?_⟩
  · have := Real.log_nonneg (show (1 : ℝ) ≤ (n.toInt : ℝ) * (1 / 16) by linarith)
    positivity
  · have h1 := Real.log_le_sub_one_of_pos hpos
    have h0 := Real.log_nonneg (show (1 : ℝ) ≤ (n.toInt : ℝ) * (1 / 16) by linarith)
    have hi : 1 / c ≤ 1 / 2 := one_div_le_one_div_of_le (by norm_num) hc
    have : Real.log ((n.toInt : ℝ) * (1 / 16)) * (1 / c) ≤ Real.log ((n.toInt : ℝ) * (1 / 16)) * (1 / 2) :=
      mul_le_mul_of_nonneg_left hi h0
    linarith
  · unfold large
    rw [c16, hcl, Ideal.div_coe (show (16 : ℝ) ≠ 0 by norm_num), ← EReal.coe_mul, Ideal.log_coe, if_neg (not_le.2 hpos), Ideal.div_coe (show c ≠ 0 by linarith), ← EReal.coe_mul, ← EReal.coe_mul]

theorem slt_iff' (x y : BitVec 32) : IntOp.cmpi .slt x y = 1#1 ↔ x.toInt < y.toInt := by
  unfold IntOp.cmpi
  rw [← BitVec.slt_iff_toInt_lt]
  show BitVec.ofBool (x.slt y) = 1#1 ↔ _
  cases x.slt y <;> simp

theorem toInt_max (a b : BitVec 32) : (IntOp.maxsi a b).toInt = max a.toInt b.toInt := by
  unfold IntOp.maxsi
  split <;> rename_i h <;> rw [BitVec.slt_iff_toInt_lt] at h <;> omega

theorem toInt_min (a b : BitVec 32) : (IntOp.minsi a b).toInt = min a.toInt b.toInt := by
  unfold IntOp.minsi
  split <;> rename_i h <;> rw [BitVec.slt_iff_toInt_lt] at h <;> omega

theorem toInt_lt' (x : BitVec 32) : x.toInt < 2147483648 := by
  have := x.toInt_lt; norm_num at this; exact this

/-- Every distance falls in one of the 32 buckets. -/
theorem bucket_lt (x : BitVec 32) : 0 ≤ (bucketW x).toInt ∧ (bucketW x).toInt < 32 := by
  have z0 : (0#32).toInt = 0 := by decide
  have z1 : (1#32).toInt = 1 := by decide
  have z16 : (16#32).toInt = 16 := by decide
  have z31 : (31#32).toInt = 31 := by decide
  have hx := toInt_max x 0#32
  by_cases h : IntOp.cmpi .slt (IntOp.maxsi x 0#32) 16#32 = 1#1
  · rw [show bucketW x = IntOp.maxsi x 0#32 from if_pos h]
    have h := (slt_iff' _ _).1 h
    rw [z16] at h
    rw [z0] at hx
    omega
  · rw [show bucketW x = (IntOp.minsi (IntOp.addi 16#32 (FloatOps.fptosi (F := Ideal) (φ := .f32) 32 (large (IntOp.maxsi (IntOp.maxsi x 0#32) 1#32)))) 31#32) from if_neg h]
    rw [slt_iff', z16] at h
    rw [z0] at hx
    have hn := toInt_max (IntOp.maxsi x 0#32) 1#32
    rw [z1] at hn
    obtain ⟨r, hr0, hr1, hr⟩ := large_eq (IntOp.maxsi (IntOp.maxsi x 0#32) 1#32) (by omega)
    rw [hr]
    have hf : (FloatOps.fptosi (F := Ideal) (φ := .f32) 32 (r : EReal)) = BitVec.ofInt 32 ⌊r⌋ := by
      show BitVec.ofInt 32 (max _ (min _ (if 0 ≤ r then ⌊r⌋ else ⌈r⌉))) = _
      rw [if_pos hr0]
      have hb : ⌊r⌋ ≤ (IntOp.maxsi (IntOp.maxsi x 0#32) 1#32).toInt := by
        have : (⌊r⌋ : ℝ) ≤ ((IntOp.maxsi (IntOp.maxsi x 0#32) 1#32).toInt : ℝ) := (Int.floor_le r).trans (by linarith)
        exact_mod_cast this
      have hb' := toInt_lt' (IntOp.maxsi (IntOp.maxsi x 0#32) 1#32)
      have h0 : 0 ≤ ⌊r⌋ := Int.floor_nonneg.2 hr0
      congr 1
      norm_num
      omega
    have h0 : 0 ≤ ⌊r⌋ := Int.floor_nonneg.2 hr0
    have hb : ⌊r⌋ ≤ 1073741824 := by
      have hb' : ((IntOp.maxsi (IntOp.maxsi x 0#32) 1#32).toInt : ℝ) ≤ 2147483648 := by exact_mod_cast (toInt_lt' _).le
      have : (⌊r⌋ : ℝ) ≤ (1073741824 : ℝ) := (Int.floor_le r).trans (by linarith)
      exact_mod_cast this
    rw [toInt_min, hf, z31]
    have ha : (IntOp.addi 16#32 (BitVec.ofInt 32 ⌊r⌋)).toInt = 16 + ⌊r⌋ := by
      show (16#32 + BitVec.ofInt 32 ⌊r⌋).toInt = _
      rw [BitVec.toInt_add, BitVec.toInt_ofInt, z16]
      unfold Int.bmod
      dsimp only
      split <;> split <;> omega
    rw [ha]
    omega

/-- The row of the table, as an index. -/
def bucketF (x : BitVec 32) : Fin 32 := ⟨(bucketW x).toInt.toNat, by have := bucket_lt x; omega⟩

theorem bucketW_eq (x : BitVec 32) : bucketW x = BitVec.ofNat 32 (bucketF x).val := by
  have := bucket_lt x
  refine BitVec.eq_of_toInt_eq ?_
  have hb : (bucketF x).val = (bucketW x).toInt.toNat := rfl
  rw [BitVec.toInt_ofNat', hb]
  unfold Int.bmod
  dsimp only
  split <;> omega

/-- Picking the row by comparing with every row's number. -/
theorem pick (x : BitVec 32) (f : Fin 32 → EReal) :
    ∑ b : Fin 32, f b * (FloatOps.uitofp (F := Ideal) .f32 (IntOp.cmpi .eq (bucketW x) (BitVec.ofNat 32 b.val))) = f (bucketF x) := by
  rw [Finset.sum_eq_single (bucketF x)]
  · rw [← bucketW_eq]
    have : IntOp.cmpi .eq (bucketW x) (bucketW x) = 1#1 := by unfold IntOp.cmpi; simp
    rw [this]
    show f _ * (((1#1).toNat : ℝ) : EReal) = _
    simp
  · intro b _ hb
    have : IntOp.cmpi .eq (bucketW x) (BitVec.ofNat 32 b.val) = 0#1 := by
      unfold IntOp.cmpi
      rw [bucketW_eq]
      have : (BitVec.ofNat 32 (bucketF x).val == BitVec.ofNat 32 b.val) = false := by
        rw [beq_eq_false_iff_ne]
        intro h
        have h := congrArg BitVec.toNat h
        rw [BitVec.toNat_ofNat, BitVec.toNat_ofNat] at h
        exact hb (Fin.ext (by omega))
      show BitVec.ofBool (_ == _) = _
      rw [this]; rfl
    rw [this]
    show f _ * (((0#1).toNat : ℝ) : EReal) = _
    simp
  · intro h; exact absurd (Finset.mem_univ _) h
end Cert.Proof.Bucket
end
-- ==== Proof.Host.lean ====
/- The arrays the kernel's windows read, entry by entry from the arguments: the host code before the region transposes the
   queries (and scales them by 1/8), the keys and the values, and spreads the bias table over three tiles. -/
module
public import proofs.«01_k».proof.Proof.Arr
public import proofs.«01_k».proof.Proof.Bucket
@[expose] public section
set_option maxRecDepth 16384
noncomputable section
namespace Cert.KernelIdeal.Win
open Cert.KernelIdeal Cert.KernelIdeal.Gen Idealize.ShloMosaic Cert.Proof.Online Cert.Proof.Bucket
open Idealize.ShloMosaic.TcCoe Idealize.SL.Sem Idealize.ShloMosaic.Tactic
variable (m : (ℓ : Loc nD τ sig) → Buf (Elt Ideal) ℓ) (c : Dev nD)

/-- The four arguments. -/
abbrev A0 : FVec Ideal S4x2048x512 .f32 := m ((c.tc : Thread nD τ).loc main_arg0)
abbrev A1 : FVec Ideal S4x2048x2x64 .f32 := m ((c.tc : Thread nD τ).loc main_arg1)
abbrev A2 : FVec Ideal S4x2048x2x64 .f32 := m ((c.tc : Thread nD τ).loc main_arg2)
abbrev A3 : FVec Ideal S32x8 .f32 := m ((c.tc : Thread nD τ).loc main_arg3)

def feat (h : Fin 8) (d : Fin 64) : Fin 512 := ⟨h.val * 64 + d.val, by omega⟩

theorem Vq (b : Fin 4) (h : Fin 8) (d : Fin 64) (Q : Fin 2048) :
   (V m c main_v54 : FVec Ideal S4x8x64x2048 .f32) (ix4 b h d Q) = A0 m c (ix3 b Q (feat h d)) * Ideal.ofBits .f32 0x3E000000#32 := by
  simp only [V, hostOps0, hostOps0_1, hostOps0_2, List.flatten_cons, List.flatten_nil, List.append_nil, List.cons_append, List.nil_append]
  after_results
  pointwise
  rfl
theorem Vk (b : Fin 4) (g : Fin 2) (d : Fin 64) (K : Fin 2048)  :
   (V m c main_v57 : FVec Ideal S4x2x2048x64 .f32) (ix4 b g K d) = A1 m c (ix4 b K g d) := by
  simp only [V, hostOps0, hostOps0_1, hostOps0_2, List.flatten_cons, List.flatten_nil, List.append_nil, List.cons_append, List.nil_append]
  after_results
  pointwise
  have h1 : ∀ h, (⟨(g.val * 64 + d.val) / 64, h⟩ : Fin 2) = g := fun h => Fin.ext (by dsimp only; omega)
  have h2 : ∀ h, (⟨(g.val * 64 + d.val) % 64, h⟩ : Fin 64) = d := fun h => Fin.ext (by dsimp only; omega)
  rw [h1, h2]
theorem Vv (b : Fin 4) (g : Fin 2) (d : Fin 64) (j : Fin 8) (x : Fin 256) (K : Fin 2048) (hx : K.val = 256 * j.val + x.val) :
   (V m c main_v60 : FVec Ideal S4x2x8x64x256 .f32) (ix5 b g j d x) = A2 m c (ix4 b K g d) := by
  simp only [V, hostOps0, hostOps0_1, hostOps0_2, List.flatten_cons, List.flatten_nil, List.append_nil, List.cons_append, List.nil_append]
  after_results
  pointwise
  have h1 : ∀ h, (⟨(g.val * 64 + d.val) / 64, h⟩ : Fin 2) = g := fun h => Fin.ext (by dsimp only; omega)
  have h2 : ∀ h, (⟨(g.val * 64 + d.val) % 64, h⟩ : Fin 64) = d := fun h => Fin.ext (by dsimp only; omega)
  have h3 : ∀ h, (⟨j.val * 256 + x.val, h⟩ : Fin 2048) = K := fun h => Fin.ext (by dsimp only; omega)
  rw [h1, h2, h3]

/-- The distances of one tile: queries `w` after the keys. -/
def piece (w : BitVec 32) : IVec S1x256x256 32 :=
  broadcastInDim S1x256x256 ![1, 2] bcast_S256x256_S1x256x256_1_2
    (subi (broadcastInDim S256x256 ![0, 1] bcast_S1x256_S256x256_0_1
        (addi (broadcastInDim S1x256 ![] bcast_S_S1x256 (constantI S_ 32 w)) (broadcastInDim S1x256 ![1] bcast_S256_S1x256_1 (iotaInDim S256 32 0))))
      (broadcastInDim S256x256 ![0, 1] bcast_S256x1_S256x256_0_1 (broadcastInDim S256x1 ![0] bcast_S256_S256x1_0 (iotaInDim S256 32 0))))

def dists : IVec S3x256x256 32 :=
  concatenate S3x256x256 0 [⟨S1x256x256, piece 0#32⟩, ⟨S1x256x256, piece 256#32⟩, ⟨S1x256x256, piece 512#32⟩]
    concatenates_S1x256x256_S1x256x256_S1x256x256_S3x256x256_d0

theorem dists_apply (e : Fin 3) (x r : Fin 256) :
    dists (ix3 e x r) = BitVec.ofNat 32 (256 * e.val) + BitVec.ofNat 32 r.val - BitVec.ofNat 32 x.val := by
  unfold dists
  fin_cases e <;> pointwise [piece] <;> rfl

/-- The buckets of a whole vector of distances, as the host code computes them. -/
def bucketV (v : IVec S3x256x256 32) : IVec S3x256x256 32 :=
  let n := maxsi v (broadcastInDim S3x256x256 ![] bcast_S_S3x256x256 (constantI S_ 32 0#32))
  let n1 := maxsi n (broadcastInDim S3x256x256 ![] bcast_S_S3x256x256 (constantI S_ 32 1#32))
  let f : FVec Ideal S3x256x256 .f32 := Host.divf (sitofp .f32 n1) (broadcastInDim S3x256x256 ![] bcast_S_S3x256x256 (constant S_ FTy.f32 1098907648#32))
  let g : FVec Ideal S3x256x256 .f32 := mulf (Host.divf (Host.log f) (broadcastInDim S3x256x256 ![] bcast_S_S3x256x256 (constant S_ FTy.f32 1074075026#32)))
    (broadcastInDim S3x256x256 ![] bcast_S_S3x256x256 (constant S_ FTy.f32 1098907648#32))
  select (cmpi .slt n (broadcastInDim S3x256x256 ![] bcast_S_S3x256x256 (constantI S_ 32 16#32))) n
    (minsi (addi (broadcastInDim S3x256x256 ![] bcast_S_S3x256x256 (constantI S_ 32 16#32)) (fptosi 32 g))
      (broadcastInDim S3x256x256 ![] bcast_S_S3x256x256 (constantI S_ 32 31#32)))

theorem V42 : (V m c main_v42 : IVec S3x256x256 32) = bucketV dists := by
  simp only [V, hostOps0, hostOps0_1, hostOps0_2, List.flatten_cons, List.flatten_nil, List.append_nil, List.cons_append, List.nil_append]
  after_results
  rfl

theorem bucketV_apply (v : IVec S3x256x256 32) (e : Fin 3) (x r : Fin 256) : bucketV v (ix3 e x r) = bucketW (v (ix3 e x r)) := by
  pointwise [bucketV]
  rfl

theorem Vb (h : Fin 8) (e : Fin 3) (x r : Fin 256) :
   (V m c main_v50 : FVec Ideal S8x3x256x256 .f32) (ix4 h e x r)
    = A3 m c (ix2 (bucketF (BitVec.ofNat 32 (256 * e.val) + BitVec.ofNat 32 r.val - BitVec.ofNat 32 x.val)) h) := by
  have hv : (V m c main_v50 : FVec Ideal S8x3x256x256 .f32) = Host.dotGeneral dot_S32x8_S3x256x256x32_S8x3x256x256_0_3_1_012_n_n (some .fp32) (A3 m c)
     (uitofp .f32 (cmpi .eq (broadcastInDim S3x256x256x32 ![0, 1, 2, 3] bcast_S3x256x256x1_S3x256x256x32_0_1_2_3 (broadcastInDim S3x256x256x1 ![0, 1, 2] bcast_S3x256x256_S3x256x256x1_0_1_2 (V m c main_v42)))
        (broadcastInDim S3x256x256x32 ![0, 1, 2, 3] bcast_S1x1x1x32_S3x256x256x32_0_1_2_3 (broadcastInDim S1x1x1x32 ![3] bcast_S32_S1x1x1x32_3 (iotaInDim S32 32 0))))) := by
    rw [V42]
    simp only [V, hostOps0, hostOps0_1, hostOps0_2, List.flatten_cons, List.flatten_nil, List.append_nil, List.cons_append, List.nil_append]
    after_results
    rfl
  rw [hv, V42]
  pointwise
  rw [bucketV_apply, dists_apply]
  exact pick _ fun b => A3 m c (ix2 b h)
end Cert.KernelIdeal.Win
end
-- ==== Proof.Ref.lean ====
/- The reference, entry by entry: its masked scores, its softmax and its weighted sum of the values. -/
module
public import proofs.«01_k».proof.Proof.Host
public import proofs.«01_k».proof.Proof.Gen.ReferenceIdeal.Read
public import Idealize.ShloMosaic.Lib.Pipeline.ValueKit
@[expose] public section
set_option maxRecDepth 16384
noncomputable section
namespace Cert.ReferenceIdeal.Win
open Cert.ReferenceIdeal Cert.ReferenceIdeal.Gen Cert.ReferenceIdeal.Read Idealize.ShloMosaic Cert.Proof.Online Cert.Proof.Bucket
open Idealize.ShloMosaic.TcCoe Idealize.SL.Sem Idealize.ShloMosaic.Tactic
variable (x0 : FVec Ideal S4x2048x512 .f32) (x1 x2 : FVec Ideal S4x2048x2x64 .f32) (x3 : FVec Ideal S32x8 .f32)

/-- The distance from a key to a query. -/
theorem dist_eq (Q K : Fin 2048) : val_main_v6 (F := Ideal) (ix2 Q K) = BitVec.ofNat 32 Q.val - BitVec.ofNat 32 K.val := by
  pointwise [val_main_v6, val_main_v5, val_main_v4, val_main_v3, val_main_v2, val_main_v1]
  try rfl

theorem ok_eq (Q K : Fin 2048) : val_main_v11 (F := Ideal) (ix2 Q K)
    = IntOp.andi (IntOp.cmpi .sge (BitVec.ofNat 32 Q.val - BitVec.ofNat 32 K.val) 0#32) (IntOp.cmpi .slt (BitVec.ofNat 32 Q.val - BitVec.ofNat 32 K.val) 512#32) := by
  rw [← dist_eq]
  pointwise [val_main_v11, val_main_v10, val_main_v9, val_main_v8, val_main_v7, val_main_c, val_main_c_0]
  try rfl

theorem bucket_eq (Q K : Fin 2048) : val_main_v34 (F := Ideal) (ix2 Q K) = bucketW (BitVec.ofNat 32 Q.val - BitVec.ofNat 32 K.val) := by
  rw [← dist_eq]
  pointwise [val_main_v34, val_main_v33, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v32,
    val_main_c_1, val_main_c_2, val_main_c_5, val_main_c_6, val_main_c_7, val_main_cst, val_main_cst_3, val_main_cst_4]
  try rfl

/-- A bucket is not negative, so the wrapping of negative indices leaves it. -/
theorem wrapped_eq (Q K : Fin 2048) (z : Fin 1) : val_main_v45 (F := Ideal) (ix3 Q z K) = BitVec.ofNat 32 (bucketF (BitVec.ofNat 32 Q.val - BitVec.ofNat 32 K.val)).val := by
  rw [← bucketW_eq, ← bucket_eq]
  pointwise [val_main_v45, val_main_v44, val_main_v43, val_main_v42, val_main_v41, val_main_v35, val_main_c_10, val_main_c_11]
  unfold Scalar.select
  rw [if_neg]
  intro h
  have h' : IntOp.cmpi CmpIPredicate.slt (val_main_v34 (F := Ideal) (ix2 Q K)) 0#32 = 1#1 := h
  rw [bucket_eq, slt_iff'] at h'
  have := (bucket_lt (BitVec.ofNat 32 Q.val - BitVec.ofNat 32 K.val)).1
  rw [show (0#32 : BitVec 32).toInt = 0 from by decide] at h'
  omega

theorem head_eq (h : Fin 8) (z z' : Fin 1) : val_main_v40 (F := Ideal) (ix3 z h z') = BitVec.ofNat 32 h.val := by
  pointwise [val_main_v40, val_main_v39, val_main_v38, val_main_v37, val_main_v36, val_main_v14, val_main_v13, val_main_c_8, val_main_c_9]
  revert h; decide

/-- Two arrays joined along the last axis: its first entry is the first array's … -/
theorem joined_left (x y : IVec S2048x8x2048x1 32) (Q K : Fin 2048) (h : Fin 8) :
    concatenate S2048x8x2048x2 3 [⟨S2048x8x2048x1, x⟩, ⟨S2048x8x2048x1, y⟩] concatenates_S2048x8x2048x1_S2048x8x2048x1_S2048x8x2048x2_d3
      (ix4 Q h K (0 : Fin 2)) = x (ix4 Q h K (0 : Fin 1)) :=
  concatenate_pair_apply_left (t := S2048x8x2048x2) (s₁ := S2048x8x2048x1) (s₂ := S2048x8x2048x1) 3 x y _ _ rfl (ix4 Q h K (0 : Fin 1)) fun b => by
    match b with
    | ⟨0, _⟩ => rfl
    | ⟨1, _⟩ => rfl
    | ⟨2, _⟩ => rfl
    | ⟨3, _⟩ => rfl

/-- … and its second the second's. -/
theorem joined_right (x y : IVec S2048x8x2048x1 32) (Q K : Fin 2048) (h : Fin 8) :
    concatenate S2048x8x2048x2 3 [⟨S2048x8x2048x1, x⟩, ⟨S2048x8x2048x1, y⟩] concatenates_S2048x8x2048x1_S2048x8x2048x1_S2048x8x2048x2_d3
      (ix4 Q h K (1 : Fin 2)) = y (ix4 Q h K (0 : Fin 1)) :=
  concatenate_pair_apply_right (t := S2048x8x2048x2) (s₁ := S2048x8x2048x1) (s₂ := S2048x8x2048x1) 3 x y _ _ rfl rfl (ix4 Q h K (0 : Fin 1)) (fun b hb => by
    match b with
    | ⟨0, _⟩ => rfl
    | ⟨1, _⟩ => rfl
    | ⟨2, _⟩ => rfl
    | ⟨3, _⟩ => exact absurd rfl hb) rfl

/-- The two columns of the table's indices: the head and the bucket. -/
theorem idx_head (Q K : Fin 2048) (h : Fin 8) : val_main_v50 (F := Ideal) (ix4 Q h K (0 : Fin 2)) = BitVec.ofNat 32 h.val := by
  rw [← head_eq h 0 0]
  unfold val_main_v50
  rw [joined_left]
  pointwise [val_main_v48, val_main_v46]
  try rfl

theorem idx_bucket (Q K : Fin 2048) (h : Fin 8) :
    val_main_v50 (F := Ideal) (ix4 Q h K (1 : Fin 2)) = BitVec.ofNat 32 (bucketF (BitVec.ofNat 32 Q.val - BitVec.ofNat 32 K.val)).val := by
  rw [← wrapped_eq Q K 0]
  unfold val_main_v50
  rw [joined_right]
  pointwise [val_main_v49, val_main_v47]
  try rfl

/-- The table read at a head and a bucket given as numbers. -/
theorem gather_eq (x : FVec Ideal S8x32 .f32) (idx : IVec S2048x8x2048x2 32) (Q K : Fin 2048) (h h' : Fin 8) (t : Fin 32)
    (e0 : idx (ix4 Q h K (0 : Fin 2)) = BitVec.ofNat 32 h'.val) (e1 : idx (ix4 Q h K (1 : Fin 2)) = BitVec.ofNat 32 t.val) :
    Host.gather gather_S8x32_S2048x8x2048x2_S2048x8x2048_n_01_n_n_01_3_11 x idx (ix3 Q h K) = x (ix2 h' t) := by
  unfold Host.gather
  refine congrArg x (funext fun a => Fin.ext ?_)
  have key : ∀ a : Fin 2, ∀ n : Nat, n < 2147483648 → n ≤ S8x32.size a - 1 → idx (ix4 Q h K a) = BitVec.ofNat 32 n →
      GatherDims.start gather_S8x32_S2048x8x2048x2_S2048x8x2048_n_01_n_n_01_3_11 (ix3 Q h K) idx a
        + GatherDims.batchCoord gather_S8x32_S2048x8x2048x2_S2048x8x2048_n_01_n_n_01_3_11 (ix3 Q h K) a
        + GatherDims.offCoord gather_S8x32_S2048x8x2048x2_S2048x8x2048_n_01_n_n_01_3_11 (ix3 Q h K) a = n := by
    intro a n hn hle e
    have hc : a ∈ (gather_S8x32_S2048x8x2048x2_S2048x8x2048_n_01_n_n_01_3_11).collapsedSliceDims := by
      show a ∈ ([0, 1] : List (Fin 2))
      fin_cases a <;> simp
    have hm : a ∈ (gather_S8x32_S2048x8x2048x2_S2048x8x2048_n_01_n_n_01_3_11).startIndexMap := hc
    rw [GatherDims.batchCoord_eq_zero _ _ _ List.not_mem_nil,
      GatherDims.offCoord_eq_zero _ _ _ (fun hk => ((GatherDims.mem_sKept _ _).mp hk).1 hc)]
    simp only [Nat.add_zero]
    unfold GatherDims.start
    rw [dif_pos hm]
    have hsi : GatherDims.siIdx gather_S8x32_S2048x8x2048x2_S2048x8x2048_n_01_n_n_01_3_11 (ix3 Q h K)
        ⟨List.idxOf a (gather_S8x32_S2048x8x2048x2_S2048x8x2048_n_01_n_n_01_3_11).startIndexMap, List.idxOf_lt_length_iff.2 hm⟩ = ix4 Q h K a := by
      funext b
      refine Fin.ext ?_
      match b with
      | ⟨0, _⟩ => rfl
      | ⟨1, _⟩ => rfl
      | ⟨2, _⟩ => rfl
      | ⟨3, _⟩ => fin_cases a <;> rfl
    rw [hsi, e, Cert.KernelIdeal.Win.toInt_small n hn]
    show min ((n : Int)).toNat (S8x32.size a - (![1, 1] : Fin 2 → Nat) a) = n
    have h1 : (![1, 1] : Fin 2 → Nat) a = 1 := by fin_cases a <;> rfl
    rw [h1]
    omega
  match a with
  | ⟨0, _⟩ => exact key 0 h'.val (by omega) (by have := h'.isLt; show h'.val ≤ 8 - 1; omega) e0
  | ⟨1, _⟩ => exact key 1 t.val (by omega) (by have := t.isLt; show t.val ≤ 32 - 1; omega) e1

theorem bias_eq (Q K : Fin 2048) (h : Fin 8) :
    val_main_v51 (F := Ideal) x3 (ix3 Q h K) = x3 (ix2 (bucketF (BitVec.ofNat 32 Q.val - BitVec.ofNat 32 K.val)) h) := by
  unfold val_main_v51
  rw [gather_eq _ _ Q K h h _ (idx_head Q K h) (idx_bucket Q K h)]
  pointwise [val_main_v12]
  try rfl

/-- The reference's score. -/
def score (b : Fin 4) (h : Fin 8) (Q K : Fin 2048) : EReal :=
  if K.val ≤ Q.val ∧ Q.val < K.val + 512 then
    (∑ d : Fin 64, (x1 (ix4 b K ⟨h.val / 4, by omega⟩ d) : EReal) * x0 (ix3 b Q ⟨h.val * 64 + d.val, by omega⟩)) * (Ideal.ofBits .f32 0x3E000000#32 : EReal)
      + x3 (ix2 (bucketF (BitVec.ofNat 32 Q.val - BitVec.ofNat 32 K.val)) h)
  else ⊥

theorem dot_eq (b : Fin 4) (h : Fin 8) (Q K : Fin 2048) :
    val_main_v54 (F := Ideal) x0 x1 (ix4 b Q h K) = ∑ d : Fin 64, (x1 (ix4 b K ⟨h.val / 4, by omega⟩ d) : EReal) * x0 (ix3 b Q ⟨h.val * 64 + d.val, by omega⟩) := by
  pointwise [val_main_v54, val_main_v53, val_main_v52, val_main_v0]
  refine Finset.sum_congr rfl fun d _ => ?_
  have e : ∀ hh, (⟨h.val / 4 * 256 + h.val % 4 * 64 + d.val, hh⟩ : Fin 512) = ⟨h.val * 64 + d.val, by omega⟩ := fun hh => Fin.ext (by dsimp only; omega)
  rw [e]

theorem ok_iff (Q K : Fin 2048) : val_main_v11 (F := Ideal) (ix2 Q K) = 1#1 ↔ K.val ≤ Q.val ∧ Q.val < K.val + 512 := by
  have hd := Cert.KernelIdeal.Win.dist_word Q.val K.val 0 (by omega) (by omega) (by omega)
  rw [show BitVec.ofNat 32 0 = 0#32 from rfl, BitVec.add_zero] at hd
  rw [ok_eq, Cert.KernelIdeal.Win.andi_iff, Cert.KernelIdeal.Win.sge_iff, Cert.KernelIdeal.Win.slt_iff, hd,
    show (0#32 : BitVec 32).toInt = 0 from by decide, show (512#32 : BitVec 32).toInt = 512 from by decide]
  omega

theorem score_eq (b : Fin 4) (h : Fin 8) (Q K : Fin 2048) : val_main_v61 (F := Ideal) x0 x1 x3 (ix4 b Q h K) = score x0 x1 x3 b h Q K := by
  unfold score
  rw [← dot_eq, ← bias_eq x3]
  have e : val_main_v61 (F := Ideal) x0 x1 x3 (ix4 b Q h K) = Scalar.select (val_main_v11 (F := Ideal) (ix2 Q K))
      ((val_main_v54 (F := Ideal) x0 x1 (ix4 b Q h K) : EReal) * (Ideal.ofBits .f32 0x3E000000#32 : EReal) + val_main_v51 (F := Ideal) x3 (ix3 Q h K) : EReal)
      (Ideal.ofBits .f32 0xFF800000#32) := by
    pointwise [val_main_v61, val_main_v60, val_main_v59, val_main_v58, val_main_v57, val_main_v56, val_main_v55, val_main_call1_v0, val_main_call1_v1,
      val_main_call1_v2, val_main_cst_12, val_main_cst_13]
    try rfl
  rw [e, Cert.KernelIdeal.Win.neg_inf]
  unfold Scalar.select
  by_cases hc : K.val ≤ Q.val ∧ Q.val < K.val + 512
  · rw [if_pos hc]; exact if_pos ((ok_iff Q K).2 hc)
  · rw [if_neg hc]; exact if_neg (fun h => hc ((ok_iff Q K).1 h))

theorem max_eq (b : Fin 4) (h : Fin 8) (Q : Fin 2048) :
    val_main_v62 (F := Ideal) x0 x1 x3 (ix3 b Q h) = Finset.univ.sup fun K : Fin 2048 => (val_main_v61 (F := Ideal) x0 x1 x3 (ix4 b Q h K) : EReal) := by
  pointwise [val_main_v62]
  have e : val_main_cst_14 (F := Ideal) (Shape.Idx.first h_S_) = (⊥ : EReal) := Cert.KernelIdeal.Win.neg_inf
  rw [e]
  exact Cert.KernelIdeal.Win.sup_fold _

/-- Whether an extended real is finite decides a selection. -/
theorem select_finite (M : EReal) :
    Scalar.select (FloatOps.cmpf (F := Ideal) (φ := .f32) .olt (FloatOps.hostAbsf (F := Ideal) (φ := .f32) M) (FloatOps.ofBits (F := Ideal) .f32 0x7F800000#32)) M
      (FloatOps.ofBits (F := Ideal) .f32 0x00000000#32) = if max M (-M) < ⊤ then M else (0 : EReal) := by
  have h1 : (Ideal.ofBits FTy.f32 0x7F800000#32 : EReal) = ⊤ := by simp [Ideal.ofBits, Ideal.ieee]
  have h0 : (Ideal.ofBits FTy.f32 0x00000000#32 : EReal) = 0 := by simp [Ideal.ofBits, Ideal.ieee]
  show Scalar.select (Ideal.cmp .olt (max M (-M)) (Ideal.ofBits FTy.f32 0x7F800000#32)) M (Ideal.ofBits FTy.f32 0x00000000#32) = _
  rw [h1, h0]
  unfold Scalar.select Ideal.cmp
  by_cases h : max M (-M) < ⊤
  · rw [if_pos h]; simp [h]
  · rw [if_neg h]; simp [h]

/-- The maximum the weights are taken against: zero in place of one that is not finite. -/
theorem safe_eq (b : Fin 4) (h : Fin 8) (Q : Fin 2048) (z : Fin 1) (M : EReal) (hM : val_main_v62 (F := Ideal) x0 x1 x3 (ix3 b Q h) = M) :
    val_main_v67 (F := Ideal) x0 x1 x3 (ix4 b Q h z) = if max M (-M) < ⊤ then M else (0 : EReal) := by
  have e : val_main_v63 (F := Ideal) x0 x1 x3 (ix4 b Q h z) = M := by
    rw [val_main_v63_apply, ← hM]
    refine congrArg _ (funext fun a => ?_)
    match a with
    | ⟨0, _⟩ => rfl
    | ⟨1, _⟩ => rfl
    | ⟨2, _⟩ => rfl
  rw [val_main_v67_apply, val_main_v66_apply, val_main_v64_apply, e, val_main_v65_apply, val_main_cst_15_apply, val_main_call2_v1_apply,
    val_main_call2_v0_apply, val_main_cst_16_apply]
  exact select_finite M

theorem smMax_eq (b : Fin 4) (h : Fin 8) (Q : Fin 2048) (z : Fin 1) :
    val_main_v67 (F := Ideal) x0 x1 x3 (ix4 b Q h z) = smMax (score x0 x1 x3 b h Q) := by
  have e : val_main_v62 (F := Ideal) x0 x1 x3 (ix3 b Q h) = Finset.univ.sup (score x0 x1 x3 b h Q) := by
    rw [max_eq]
    exact congrArg _ (funext fun K => score_eq x0 x1 x3 b h Q K)
  rw [safe_eq x0 x1 x3 b h Q z _ e]
  rfl

theorem weight_eq (b : Fin 4) (h : Fin 8) (Q K : Fin 2048) :
    val_main_v70 (F := Ideal) x0 x1 x3 (ix4 b Q h K) = wt (score x0 x1 x3 b h Q K) (smMax (score x0 x1 x3 b h Q)) := by
  rw [← smMax_eq x0 x1 x3 b h Q 0, ← score_eq]
  pointwise [val_main_v70, val_main_v69, val_main_v68]
  try rfl

theorem total_eq (b : Fin 4) (h : Fin 8) (Q : Fin 2048) :
    val_main_v71 (F := Ideal) x0 x1 x3 (ix3 b Q h) = ∑ K, wt (score x0 x1 x3 b h Q K) (smMax (score x0 x1 x3 b h Q)) := by
  pointwise [val_main_v71]
  have e : val_main_cst_17 (F := Ideal) (Shape.Idx.first h_S_) = (0 : EReal) := by
    show (Ideal.ofBits FTy.f32 0#32 : EReal) = 0
    simp [Ideal.ofBits, Ideal.ieee]
  rw [e, zero_add]
  exact Finset.sum_congr rfl fun K _ => weight_eq x0 x1 x3 b h Q K

theorem prob_eq (b : Fin 4) (h : Fin 8) (Q K : Fin 2048) :
    val_main_v76 (F := Ideal) x0 x1 x3 (ix4 b Q h K) = Ideal.div (wt (score x0 x1 x3 b h Q K) (smMax (score x0 x1 x3 b h Q)))
      (max (∑ K, wt (score x0 x1 x3 b h Q K) (smMax (score x0 x1 x3 b h Q))) (Ideal.ofBits .f32 0x0DA24260#32)) := by
  rw [← total_eq, ← weight_eq]
  pointwise [val_main_v76, val_main_v75, val_main_v74, val_main_v73, val_main_v72, val_main_cst_18]
  try rfl

theorem result_eq (b : Fin 4) (h : Fin 8) (d : Fin 64) (Q : Fin 2048) :
    val_main_v81 (F := Ideal) x0 x1 x2 x3 (ix4 b h d Q)
      = ∑ K, (x2 (ix4 b K ⟨h.val / 4, by omega⟩ d) : EReal) * Ideal.div (wt (score x0 x1 x3 b h Q K) (smMax (score x0 x1 x3 b h Q)))
          (max (∑ K, wt (score x0 x1 x3 b h Q K) (smMax (score x0 x1 x3 b h Q))) (Ideal.ofBits .f32 0x0DA24260#32)) := by
  pointwise [val_main_v81, val_main_v80, val_main_v79, val_main_v78, val_main_v77]
  exact Finset.sum_congr rfl fun K _ => by rw [prob_eq]
end Cert.ReferenceIdeal.Win
end
-- ==== Proof.Meet.lean ====
/- The kernel's array and the reference's are the same function of the arguments: the two scores of a query and a key agree
   (the factor 1/8 on the query comes out of the sum, and a tile's distance is the query's position less the key's), and
   a running softmax's quotient is the plain softmax's average. -/
module
public import proofs.«01_k».proof.Proof.Ref
@[expose] public section
set_option maxRecDepth 16384
noncomputable section
namespace Cert.Proof.Meet
open Idealize.ShloMosaic Cert.Proof.Online Cert.Proof.Bucket Cert.KernelIdeal.Win Cert.KernelIdeal.Gen Idealize.SL.Sem
variable (m : (ℓ : Loc Cert.KernelIdeal.nD Cert.KernelIdeal.τ Cert.KernelIdeal.sig) → Buf (Elt Ideal) ℓ) (c : Dev Cert.KernelIdeal.nD)

theorem eighth : (Ideal.ofBits .f32 0x3E000000#32 : EReal) = ((1 / 8 : ℝ) : EReal) := by
  simp [Ideal.ofBits, Ideal.ieee]
  norm_cast
  norm_num

/-- The distance a tile's bias is taken at is the distance of the query and the key. -/
theorem word_eq (Q K : Fin 2048) (h1 : K.val ≤ Q.val) (h2 : Q.val < K.val + 512) :
    BitVec.ofNat 32 (256 * (tile (Q.val / 256) K).val) + BitVec.ofNat 32 (lane Q).val - BitVec.ofNat 32 (row K).val
      = BitVec.ofNat 32 Q.val - BitVec.ofNat 32 K.val := by
  have ht : (tile (Q.val / 256) K).val = Q.val / 256 - K.val / 256 := by
    show min (Q.val / 256 - K.val / 256) 2 = _
    omega
  have hl : (lane Q).val = Q.val % 256 := rfl
  have hr : (row K).val = K.val % 256 := rfl
  have e0 := dist_word Q.val K.val 0 (by omega) (by omega) (by omega)
  rw [show BitVec.ofNat 32 0 = 0#32 from rfl, BitVec.add_zero] at e0
  have e1 := dist_word (256 * (tile (Q.val / 256) K).val + (lane Q).val) (row K).val 0 (by omega) (by omega) (by omega)
  rw [show BitVec.ofNat 32 0 = 0#32 from rfl, BitVec.add_zero] at e1
  apply BitVec.eq_of_toInt_eq
  rw [e0, ← BitVec.ofNat_add, e1, ht, hl, hr]
  omega

theorem score_meet (b : Fin 4) (h : Fin 8) (Q : Fin 2048) :
    scoreA (V m c Cert.KernelIdeal.main_v54) (V m c Cert.KernelIdeal.main_v57) (V m c Cert.KernelIdeal.main_v50) b h Q
      = Cert.ReferenceIdeal.Win.score (A0 m c) (A1 m c) (A3 m c) b h Q := by
  funext K
  unfold scoreA Cert.ReferenceIdeal.Win.score
  by_cases hc : K.val ≤ Q.val ∧ Q.val < K.val + 512
  · rw [if_pos hc, if_pos hc, Vb, word_eq Q K hc.1 hc.2, eighth, mul_comm (Finset.sum _ _), mul_sum (by exact_mod_cast (by norm_num : (0:ℝ) ≤ 1/8)) (EReal.coe_ne_top _)]
    refine congrArg₂ (· + ·) (Finset.sum_congr rfl fun d _ => ?_) rfl
    rw [Vq, Vk, eighth, ← mul_assoc, mul_comm]
    rfl
  · rw [if_neg hc, if_neg hc]

theorem value_meet (b : Fin 4) (h : Fin 8) (d : Fin 64) :
    valueA (V m c Cert.KernelIdeal.main_v60) b h d = fun K => A2 m c (ix4 b K ⟨h.val / 4, by omega⟩ d) := by
  funext K
  unfold valueA
  exact Vv m c b (kvHead h) d (blkOf K) (row K) K (by show K.val = 256 * (K.val / 256) + K.val % 256; omega)

theorem meet (b : Fin 4) (h : Fin 8) (d : Fin 64) (Q : Fin 2048) :
    arrOut (V m c Cert.KernelIdeal.main_v54) (V m c Cert.KernelIdeal.main_v57) (V m c Cert.KernelIdeal.main_v60) (V m c Cert.KernelIdeal.main_v50) b h d Q
      = Cert.ReferenceIdeal.Read.val_main_v81 (F := Ideal) (A0 m c) (A1 m c) (A2 m c) (A3 m c) (ix4 b h d Q) := by
  rw [Cert.ReferenceIdeal.Win.result_eq]
  unfold arrOut
  rw [score_meet, value_meet]
  obtain ⟨e, he, hee⟩ := tiny
  have hq := quotient (Cert.ReferenceIdeal.Win.score (A0 m c) (A1 m c) (A3 m c) b h Q) (fun K => (A2 m c (ix4 b K ⟨h.val / 4, by omega⟩ d) : EReal)) he
  unfold eps
  rw [hee, hq]
  exact Finset.sum_congr rfl fun K _ => mul_comm _ _

end Cert.Proof.Meet
end
-- ==== Proof.Block.lean ====
/-
  The body that the three programs with a normalised matrix product share, over any machine: `block` is its text as a sequence
  of loads and stores. It leaves its three inputs as they were, the scratch holding the normalised block of rows (computed at
  the first column block, kept at the others), and the result's buffer holding the scratch's rows times the weights' columns.
-/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Pipeline.ValueKit
public import Idealize.ShloMosaic.Lib.WritesUnit

@[expose] public section

set_option maxRecDepth 16384

noncomputable section

namespace Cert.Block

open Cert.Kernel3Ideal (S512x2048 S1x2048 S2048x512 S512x512 S512x256 S2048x256)
open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section AnyFloat

variable {F : FTy → Type} [FloatOps F] {nD : Nat} {τ : Topo} {sig : RefSig} {Λ : Labels}

/-- The body: where `i`, the column block, is the first, the rows are normalised into the scratch; then two half-width products. -/
def block (i : BitVec 32) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x2048 .bf16) (harg6 : arg6.IsWhole) :
    Prog (TpuEff nD τ sig (Elt F) Λ .tc) PUnit := do
  let arg1 : BitVec 32 := i
  let v0 : BitVec 1 := Scalar.cmpi .eq arg1 0#32
  let v1 : BitVec 32 := Scalar.extui v0
  let v2 : BitVec 1 := Scalar.cmpi .ne v1 0#32
  if k0_h1 : v2 = 1#1 then do
    let v13 : Vec F S512x2048 .f32 ← Prog.lift (.load arg2 (Rect.unit (s := S512x2048) ![0, 0] S512x2048.size inb_S512x2048_S512x2048_0_0).toLoadRect (View.loadsAt_vmem h_S512x2048))
    let v24 : Vec F S1x2048 .f32 ← Prog.lift (.load arg3 (Rect.unit (s := S1x2048) ![0, 0] S1x2048.size inb_S1x2048_S1x2048_0_0).toLoadRect (View.loadsAt_vmem h_S1x2048))
    let v29 : Vec F S512x2048 .bf16 ← Prog.lift (.load arg6 (Rect.unit (s := S512x2048) ![0, 0] S512x2048.size inb_S512x2048_S512x2048_0_0).toLoadRect (View.loadsAt_vmem h_S512x2048))
    Prog.lift (.store arg6 (Rect.unit (s := S512x2048) ![0, 0] S512x2048.size inb_S512x2048_S512x2048_0_0) (k0_pay1 v13 v24) Finset.univ (View.stores_vmem h_S512x2048 (harg6.storeExact_slice rfl _ packedbf16_S512x2048_S512x2048_0_0) (fun _ => rfl)) (.inl rfl))
    pure ⟨⟩
  else do
    pure ⟨⟩
  let v3 : Vec F S512x2048 .bf16 ← Prog.lift (.load arg6 (Rect.unit (s := S512x2048) ![0, 0] S512x2048.size inb_S512x2048_S512x2048_0_0).toLoadRect (View.loadsAt_vmem h_S512x2048))
  let v4 : Vec F S2048x256 .bf16 ← Prog.lift (.load arg4 (Rect.unit (s := S2048x512) ![0, 0] S2048x256.size inb_S2048x512_S2048x256_0_0).toLoadRect (View.loadsAt_vmem h_S2048x256))
  let v7 : Vec F S512x256 .f32 ← Prog.lift (.load arg5 (Rect.unit (s := S512x512) ![0, 0] S512x256.size inb_S512x512_S512x256_0_0).toLoadRect (View.loadsAt_vmem h_S512x256))
  Prog.lift (.store arg5 (Rect.unit (s := S512x512) ![0, 0] S512x256.size inb_S512x512_S512x256_0_0) (k0_pay2 v3 v4) Finset.univ (View.stores_vmem_bits_univ h_S512x256 rfl) (.inl rfl))
  let v8 : Vec F S512x2048 .bf16 ← Prog.lift (.load arg6 (Rect.unit (s := S512x2048) ![0, 0] S512x2048.size inb_S512x2048_S512x2048_0_0).toLoadRect (View.loadsAt_vmem h_S512x2048))
  let v9 : Vec F S2048x256 .bf16 ← Prog.lift (.load arg4 (Rect.unit (s := S2048x512) ![0, 256] S2048x256.size inb_S2048x512_S2048x256_0_256).toLoadRect (View.loadsAt_vmem h_S2048x256))
  let v12 : Vec F S512x256 .f32 ← Prog.lift (.load arg5 (Rect.unit (s := S512x512) ![0, 256] S512x256.size inb_S512x512_S512x256_0_256).toLoadRect (View.loadsAt_vmem h_S512x256))
  Prog.lift (.store arg5 (Rect.unit (s := S512x512) ![0, 256] S512x256.size inb_S512x512_S512x256_0_256) (k0_pay3 v8 v9) Finset.univ (View.stores_vmem_bits_univ h_S512x256 rfl) (.inl rfl))
  pure ⟨⟩

local notation "𝕄" => MT nD τ sig Unit (Elt F) ℕ (UR sig nD τ) ℕ

/-- The word the body branches on: is this the first column block? -/
abbrev first (i : BitVec 32) : BitVec 1 :=
  Scalar.cmpi .ne (Scalar.extui (Scalar.cmpi .eq i 0#32)) 0#32

set_option maxHeartbeats 1000000 in
/-- At the first column block: the scratch is overwritten by the normalised rows. -/
noncomputable def runFirst (D : Defs nD τ sig (Elt F) Λ) (c : Dev nD) (i : BitVec 32) (hc : first i = 1#1)
    (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x2048 .bf16) (harg6 : arg6.IsWhole)
    (x0 : Vec F S512x2048 .f32) (x1 : Vec F S1x2048 .f32) (x2 : Vec F S2048x512 .bf16) (s : Vec F S512x2048 .bf16) :
    { L : List (View.Piece (Elt F) S512x512 .f32) × List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (D) Variants.none c none) E (block i arg2 harg2 arg3 harg3 arg4 harg4 arg5 harg5 arg6 harg6) K } := by
  refine ⟨(?_, [⟨Rect.unit (s := S512x2048) ![0, 0] S512x2048.size inb_S512x2048_S512x2048_0_0,
    k0_pay1 (arg2.view.readAt (Elt F) (Rect.unit (s := S512x2048) ![0, 0] S512x2048.size inb_S512x2048_S512x2048_0_0).toLoadRect (harg2.unread x0))
      (arg3.view.readAt (Elt F) (Rect.unit (s := S1x2048) ![0, 0] S1x2048.size inb_S1x2048_S1x2048_0_0).toLoadRect (harg3.unread x1))⟩]), fun E K => ?run⟩
  case run =>
    unfold block
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; iexact H3
    iexists (harg6.unread s); iexact H4

set_option maxHeartbeats 1000000 in
/-- At a later column block: the scratch is kept. -/
noncomputable def runLater (D : Defs nD τ sig (Elt F) Λ) (c : Dev nD) (i : BitVec 32) (hc : ¬ first i = 1#1)
    (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x2048 .bf16) (harg6 : arg6.IsWhole)
    (x0 : Vec F S512x2048 .f32) (x1 : Vec F S1x2048 .f32) (x2 : Vec F S2048x512 .bf16) (s : Vec F S512x2048 .bf16) :
    { L : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)
                ∗ owns (c : Thread nD τ) arg6 fullShare s) -∗ K ⟨⟩))
          ⊢ wp frame (wpE (D) Variants.none c none) E (block i arg2 harg2 arg3 harg3 arg4 harg4 arg5 harg5 arg6 harg6) K } := by
  refine ⟨?_, fun E K => ?run⟩
  case run =>
    unfold block
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; iexact H3
    iexists _; isplitr; · ipureintro; exact harg6.read_unread _
    iexact H4

/-- A whole view's cells at some contents are that buffer at some contents. -/
theorem some_owns (c : Dev nD) {S : Shape} {e : EltTy} (arg : Memref sig .tc .vmem S e) (f : Buf (Elt F) (arg.view.loc (c : Thread nD τ))) :
    (arg.view.loc (c : Thread nD τ) ↦[arg.view.set]{fullShare} f : sProp 𝕄) ⊢ iprop(∃ d, owns (c : Thread nD τ) arg fullShare d) := by
  unfold owns
  iintro H
  iexists (arg.view.read (Elt F) f)
  iexists f
  isplitr
  · ipureintro; rfl
  iexact H

/-- The body's triple with the scratch at anything before and after. -/
theorem body_any (D : Defs nD τ sig (Elt F) Λ) (c : Dev nD) (i : BitVec 32)
    (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x2048 .bf16) (harg6 : arg6.IsWhole)
    (x0 : Vec F S512x2048 .f32) (x1 : Vec F S1x2048 .f32) (x2 : Vec F S2048x512 .bf16) (s : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)) -∗ K ⟨⟩))
      ⊢ wp frame (wpE (D) Variants.none c none) E (block i arg2 harg2 arg3 harg3 arg4 harg4 arg5 harg5 arg6 harg6) K := by
  by_cases hc : first i = 1#1
  · iintro ⟨H0, H1, H2, H3, H4, Hk⟩
    iapply (runFirst D c i hc arg2 harg2 arg3 harg3 arg4 harg4 arg5 harg5 arg6 harg6 x0 x1 x2 s).2 E K
    isplitl [H0]; · iexact H0
    isplitl [H1]; · iexact H1
    isplitl [H2]; · iexact H2
    isplitl [H3]; · iexact H3
    isplitl [H4]; · iexact H4
    iintro ⟨H0, H1, H2, ⟨%f3, H3⟩, ⟨%f4, H4⟩⟩
    iapply Hk
    isplitl [H0]; · iexact H0
    isplitl [H1]; · iexact H1
    isplitl [H2]; · iexact H2
    isplitl [H3]
    · iapply some_owns c arg5 _ $$ H3
    · iapply some_owns c arg6 _ $$ H4
  · iintro ⟨H0, H1, H2, H3, H4, Hk⟩
    iapply (runLater D c i hc arg2 harg2 arg3 harg3 arg4 harg4 arg5 harg5 arg6 harg6 x0 x1 x2 s).2 E K
    isplitl [H0]; · iexact H0
    isplitl [H1]; · iexact H1
    isplitl [H2]; · iexact H2
    isplitl [H3]; · iexact H3
    isplitl [H4]; · iexact H4
    iintro ⟨H0, H1, H2, ⟨%f3, H3⟩, H4⟩
    iapply Hk
    isplitl [H0]; · iexact H0
    isplitl [H1]; · iexact H1
    isplitl [H2]; · iexact H2
    isplitl [H3]
    · iapply some_owns c arg5 _ $$ H3
    · iexists _; iexact H4

end AnyFloat

section Value

variable {nD : Nat} {τ : Topo} {sig : RefSig} {Λ : Labels}

local notation "𝕄" => MT nD τ sig Unit (Elt Ideal) ℕ (UR sig nD τ) ℕ

/-- Row `p` of `s` times column `q` of `w`. -/
def mm (s : Vec Ideal S512x2048 .bf16) (w : Vec Ideal S2048x512 .bf16) (p q : Fin 512) : EReal :=
  ∑ k : Fin 2048, s (ix2 p k) * w (ix2 k q)

theorem pay2_apply (s : Vec Ideal S512x2048 .bf16) (w : Vec Ideal S2048x256 .bf16) (p : Fin 512) (q : Fin 256) :
    k0_pay2 s w (ix2 p q) = ∑ k : Fin 2048, s (ix2 p k) * w (ix2 k q) := by
  pointwise [k0_pay2]

theorem pay3_apply (s : Vec Ideal S512x2048 .bf16) (w : Vec Ideal S2048x256 .bf16) (p : Fin 512) (q : Fin 256) :
    k0_pay3 s w (ix2 p q) = ∑ k : Fin 2048, s (ix2 p k) * w (ix2 k q) := by
  pointwise [k0_pay3]

/-- One entry of a normalised row: the row `x` over the root of its mean square (and the small constant), times the gain. -/
def unit (x g : Fin 2048 → EReal) (k : Fin 2048) : EReal :=
  x k * Ideal.rsqrt (Ideal.div (∑ l : Fin 2048, x l * x l) (Ideal.ofBits FTy.f32 1157627904#32) + Ideal.ofBits FTy.f32 897988541#32) * g k

theorem pay1_apply (x : Vec Ideal S512x2048 .f32) (g : Vec Ideal S1x2048 .f32) (p : Fin 512) (k : Fin 2048) :
    k0_pay1 x g (ix2 p k) = unit (fun l => x (ix2 p l)) (fun l => g (ix2 0 l)) k := by
  pointwise [k0_pay1]
  rfl

variable (D : Defs nD τ sig (Elt Ideal) Λ) (c : Dev nD) (i : BitVec 32)
    (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x2048 .bf16) (harg6 : arg6.IsWhole)
    (x0 : Vec Ideal S512x2048 .f32) (x1 : Vec Ideal S1x2048 .f32) (x2 : Vec Ideal S2048x512 .bf16) (s : Vec Ideal S512x2048 .bf16)

theorem ld_at {S : Shape} {e : EltTy} (x : Vec Ideal S e) (off size : Fin S.rank → Nat) (inb) (j : (Rect.unit (s := S) off size inb).shape.Idx) (K : S.Idx)
    {off' : Fin S.rank → Nat} (ho : off = off') (h : ∀ a, (K a).val = off' a + (j a).val) : View.ld x (Rect.unit (s := S) off size inb) j = x K := by
  rw [View.ld_unit]
  exact congrArg x (funext fun a => Fin.ext (by rw [h a, ← ho]; rfl))

theorem zero2 : (![0, 0] : Fin 2 → Nat) = fun _ => 0 := funext fun a => by fin_cases a <;> rfl

theorem owns_of (c : Dev nD) {S : Shape} {e : EltTy} (arg : Memref sig .tc .vmem S e) (f : Buf (Elt Ideal) (arg.view.loc (c : Thread nD τ)))
    (X : Vec Ideal S e) (h : arg.view.read (Elt Ideal) f = X) :
    (arg.view.loc (c : Thread nD τ) ↦[arg.view.set]{fullShare} f : sProp 𝕄) ⊢ owns (c : Thread nD τ) arg fullShare X := by
  unfold owns
  iintro H
  iexists f
  isplitr
  · ipureintro; exact h
  iexact H

/-- The two half-width stores leave the product in the result's buffer. -/
theorem halves (s : Vec Ideal S512x2048 .bf16) (x2 : Vec Ideal S2048x512 .bf16) (f : arg5.view.ty.Contents (Elt Ideal)) (inb1 inb2 inb3 inb4) :
    arg5.view.read (Elt Ideal) (arg5.view.writes (Elt Ideal) f
      [⟨Rect.unit (s := S512x512) ![0, 256] ![512, 256] inb1, k0_pay3 s (View.ld x2 (Rect.unit (s := S2048x512) ![0, 256] ![2048, 256] inb2))⟩,
       ⟨Rect.unit (s := S512x512) ![0, 0] ![512, 256] inb3, k0_pay2 s (View.ld x2 (Rect.unit (s := S2048x512) ![0, 0] ![2048, 256] inb4))⟩])
      = fun y => mm s x2 (y 0) (y 1) := by
  funext y
  change S512x512.Idx at y
  idx_vars y
  by_cases h : y1.val < 256
  · rw [View.read_writes_cons_unit_of_not_mem (s := S512x512) (off' := ![0, 256]) arg5.view f inb1 _ _ (ix2 y0 y1) rfl 1 (Or.inl h)]
    rw [View.read_writes_cons_unit_of_mem (s := S512x512) (off' := ![0, 0]) arg5.view f inb3 _ _ (ix2 y0 y1) (ix2 y0 ⟨y1.val, h⟩) rfl (fun a => by fin_cases a <;> exact (Nat.zero_add _).symm)]
    refine (pay2_apply _ _ _ _).trans (Finset.sum_congr rfl fun k _ => ?_)
    exact congrArg (fun v => s (ix2 y0 k) * v) (ld_at x2 _ _ _ _ _ rfl (fun a => by fin_cases a <;> exact (Nat.zero_add _).symm))
  · have hy := y1.isLt
    rw [View.read_writes_cons_unit_of_mem (s := S512x512) (off' := ![0, 256]) arg5.view f inb1 _ _ (ix2 y0 y1) (ix2 y0 ⟨y1.val - 256, by omega⟩) rfl
      (fun a => by
        fin_cases a
        · exact (Nat.zero_add _).symm
        · show y1.val = 256 + (y1.val - 256); omega)]
    refine (pay3_apply _ _ _ _).trans (Finset.sum_congr rfl fun k _ => ?_)
    exact congrArg (fun v => s (ix2 y0 k) * v) (ld_at x2 _ _ _ _ _ rfl (fun a => by
        fin_cases a
        · exact (Nat.zero_add _).symm
        · show y1.val = 256 + (y1.val - 256); omega))

theorem later_out (hc : ¬ first i = 1#1) (f : arg5.view.ty.Contents (Elt Ideal)) :
    arg5.view.read (Elt Ideal) (arg5.view.writes (Elt Ideal) f (runLater D c i hc arg2 harg2 arg3 harg3 arg4 harg4 arg5 harg5 arg6 harg6 x0 x1 x2 s).1)
      = fun y => mm s x2 (y 0) (y 1) := by
  refine Eq.trans ?_ (halves arg5 s x2 f inb_S512x512_S512x256_0_256 inb_S2048x512_S2048x256_0_256 inb_S512x512_S512x256_0_0 inb_S2048x512_S2048x256_0_0)
  unfold runLater
  dsimp only
  sl_unfold_words
  simp only [View.readAt_eq_ld, harg6.read_unread, harg4.read_unread]
  rw [View.ld_unit_zero (S := S512x2048) zero2]

theorem first_scratch (hc : first i = 1#1) (f : arg6.view.ty.Contents (Elt Ideal)) :
    arg6.view.read (Elt Ideal) (arg6.view.writes (Elt Ideal) f (runFirst D c i hc arg2 harg2 arg3 harg3 arg4 harg4 arg5 harg5 arg6 harg6 x0 x1 x2 s).1.2)
      = k0_pay1 x0 x1 := by
  unfold runFirst
  dsimp only
  sl_unfold_words
  simp only [View.readAt_eq_ld, harg2.read_unread, harg3.read_unread]
  rw [View.ld_unit_zero (S := S512x2048) zero2, View.ld_unit_zero (S := S1x2048) zero2]
  funext y
  exact View.read_writes_cons_unit_of_mem (s := S512x2048) (off' := ![0, 0]) arg6.view f _ _ _ y y rfl (fun a => by fin_cases a <;> exact (Nat.zero_add _).symm)

theorem first_out (hc : first i = 1#1) (f : arg5.view.ty.Contents (Elt Ideal)) :
    arg5.view.read (Elt Ideal) (arg5.view.writes (Elt Ideal) f (runFirst D c i hc arg2 harg2 arg3 harg3 arg4 harg4 arg5 harg5 arg6 harg6 x0 x1 x2 s).1.1)
      = fun y => mm (k0_pay1 x0 x1) x2 (y 0) (y 1) := by
  refine Eq.trans ?_ (halves arg5 (k0_pay1 x0 x1) x2 f inb_S512x512_S512x256_0_256 inb_S2048x512_S2048x256_0_256 inb_S512x512_S512x256_0_0 inb_S2048x512_S2048x256_0_0)
  unfold runFirst
  dsimp only
  sl_unfold_words
  simp only [View.readAt_eq_ld, harg4.read_unread, harg2.read_unread, harg3.read_unread]
  rw [View.ld_unit_zero (S := S512x2048) zero2, View.ld_unit_zero (S := S1x2048) zero2, View.readCov_cons_toLoadRect]

/-- The scratch after the body. -/
def nxt : Vec Ideal S512x2048 .bf16 := if first i = 1#1 then k0_pay1 x0 x1 else s

/-- The body's triple in closed form. -/
theorem body_val (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (fun y => mm (nxt i x0 x1 s) x2 (y 0) (y 1)) ∗ owns (c : Thread nD τ) arg6 fullShare (nxt i x0 x1 s)) -∗ K ⟨⟩))
      ⊢ wp frame (wpE (D) Variants.none c none) E (block i arg2 harg2 arg3 harg3 arg4 harg4 arg5 harg5 arg6 harg6) K := by
  unfold nxt
  by_cases hc : first i = 1#1
  · rw [if_pos hc]
    iintro ⟨H0, H1, H2, H3, H4, Hk⟩
    iapply (runFirst D c i hc arg2 harg2 arg3 harg3 arg4 harg4 arg5 harg5 arg6 harg6 x0 x1 x2 s).2 E K
    isplitl [H0]; · iexact H0
    isplitl [H1]; · iexact H1
    isplitl [H2]; · iexact H2
    isplitl [H3]; · iexact H3
    isplitl [H4]; · iexact H4
    iintro ⟨H0, H1, H2, ⟨%f3, H3⟩, ⟨%f4, H4⟩⟩
    iapply Hk
    isplitl [H0]; · iexact H0
    isplitl [H1]; · iexact H1
    isplitl [H2]; · iexact H2
    isplitl [H3]
    · iapply owns_of c arg5 _ _ (first_out D c i arg2 harg2 arg3 harg3 arg4 harg4 arg5 harg5 arg6 harg6 x0 x1 x2 s hc f3) $$ H3
    · iapply owns_of c arg6 _ _ (first_scratch D c i arg2 harg2 arg3 harg3 arg4 harg4 arg5 harg5 arg6 harg6 x0 x1 x2 s hc f4) $$ H4
  · rw [if_neg hc]
    iintro ⟨H0, H1, H2, H3, H4, Hk⟩
    iapply (runLater D c i hc arg2 harg2 arg3 harg3 arg4 harg4 arg5 harg5 arg6 harg6 x0 x1 x2 s).2 E K
    isplitl [H0]; · iexact H0
    isplitl [H1]; · iexact H1
    isplitl [H2]; · iexact H2
    isplitl [H3]; · iexact H3
    isplitl [H4]; · iexact H4
    iintro ⟨H0, H1, H2, ⟨%f3, H3⟩, H4⟩
    iapply Hk
    isplitl [H0]; · iexact H0
    isplitl [H1]; · iexact H1
    isplitl [H2]; · iexact H2
    isplitl [H3]
    · iapply owns_of c arg5 _ _ (later_out D c i arg2 harg2 arg3 harg3 arg4 harg4 arg5 harg5 arg6 harg6 x0 x1 x2 s hc f3) $$ H3
    · iexact H4

/-- What a fill puts at a place of the block that lies inside the array. -/
theorem fill_at {sig : RefSig} {grid : Pipeline.Grid} {w : Pipeline.Window sig grid} {α : Type} (i : grid.Coords) (d : w.block.Idx → α) (g : (w.xblock i).Idx → α) (j : (w.xblock i).Idx)
    (J : w.block.Idx) (h : w.xinj i j = J) : w.fill i d g J = g j := by
  subst h; exact w.fill_xinj i d g j

end Value

end Cert.Block

end
-- ==== Proof.Frame2Ideal.lean ====
/-
  `Kernel2Ideal` runs to the end and leaves its arguments alone. Nothing is said of what the result's array holds: at every point the
  body hands the three inputs' buffers back as it found them and the result's buffer at something.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Block

@[expose] public section

set_option maxRecDepth 16384

noncomputable section

namespace Cert.Kernel2Ideal.Rows

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body may leave in a window's buffer: an input's contents as found, the result's anything. -/
def left (w : Fin cfg0.W) (t : Fin cfg0.N) (Y X : (cfg0.win w).block.Idx → Elt F (cfg0.win w).elt) : Prop :=
  (cfg0.win w).isOut = false → X = Y

/-- The proof data of the run: the arrays as the region finds them, `left`, and the scratch at something. -/
def rdat (c : Dev nD) : RDat τ (Elt F) Unit ℕ (UR sig nD τ) ℕ cfg0 c where
  A := fun w => V m c (Pipeline.arrRef spec0 w)
  after := left
  Φ := fun _ => Pipeline.ΦA spec0 c
  q := fun _ => fullShare
  owed := fun _ => 0

/-- This program's normalised rows are the shared body's: its cast of the rows to their own shape is the rows. -/
theorem pay1_eq (x : Vec F S512x2048 .f32) (g : Vec F S1x2048 .f32) : k0_pay1 x g = Cert.Kernel3Ideal.Gen.k0_pay1 x g := by
  unfold k0_pay1
  simp only [shapeCast_id]
  unfold Cert.Kernel3Ideal.Gen.k0_pay1
  simp only [shapeCast_id]

/-- The body is the shared body at its column block. -/
theorem body_eq (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x2048 .bf16) (harg6 : arg6.IsWhole) :
    cc0_norm_matmul (F := F) i arg2 harg2 arg3 harg3 arg4 harg4 arg5 harg5 arg6 harg6
      = Block.block (BitVec.ofNat 32 (i 1).val) arg2 harg2 arg3 harg3 arg4 harg4 arg5 harg5 arg6 harg6 := by
  simp only [cc0_norm_matmul_eq_skeleton]
  unfold cc0_norm_matmul_skel
  simp only [pay1_eq]
  rfl

/-- The body's row of the table at a point is the shared body at its column block. -/
theorem row (t : Fin cfg0.N) : defs₀ (F := F) .tc cfg0.body (cfg0.bodyArgs t (cfg0.slots t))
    = Block.block (BitVec.ofNat 32 (grid0.coords t 1).val) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (Memref.whole cc0_scratch0) (Memref.isWhole_whole _) := by
  unfold defs₀; rw [Defs.onTc_tc]; exact body_eq _ _ _ _ _ _ _ _ _ _ _

/-- The scratch among the scoped buffers, as a buffer of the body's. -/
theorem open_scratch (c : Dev nD) :
    (Pipeline.ΦA spec0 c : sProp 𝕄)
      ⊢ iprop((∃ s, owns (c : Thread nD τ) (Memref.whole cc0_scratch0) fullShare s) ∗ (∃ r, prngReg c r)) := by
  unfold Pipeline.ΦA; rw [scopedRest0_eq]
  iintro ⟨⟨%f, Hf⟩, Hr⟩
  isplitl [Hf]
  · iexists f; rw [owns_whole_eq]; iexists f; isplitr; · ipureintro; rfl
    iexact Hf
  · iexact Hr

theorem close_scratch (c : Dev nD) :
    iprop((∃ s, owns (c : Thread nD τ) (Memref.whole cc0_scratch0) fullShare s) ∗ (∃ r, prngReg c r))
      ⊢ (Pipeline.ΦA spec0 c : sProp 𝕄) := by
  unfold Pipeline.ΦA; rw [scopedRest0_eq]
  simp only [owns_whole_eq]
  iintro ⟨⟨%s, %f, -, Hf⟩, Hr⟩
  isplitl [Hf]
  · iexists f; iexact Hf
  · iexact Hr

theorem close_inv (c : Dev nD) (t : Fin (cfg0.N + 1)) :
    iprop((∃ s, owns (c : Thread nD τ) (Memref.whole cc0_scratch0) fullShare s) ∗ (∃ r, prngReg c r)) ⊢ (rdat m c).Φ t :=
  close_scratch c

set_option backward.isDefEq.respectTransparency.types false in
/-- The body obligation of the frame. -/
theorem body_frame (c : Dev nD) : (rdat m c).BodyObligation defs₀ Variants.none () Set.univ := by
  intro t Y hY
  rw [bigSep_W0, bigSep_W0, row]
  change iprop(Pipeline.ΦA spec0 c ∗ _ ∗ _) ⊢ _
  iintro ⟨HΦ, Ho, H0, H1, H2, H3⟩
  ihave HΦ' := open_scratch c $$ HΦ
  icases HΦ' with ⟨⟨%s, Hs⟩, Hr⟩
  iapply Block.body_any defs₀ c _ _ _ _ _ _ _ _ _ _ _ (Y 0) (Y 1) (Y 2) s
  isplitl [H0]; · iexact H0
  isplitl [H1]; · iexact H1
  isplitl [H2]; · iexact H2
  isplitl [H3]; · iexists _; iexact H3
  isplitl [Hs]; · iexact Hs
  iintro ⟨H0, H1, H2, ⟨%d3, H3⟩, Hs⟩
  isplitl [Hs Hr]
  · iapply close_inv m c t.succ
    isplitl [Hs]; · iexact Hs
    iexact Hr
  isplitl [Ho]; · iexact Ho
  isplitl [H0]
  · iexists (Y 0); isplitr; · ipureintro; exact fun _ => rfl
    iexact H0
  isplitl [H1]
  · iexists (Y 1); isplitr; · ipureintro; exact fun _ => rfl
    iexact H1
  isplitl [H2]
  · iexists (Y 2); isplitr; · ipureintro; exact fun _ => rfl
    iexact H2
  · iexists d3; isplitr; · ipureintro; exact fun h => absurd h (by decide)
    iexact H3

/-- What the lines after the region write. -/
abbrev later : List (Ref sig .tc) := hostOps1_W
theorem later_writes : (hostOps1 : List (HloOp τ sig (Elt F))).Forall fun op => op.writes ⊆ (later.map (Proc.devRef (τ := τ) .tc)).toFinset :=
  StableHlo.forall_writes_sub_of_map rfl

theorem later_mem : ∀ ops ∈ ([hostOps1] : List (List (HloOp τ sig (Elt F)))), ∀ op ∈ ops, ∀ b : Ref sig .tc,
    Proc.devRef .tc b ∈ op.writes → b ∈ later.toFinset := by
  intro ops hops op hop b hb
  simp only [List.mem_cons, List.mem_nil_iff, or_false] at hops
  rcases hops with rfl
  obtain ⟨y, hy, he⟩ := List.mem_map.mp (List.mem_toFinset.mp ((List.forall_iff_forall_mem.mp later_writes) op hop hb))
  exact List.mem_toFinset.mpr (Proc.devRef_injective _ he ▸ hy)

set_option backward.isDefEq.respectTransparency.types false in
/-- The run: it ends, every array an input is staged from and every buffer nothing writes as the region found it, and every
    counter at zero. -/
theorem run_any : θ_run defs (onTc (τ := τ) (main (F := F))) (s₀ m ρ)
    (fun r => RDat.FramePostR cfg0 (rdat m) later.toFinset (fun c b => V0 m c (Proc.devRef .tc b)) r ∧ r.2.sem = fun _ => 0) :=
  RDat.θ_run_frame_around_T (cfgs := cfgs) (p := 0) (kit := launch0) (defs₀ := defs₀) (𝒱₀ := Variants.none) (rdat m) later.toFinset m ρ main
    (fun c => body_frame m c) (fun c w => by unfold RDat.share; split <;> rfl) (fun _ _ => rfl) (V0 m) [hostOps1] sfx_sub sfx_fresh sfx_keeps later_mem
    (hmain m Variants.none) (fun _ _ => rfl) (fun _ _ => rfl) (Q' := _) (hQ' := fun _ h => h)

/-- The frame claim's post: the arguments end as launched, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Finset.mem_sdiff.mpr ⟨Pipeline.mem_restRefs_of main_arg0 (by decide) (by decide), by decide +kernel⟩)).trans (V_main_arg0 m c),
    ((h.1 c).2 main_arg1 (Finset.mem_sdiff.mpr ⟨Pipeline.mem_restRefs_of main_arg1 (by decide) (by decide), by decide +kernel⟩)).trans (V_main_arg1 m c),
    ((h.1 c).2 main_arg2 (Finset.mem_sdiff.mpr ⟨Pipeline.mem_restRefs_of main_arg2 (by decide) (by decide), by decide +kernel⟩)).trans (V_main_arg2 m c),
    ((h.1 c).2 main_arg3 (Finset.mem_sdiff.mpr ⟨Pipeline.mem_restRefs_of main_arg3 (by decide) (by decide), by decide +kernel⟩)).trans (V_main_arg3 m c),
    ((h.1 c).2 main_arg4 (Finset.mem_sdiff.mpr ⟨Pipeline.mem_restRefs_of main_arg4 (by decide) (by decide), by decide +kernel⟩)).trans (V_main_arg4 m c),
    ((h.1 c).2 main_arg5 (Finset.mem_sdiff.mpr ⟨Pipeline.mem_restRefs_of main_arg5 (by decide) (by decide), by decide +kernel⟩)).trans (V_main_arg5 m c)⟩, h.2⟩) (run_any m ρ)

end Cert.Kernel2Ideal.Rows

end
-- ==== Proof.Frame3Ideal.lean ====
/-
  `Kernel3Ideal` runs to the end and leaves its arguments alone. Nothing is said of what the result's array holds: at every point the
  body hands the three inputs' buffers back as it found them and the result's buffer at something.
-/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Block

@[expose] public section

set_option maxRecDepth 16384

noncomputable section

namespace Cert.Kernel3Ideal.Rows

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body may leave in a window's buffer: an input's contents as found, the result's anything. -/
def left (w : Fin cfg0.W) (t : Fin cfg0.N) (Y X : (cfg0.win w).block.Idx → Elt F (cfg0.win w).elt) : Prop :=
  (cfg0.win w).isOut = false → X = Y

/-- The proof data of the run: the arrays as the region finds them, `left`, and the scratch at something. -/
def rdat (c : Dev nD) : RDat τ (Elt F) Unit ℕ (UR sig nD τ) ℕ cfg0 c where
  A := fun w => V m c (Pipeline.arrRef spec0 w)
  after := left
  Φ := fun _ => Pipeline.ΦA spec0 c
  q := fun _ => fullShare
  owed := fun _ => 0

/-- The body's row of the table at a point is the shared body at its column block. -/
theorem row (t : Fin cfg0.N) : defs₀ (F := F) .tc cfg0.body (cfg0.bodyArgs t (cfg0.slots t))
    = Block.block (BitVec.ofNat 32 (grid0.coords t 1).val) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (Memref.whole cc0_scratch0) (Memref.isWhole_whole _) := by
  unfold defs₀; rw [Defs.onTc_tc]; rfl

/-- The scratch among the scoped buffers, as a buffer of the body's. -/
theorem open_scratch (c : Dev nD) :
    (Pipeline.ΦA spec0 c : sProp 𝕄)
      ⊢ iprop((∃ s, owns (c : Thread nD τ) (Memref.whole cc0_scratch0) fullShare s) ∗ (∃ r, prngReg c r)) := by
  unfold Pipeline.ΦA; rw [scopedRest0_eq]
  iintro ⟨⟨%f, Hf⟩, Hr⟩
  isplitl [Hf]
  · iexists f; rw [owns_whole_eq]; iexists f; isplitr; · ipureintro; rfl
    iexact Hf
  · iexact Hr

theorem close_scratch (c : Dev nD) :
    iprop((∃ s, owns (c : Thread nD τ) (Memref.whole cc0_scratch0) fullShare s) ∗ (∃ r, prngReg c r))
      ⊢ (Pipeline.ΦA spec0 c : sProp 𝕄) := by
  unfold Pipeline.ΦA; rw [scopedRest0_eq]
  simp only [owns_whole_eq]
  iintro ⟨⟨%s, %f, -, Hf⟩, Hr⟩
  isplitl [Hf]
  · iexists f; iexact Hf
  · iexact Hr

theorem close_inv (c : Dev nD) (t : Fin (cfg0.N + 1)) :
    iprop((∃ s, owns (c : Thread nD τ) (Memref.whole cc0_scratch0) fullShare s) ∗ (∃ r, prngReg c r)) ⊢ (rdat m c).Φ t :=
  close_scratch c

set_option backward.isDefEq.respectTransparency.types false in
/-- The body obligation of the frame. -/
theorem body_frame (c : Dev nD) : (rdat m c).BodyObligation defs₀ Variants.none () Set.univ := by
  intro t Y hY
  rw [bigSep_W0, bigSep_W0, row]
  change iprop(Pipeline.ΦA spec0 c ∗ _ ∗ _) ⊢ _
  iintro ⟨HΦ, Ho, H0, H1, H2, H3⟩
  ihave HΦ' := open_scratch c $$ HΦ
  icases HΦ' with ⟨⟨%s, Hs⟩, Hr⟩
  iapply Block.body_any defs₀ c _ _ _ _ _ _ _ _ _ _ _ (Y 0) (Y 1) (Y 2) s
  isplitl [H0]; · iexact H0
  isplitl [H1]; · iexact H1
  isplitl [H2]; · iexact H2
  isplitl [H3]; · iexists _; iexact H3
  isplitl [Hs]; · iexact Hs
  iintro ⟨H0, H1, H2, ⟨%d3, H3⟩, Hs⟩
  isplitl [Hs Hr]
  · iapply close_inv m c t.succ
    isplitl [Hs]; · iexact Hs
    iexact Hr
  isplitl [Ho]; · iexact Ho
  isplitl [H0]
  · iexists (Y 0); isplitr; · ipureintro; exact fun _ => rfl
    iexact H0
  isplitl [H1]
  · iexists (Y 1); isplitr; · ipureintro; exact fun _ => rfl
    iexact H1
  isplitl [H2]
  · iexists (Y 2); isplitr; · ipureintro; exact fun _ => rfl
    iexact H2
  · iexists d3; isplitr; · ipureintro; exact fun h => absurd h (by decide)
    iexact H3

/-- What the lines after the region write. -/
abbrev later : List (Ref sig .tc) := hostOps1_W
theorem later_writes : (hostOps1 : List (HloOp τ sig (Elt F))).Forall fun op => op.writes ⊆ (later.map (Proc.devRef (τ := τ) .tc)).toFinset :=
  StableHlo.forall_writes_sub_of_map rfl

theorem later_mem : ∀ ops ∈ ([hostOps1] : List (List (HloOp τ sig (Elt F)))), ∀ op ∈ ops, ∀ b : Ref sig .tc,
    Proc.devRef .tc b ∈ op.writes → b ∈ later.toFinset := by
  intro ops hops op hop b hb
  simp only [List.mem_cons, List.mem_nil_iff, or_false] at hops
  rcases hops with rfl
  obtain ⟨y, hy, he⟩ := List.mem_map.mp (List.mem_toFinset.mp ((List.forall_iff_forall_mem.mp later_writes) op hop hb))
  exact List.mem_toFinset.mpr (Proc.devRef_injective _ he ▸ hy)

set_option backward.isDefEq.respectTransparency.types false in
/-- The run: it ends, every array an input is staged from and every buffer nothing writes as the region found it, and every
    counter at zero. -/
theorem run_any : θ_run defs (onTc (τ := τ) (main (F := F))) (s₀ m ρ)
    (fun r => RDat.FramePostR cfg0 (rdat m) later.toFinset (fun c b => V0 m c (Proc.devRef .tc b)) r ∧ r.2.sem = fun _ => 0) :=
  RDat.θ_run_frame_around_T (cfgs := cfgs) (p := 0) (kit := launch0) (defs₀ := defs₀) (𝒱₀ := Variants.none) (rdat m) later.toFinset m ρ main
    (fun c => body_frame m c) (fun c w => by unfold RDat.share; split <;> rfl) (fun _ _ => rfl) (V0 m) [hostOps1] sfx_sub sfx_fresh sfx_keeps later_mem
    (hmain m Variants.none) (fun _ _ => rfl) (fun _ _ => rfl) (Q' := _) (hQ' := fun _ h => h)

/-- The frame claim's post: the arguments end as launched, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨(h.1.arr_in c 0 rfl).trans (V_main_arg0 m c),
    ((h.1 c).2 main_arg1 (Finset.mem_sdiff.mpr ⟨Pipeline.mem_restRefs_of main_arg1 (by decide) (by decide), by decide +kernel⟩)).trans (V_main_arg1 m c),
    ((h.1 c).2 main_arg2 (Finset.mem_sdiff.mpr ⟨Pipeline.mem_restRefs_of main_arg2 (by decide) (by decide), by decide +kernel⟩)).trans (V_main_arg2 m c),
    ((h.1 c).2 main_arg3 (Finset.mem_sdiff.mpr ⟨Pipeline.mem_restRefs_of main_arg3 (by decide) (by decide), by decide +kernel⟩)).trans (V_main_arg3 m c),
    ((h.1 c).2 main_arg4 (Finset.mem_sdiff.mpr ⟨Pipeline.mem_restRefs_of main_arg4 (by decide) (by decide), by decide +kernel⟩)).trans (V_main_arg4 m c),
    ((h.1 c).2 main_arg5 (Finset.mem_sdiff.mpr ⟨Pipeline.mem_restRefs_of main_arg5 (by decide) (by decide), by decide +kernel⟩)).trans (V_main_arg5 m c),
    ((h.1 c).2 main_arg6 (Finset.mem_sdiff.mpr ⟨Pipeline.mem_restRefs_of main_arg6 (by decide) (by decide), by decide +kernel⟩)).trans (V_main_arg6 m c),
    ((h.1 c).2 main_arg7 (Finset.mem_sdiff.mpr ⟨Pipeline.mem_restRefs_of main_arg7 (by decide) (by decide), by decide +kernel⟩)).trans (V_main_arg7 m c),
    ((h.1 c).2 main_arg8 (Finset.mem_sdiff.mpr ⟨Pipeline.mem_restRefs_of main_arg8 (by decide) (by decide), by decide +kernel⟩)).trans (V_main_arg8 m c),
    ((h.1 c).2 main_arg9 (Finset.mem_sdiff.mpr ⟨Pipeline.mem_restRefs_of main_arg9 (by decide) (by decide), by decide +kernel⟩)).trans (V_main_arg9 m c)⟩, h.2⟩) (run_any m ρ)

end Cert.Kernel3Ideal.Rows

end
-- ==== Proof.Frame4Ideal.lean ====
/-
  `Kernel4Ideal` runs to the end and leaves its arguments alone. Nothing is said of what the result's array holds: at every point the
  body hands the three inputs' buffers back as it found them and the result's buffer at something.
-/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Block

@[expose] public section

set_option maxRecDepth 16384

noncomputable section

namespace Cert.Kernel4Ideal.Rows

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body may leave in a window's buffer: an input's contents as found, the result's anything. -/
def left (w : Fin cfg0.W) (t : Fin cfg0.N) (Y X : (cfg0.win w).block.Idx → Elt F (cfg0.win w).elt) : Prop :=
  (cfg0.win w).isOut = false → X = Y

/-- The proof data of the run: the arrays as the region finds them, `left`, and the scratch at something. -/
def rdat (c : Dev nD) : RDat τ (Elt F) Unit ℕ (UR sig nD τ) ℕ cfg0 c where
  A := fun w => V m c (Pipeline.arrRef spec0 w)
  after := left
  Φ := fun _ => Pipeline.ΦA spec0 c
  q := fun _ => fullShare
  owed := fun _ => 0

/-- The body's row of the table at a point is the shared body at its column block. -/
theorem row (t : Fin cfg0.N) : defs₀ (F := F) .tc cfg0.body (cfg0.bodyArgs t (cfg0.slots t))
    = Block.block (BitVec.ofNat 32 (grid0.coords t 1).val) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (Memref.whole cc0_scratch0) (Memref.isWhole_whole _) := by
  unfold defs₀; rw [Defs.onTc_tc]; rfl

/-- The scratch among the scoped buffers, as a buffer of the body's. -/
theorem open_scratch (c : Dev nD) :
    (Pipeline.ΦA spec0 c : sProp 𝕄)
      ⊢ iprop((∃ s, owns (c : Thread nD τ) (Memref.whole cc0_scratch0) fullShare s) ∗ (∃ r, prngReg c r)) := by
  unfold Pipeline.ΦA; rw [scopedRest0_eq]
  iintro ⟨⟨%f, Hf⟩, Hr⟩
  isplitl [Hf]
  · iexists f; rw [owns_whole_eq]; iexists f; isplitr; · ipureintro; rfl
    iexact Hf
  · iexact Hr

theorem close_scratch (c : Dev nD) :
    iprop((∃ s, owns (c : Thread nD τ) (Memref.whole cc0_scratch0) fullShare s) ∗ (∃ r, prngReg c r))
      ⊢ (Pipeline.ΦA spec0 c : sProp 𝕄) := by
  unfold Pipeline.ΦA; rw [scopedRest0_eq]
  simp only [owns_whole_eq]
  iintro ⟨⟨%s, %f, -, Hf⟩, Hr⟩
  isplitl [Hf]
  · iexists f; iexact Hf
  · iexact Hr

theorem close_inv (c : Dev nD) (t : Fin (cfg0.N + 1)) :
    iprop((∃ s, owns (c : Thread nD τ) (Memref.whole cc0_scratch0) fullShare s) ∗ (∃ r, prngReg c r)) ⊢ (rdat m c).Φ t :=
  close_scratch c

set_option backward.isDefEq.respectTransparency.types false in
/-- The body obligation of the frame. -/
theorem body_frame (c : Dev nD) : (rdat m c).BodyObligation defs₀ Variants.none () Set.univ := by
  intro t Y hY
  rw [bigSep_W0, bigSep_W0, row]
  change iprop(Pipeline.ΦA spec0 c ∗ _ ∗ _) ⊢ _
  iintro ⟨HΦ, Ho, H0, H1, H2, H3⟩
  ihave HΦ' := open_scratch c $$ HΦ
  icases HΦ' with ⟨⟨%s, Hs⟩, Hr⟩
  iapply Block.body_any defs₀ c _ _ _ _ _ _ _ _ _ _ _ (Y 0) (Y 1) (Y 2) s
  isplitl [H0]; · iexact H0
  isplitl [H1]; · iexact H1
  isplitl [H2]; · iexact H2
  isplitl [H3]; · iexists _; iexact H3
  isplitl [Hs]; · iexact Hs
  iintro ⟨H0, H1, H2, ⟨%d3, H3⟩, Hs⟩
  isplitl [Hs Hr]
  · iapply close_inv m c t.succ
    isplitl [Hs]; · iexact Hs
    iexact Hr
  isplitl [Ho]; · iexact Ho
  isplitl [H0]
  · iexists (Y 0); isplitr; · ipureintro; exact fun _ => rfl
    iexact H0
  isplitl [H1]
  · iexists (Y 1); isplitr; · ipureintro; exact fun _ => rfl
    iexact H1
  isplitl [H2]
  · iexists (Y 2); isplitr; · ipureintro; exact fun _ => rfl
    iexact H2
  · iexists d3; isplitr; · ipureintro; exact fun h => absurd h (by decide)
    iexact H3

/-- What the lines after the region write. -/
abbrev later : List (Ref sig .tc) := [main_v5, main_v6, main_v7, main_v8, main_v9, main_v10, main_v11, main_v12, main_v13, main_cst, main_v14, main_v15, main_cst_0, main_v16, main_cst_1, main_v17, main_v18, main_v19, main_v20, main_v21, main_v22, main_cst_2, main_v23, main_v24, main_v25, main_v26, main_v27, main_v28, main_v29, main_v30, main_v31, main_v32, main_v33, main_v34, main_v35, main_v36, main_v37, main_cst_3, main_v38, main_v39, main_cst_4, main_v40, main_cst_5, main_v41, main_v42, main_v43, main_v44, main_v45, main_v46, main_cst_6, main_v47, main_v48, main_v49, main_v50, main_v51, main_v52, main_v53, main_v54, main_v55, main_v56, main_v57, main_v58, main_v59, main_v60]
theorem later_writes : (hostOps1 : List (HloOp τ sig (Elt F))).Forall fun op => op.writes ⊆ (later.map (Proc.devRef (τ := τ) .tc)).toFinset :=
  StableHlo.forall_writes_sub_of_map rfl

theorem later_mem : ∀ ops ∈ ([hostOps1] : List (List (HloOp τ sig (Elt F)))), ∀ op ∈ ops, ∀ b : Ref sig .tc,
    Proc.devRef .tc b ∈ op.writes → b ∈ later.toFinset := by
  intro ops hops op hop b hb
  simp only [List.mem_cons, List.mem_nil_iff, or_false] at hops
  rcases hops with rfl
  obtain ⟨y, hy, he⟩ := List.mem_map.mp (List.mem_toFinset.mp ((List.forall_iff_forall_mem.mp later_writes) op hop hb))
  exact List.mem_toFinset.mpr (Proc.devRef_injective _ he ▸ hy)

set_option backward.isDefEq.respectTransparency.types false in
/-- The run: it ends, every array an input is staged from and every buffer nothing writes as the region found it, and every
    counter at zero. -/
theorem run_any : θ_run defs (onTc (τ := τ) (main (F := F))) (s₀ m ρ)
    (fun r => RDat.FramePostR cfg0 (rdat m) later.toFinset (fun c b => V0 m c (Proc.devRef .tc b)) r ∧ r.2.sem = fun _ => 0) :=
  RDat.θ_run_frame_around_T (cfgs := cfgs) (p := 0) (kit := launch0) (defs₀ := defs₀) (𝒱₀ := Variants.none) (rdat m) later.toFinset m ρ main
    (fun c => body_frame m c) (fun c w => by unfold RDat.share; split <;> rfl) (fun _ _ => rfl) (V0 m) [hostOps1] sfx_sub sfx_fresh sfx_keeps later_mem
    (hmain m Variants.none) (fun _ _ => rfl) (fun _ _ => rfl) (Q' := _) (hQ' := fun _ h => h)

/-- The frame claim's post: the arguments end as launched, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1.arr_in c 0 rfl).trans (V_main_arg0 m c),
    ((h.1 c).2 main_arg1 (Finset.mem_sdiff.mpr ⟨Pipeline.mem_restRefs_of main_arg1 (by decide) (by decide), by decide +kernel⟩)).trans (V_main_arg1 m c),
    ((h.1 c).2 main_arg2 (Finset.mem_sdiff.mpr ⟨Pipeline.mem_restRefs_of main_arg2 (by decide) (by decide), by decide +kernel⟩)).trans (V_main_arg2 m c),
    ((h.1 c).2 main_arg3 (Finset.mem_sdiff.mpr ⟨Pipeline.mem_restRefs_of main_arg3 (by decide) (by decide), by decide +kernel⟩)).trans (V_main_arg3 m c),
    ((h.1 c).2 main_arg4 (Finset.mem_sdiff.mpr ⟨Pipeline.mem_restRefs_of main_arg4 (by decide) (by decide), by decide +kernel⟩)).trans (V_main_arg4 m c),
    ((h.1 c).2 main_arg5 (Finset.mem_sdiff.mpr ⟨Pipeline.mem_restRefs_of main_arg5 (by decide) (by decide), by decide +kernel⟩)).trans (V_main_arg5 m c),
    ((h.1 c).2 main_arg6 (Finset.mem_sdiff.mpr ⟨Pipeline.mem_restRefs_of main_arg6 (by decide) (by decide), by decide +kernel⟩)).trans (V_main_arg6 m c)⟩, h.2⟩) (run_any m ρ)

end Cert.Kernel4Ideal.Rows

end
-- ==== Proof.Frames.lean ====
/- The compiled programs have the text of their idealizations, so the one run over any floats gives their frames too. -/
module
public import proofs.«01_k».proof.Defs
public import proofs.«01_k».proof.Proof.Gen.Kernel2
public import proofs.«01_k».proof.Proof.Gen.Kernel3
public import proofs.«01_k».proof.Proof.Gen.Kernel4
public import proofs.«01_k».proof.Proof.Frame2Ideal
public import proofs.«01_k».proof.Proof.Frame3Ideal
public import proofs.«01_k».proof.Proof.Frame4Ideal

@[expose] public section

set_option maxHeartbeats 4000000

noncomputable section

namespace Cert.Proof

open Idealize.ShloMosaic Idealize.ShloMosaic.TcCoe Idealize.SL.Sem

attribute [local instance] Cert.Kernel2.Gen.facts Cert.Kernel2Ideal.Gen.facts

/-- Program 2's table of bodies is its idealization's. -/
theorem project_table : Cert.Kernel2.defs (F := Bits) = Cert.Kernel2Ideal.defs (F := Bits) :=
  congrArg (Pipeline.defs _) (congrArg Defs.onTc (funext fun l => funext fun x => match l, x with | 0, (_, _) => rfl))

/-- Program 2's main function is its idealization's. -/
theorem project_main : Cert.Kernel2.main (F := Bits) = Cert.Kernel2Ideal.main (F := Bits) := rfl

/-- Program 2 runs to the end and leaves its arguments alone. -/
theorem project_frame : Cert.quiescent_Kernel2 := fun m ρ _ => by
  rw [project_table, project_main]
  exact Cert.Kernel2Ideal.Rows.frame_run (F := Bits) m ρ

attribute [local instance] Cert.Kernel3.Gen.facts Cert.Kernel3Ideal.Gen.facts

/-- Program 3's table of bodies is its idealization's. -/
theorem mix_table : Cert.Kernel3.defs (F := Bits) = Cert.Kernel3Ideal.defs (F := Bits) :=
  congrArg (Pipeline.defs _) (congrArg Defs.onTc (funext fun l => funext fun x => match l, x with | 0, (_, _) => rfl))

/-- Program 3's main function is its idealization's. -/
theorem mix_main : Cert.Kernel3.main (F := Bits) = Cert.Kernel3Ideal.main (F := Bits) := rfl

/-- Program 3 runs to the end and leaves its arguments alone. -/
theorem mix_frame : Cert.quiescent_Kernel3 := fun m ρ _ => by
  rw [mix_table, mix_main]
  exact Cert.Kernel3Ideal.Rows.frame_run (F := Bits) m ρ

attribute [local instance] Cert.Kernel4.Gen.facts Cert.Kernel4Ideal.Gen.facts

/-- Program 4's table of bodies is its idealization's. -/
theorem memory_table : Cert.Kernel4.defs (F := Bits) = Cert.Kernel4Ideal.defs (F := Bits) :=
  congrArg (Pipeline.defs _) (congrArg Defs.onTc (funext fun l => funext fun x => match l, x with | 0, (_, _) => rfl))

/-- Program 4's main function is its idealization's. -/
theorem memory_main : Cert.Kernel4.main (F := Bits) = Cert.Kernel4Ideal.main (F := Bits) := rfl

/-- Program 4 runs to the end and leaves its arguments alone. -/
theorem memory_frame : Cert.quiescent_Kernel4 := fun m ρ _ => by
  rw [memory_table, memory_main]
  exact Cert.Kernel4Ideal.Rows.frame_run (F := Bits) m ρ

end Cert.Proof

end
-- ==== Proof.Ref2.lean ====
/- The projection's reference, entry by entry: the normalised row times the weights. -/
module
public import proofs.«01_k».proof.Proof.Block
public import proofs.«01_k».proof.Proof.Gen.Reference2Ideal.Read
@[expose] public section
set_option maxRecDepth 16384
noncomputable section
namespace Cert.Reference2Ideal.Rows
open Cert.Reference2Ideal Cert.Reference2Ideal.Gen Cert.Reference2Ideal.Read Idealize.ShloMosaic
open Idealize.ShloMosaic.TcCoe Idealize.SL.Sem Idealize.ShloMosaic.Tactic
open Cert.Block (unit)

variable (x0 : Vec Ideal S4x2048x2048 .f32) (x1 : Vec Ideal S8x4x2048 .f32) (x2 : Vec Ideal S8x512x2x2x64 .f32) (x3 : Vec Ideal S2048 .f32) (x4 : Vec Ideal S2048x5724 .f32) (x5 : Vec Ideal S512 .f32)

theorem norm_p (b : Fin 4) (t k : Fin 2048) : val_main_v12 (F := Ideal) x0 x3 (ix3 b t k) = unit (fun l => x0 (ix3 b t l)) (fun l => x3 (ix1 l)) k := by
  unfold unit
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]

theorem norm_s (b : Fin 8) (t : Fin 4) (k : Fin 2048) : val_main_v26 (F := Ideal) x1 x3 (ix3 b t k) = unit (fun l => x1 (ix3 b t l)) (fun l => x3 (ix1 l)) k := by
  unfold unit
  pointwise [val_main_v26, val_main_v25, val_main_v24, val_main_v23, val_main_v22, val_main_v21, val_main_v20, val_main_v19, val_main_cst_4, val_main_v18,
    val_main_v17, val_main_cst_3, val_main_v16, val_main_v15, val_main_cst_2, val_main_v14]

theorem zp_eq (b : Fin 4) (t : Fin 2048) (j : Fin 5724) :
    val_main_v13 (F := Ideal) x0 x3 x4 (ix3 b t j) = ∑ k : Fin 2048, unit (fun l => x0 (ix3 b t l)) (fun l => x3 (ix1 l)) k * x4 (ix2 k j) := by
  rw [val_main_v13_apply]
  refine Finset.sum_congr rfl fun k _ => congrArg₂ (· * ·) ?_ (congrArg x4 ?_)
  · rw [← norm_p]
    exact congrArg _ (funext fun a => match a with | ⟨0, _⟩ => rfl | ⟨1, _⟩ => rfl | ⟨2, _⟩ => rfl)
  · exact funext fun a => match a with | ⟨0, _⟩ => rfl | ⟨1, _⟩ => rfl

theorem zs_eq (b : Fin 8) (t : Fin 4) (j : Fin 5724) :
    val_main_v27 (F := Ideal) x1 x3 x4 (ix3 b t j) = ∑ k : Fin 2048, unit (fun l => x1 (ix3 b t l)) (fun l => x3 (ix1 l)) k * x4 (ix2 k j) := by
  rw [val_main_v27_apply]
  refine Finset.sum_congr rfl fun k _ => congrArg₂ (· * ·) ?_ (congrArg x4 ?_)
  · rw [← norm_s]
    exact congrArg _ (funext fun a => match a with | ⟨0, _⟩ => rfl | ⟨1, _⟩ => rfl | ⟨2, _⟩ => rfl)
  · exact funext fun a => match a with | ⟨0, _⟩ => rfl | ⟨1, _⟩ => rfl
end Cert.Reference2Ideal.Rows
end
-- ==== Proof.Val2Ideal.lean ====
/-
  `Kernel2Ideal`'s matrix product in closed form: the region runs to the end, and its result array holds, at row `P` and column `Q`,
  the normalised row `P` of the rows' array times column `Q` of the weights. The last row block overhangs the array, so its
  buffers hold rows that nothing names past the array's end; the scratch is stated on the rows inside the array only.
-/
module

public import proofs.«01_k».proof.Proof.Frame2Ideal

@[expose] public section

set_option maxRecDepth 16384

noncomputable section

namespace Cert.Kernel2Ideal.Rows

open Cert.Kernel2Ideal Cert.Kernel2Ideal.Gen Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The product's entry at row `P` and column `Q`. -/
def prod (X : S8224x2048.Idx → EReal) (g : S1x2048.Idx → EReal) (W : S2048x5724.Idx → EReal) (P : Fin 8224) (Q : Fin 5724) : EReal :=
  ∑ k : Fin 2048, unit (fun l => X (ix2 P l)) (fun l => g (ix2 0 l)) k * W (ix2 k Q)

theorem first_iff : ∀ t : Fin cfg0.N, first (BitVec.ofNat 32 (grid0.coords t 1).val) = 1#1 ↔ t.val % 12 = 0 := (by decide +kernel : ∀ t : Fin grid0.N, _)
theorem idx0 : ∀ t : Fin cfg0.N, win0_0.index t = ![t.val / 12, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 12] := (by decide +kernel : ∀ t : Fin grid0.N, _)
theorem idx3 : ∀ t : Fin cfg0.N, win0_3.index t = ![t.val / 12, t.val % 12] := (by decide +kernel : ∀ t : Fin grid0.N, _)
theorem ext0 : ∀ (t : Fin cfg0.N), win0_0.xsize (grid0.coords t) 0 = min 512 (8224 - 512 * (t.val / 12)) ∧ win0_0.xsize (grid0.coords t) 1 = 2048 :=
  (by decide +kernel : ∀ t : Fin grid0.N, _)
theorem ext3 : ∀ (t : Fin cfg0.N), win0_3.xsize (grid0.coords t) 0 = min 512 (8224 - 512 * (t.val / 12))
    ∧ win0_3.xsize (grid0.coords t) 1 = min 512 (5724 - 512 * (t.val % 12)) :=
  (by decide +kernel : ∀ t : Fin grid0.N, _)
theorem ext2 : ∀ (t : Fin cfg0.N), win0_2.xsize (grid0.coords t) 0 = 2048 ∧ win0_2.xsize (grid0.coords t) 1 = min 512 (5724 - 512 * (t.val % 12)) :=
  (by decide +kernel : ∀ t : Fin grid0.N, _)

variable (m : (ℓ : Loc nD τ sig) → Buf (Elt Ideal) ℓ) (ρ : Dev nD → PrngReg) (c : Dev nD) (t : Fin cfg0.N)

/-- The result array's contents. -/
def G : S8224x5724.Idx → EReal := fun y => prod (V m c main_v2) (V m c main_v3) (V m c main_v4) (y 0) (y 1)

theorem x_at (d : S512x2048.Idx → EReal) (p : Fin 512) (k : Fin 2048) (P : Fin 8224) (hP : P.val = 512 * (t.val / 12) + p.val) :
    win0_0.fill (grid0.coords t) d (iblk m c 0 t) (ix2 p k) = V m c main_v2 (ix2 P k) := by
  have h0 : p.val < win0_0.xsize (grid0.coords t) 0 := by rw [(ext0 t).1]; have := P.isLt; have := p.isLt; omega
  have h1 : k.val < win0_0.xsize (grid0.coords t) 1 := by rw [(ext0 t).2]; exact k.isLt
  refine (fill_at (w := win0_0) (grid0.coords t) d (iblk m c 0 t) (fun a => match a with | ⟨0, _⟩ => ⟨p.val, h0⟩ | ⟨1, _⟩ => ⟨k.val, h1⟩) (ix2 p k)
    (funext fun a => by fin_cases a <;> rfl)).trans ?_
  blk_simp [iblk]
  refine congrArg (V m c main_v2) (funext fun a => Fin.ext ?_)
  fin_cases a <;> blk_simp [idx0 t]
  · exact (congrArg (· + p.val) (Nat.mul_comm _ _)).trans hP.symm
  · rfl

theorem g_at (k : Fin 2048) : iblk m c 1 t (ix2 0 k) = V m c main_v3 (ix2 0 k) := by
  blk_simp [iblk]
  refine congrArg (V m c main_v3) (funext fun a => Fin.ext ?_)
  fin_cases a <;> blk_simp [idx1 t]
  all_goals rfl

theorem w_at (d : S2048x512.Idx → EReal) (k : Fin 2048) (q : Fin 512) (Q : Fin 5724) (hQ : Q.val = 512 * (t.val % 12) + q.val) :
    win0_2.fill (grid0.coords t) d (iblk m c 2 t) (ix2 k q) = V m c main_v4 (ix2 k Q) := by
  have h0 : k.val < win0_2.xsize (grid0.coords t) 0 := by rw [(ext2 t).1]; exact k.isLt
  have h1 : q.val < win0_2.xsize (grid0.coords t) 1 := by rw [(ext2 t).2]; have := Q.isLt; have := q.isLt; omega
  refine (fill_at (w := win0_2) (grid0.coords t) d (iblk m c 2 t) (fun a => match a with | ⟨0, _⟩ => ⟨k.val, h0⟩ | ⟨1, _⟩ => ⟨q.val, h1⟩) (ix2 k q)
    (funext fun a => by fin_cases a <;> rfl)).trans ?_
  blk_simp [iblk]
  refine congrArg (V m c main_v4) (funext fun a => Fin.ext ?_)
  fin_cases a <;> blk_simp [idx2 t]
  · rfl
  · exact (congrArg (· + q.val) (Nat.mul_comm _ _)).trans hQ.symm

/-- The scratch holds the normalised rows of row block `r`, on the rows inside the array. -/
def Good (r : ℕ) (s : S512x2048.Idx → EReal) : Prop :=
  ∀ (p : Fin 512) (P : Fin 8224), P.val = 512 * r + p.val → ∀ k : Fin 2048,
    s (ix2 p k) = unit (fun l => V m c main_v2 (ix2 P l)) (fun l => V m c main_v3 (ix2 0 l)) k

theorem good_nxt (d : S512x2048.Idx → EReal) (s : S512x2048.Idx → EReal) (hs : t.val % 12 ≠ 0 → Good m c (t.val / 12) s) :
    Good m c (t.val / 12) (nxt (BitVec.ofNat 32 (grid0.coords t 1).val) (win0_0.fill (grid0.coords t) d (iblk m c 0 t)) (iblk m c 1 t) s) := by
  unfold nxt
  by_cases h : first (BitVec.ofNat 32 (grid0.coords t 1).val) = 1#1
  · rw [if_pos h]
    intro p P hP k
    rw [pay1_apply]
    refine congrArg₂ (fun f g => unit f g k) (funext fun l => x_at m c t d p l P hP) (funext fun l => g_at m c t l)
  · rw [if_neg h]
    exact hs fun h0 => h ((first_iff t).mpr h0)

/-- The proof data: the arrays as the region finds them; the inputs' blocks left in place; the result's block the array's,
    as `G` has it. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) fun j => G m c ((win0_3.blk t).view.emb j)
  Φ t := iprop((∃ s, ⌜t.val % 12 ≠ 0 → Good m c (t.val / 12) s⌝ ∗ owns (c : Thread nD τ) (Memref.whole cc0_scratch0) fullShare s) ∗ (∃ r, prngReg c r))
  q _ := fullShare
  owed _ := 0

theorem before_0 (d) : (dats m 0 c).before (0 : Fin 4) t d = win0_0.fill (grid0.coords t) d (iblk m c 0 t) :=
  (dats m 0 c).before_in_eq_fetched 0 rfl (fun _ => rfl)
    (fun t t' h => funext fun a => congrArg (fun f : Fin 2 → ℕ => Pipeline.Clip.of (f a) (S512x2048.size a) (S8224x2048.size a)) h)
    (fun t => win0_0.cut_fill _ _ _) t d
theorem before_1 (d) : (dats m 0 c).before (1 : Fin 4) t d = iblk m c 1 t := before0_1_of m (dats m 0 c) rfl (fun _ => rfl) t d
theorem before_2 (d) : (dats m 0 c).before (2 : Fin 4) t d = win0_2.fill (grid0.coords t) d (iblk m c 2 t) :=
  ((dats m 0 c).before_fetched 2 t (fetch0_2 t) d).trans rfl

/-- What the body leaves in the result's buffer, on the rows and columns inside the array. -/
theorem out_cut (s : S512x2048.Idx → EReal) (hs : Good m c (t.val / 12) s) (d2 : S2048x512.Idx → EReal) :
    win0_3.cut (grid0.coords t) (fun y : S512x512.Idx => mm s (win0_2.fill (grid0.coords t) d2 (iblk m c 2 t)) (y 0) (y 1)) = fun j => G m c ((win0_3.blk t).view.emb j) := by
  funext j
  have h0 : (j 0).val < min 512 (8224 - 512 * (t.val / 12)) := (ext3 t).1 ▸ (j 0).isLt
  have h1 : (j 1).val < min 512 (5724 - 512 * (t.val % 12)) := (ext3 t).2 ▸ (j 1).isLt
  have e0 : (((win0_3.blk t).view.emb j) 0 : Nat) = 512 * (t.val / 12) + (j 0).val := by
    blk_simp [idx3 t]; exact congrArg (· + (j 0).val) (Nat.mul_comm _ _)
  have e1 : (((win0_3.blk t).view.emb j) 1 : Nat) = 512 * (t.val % 12) + (j 1).val := by
    blk_simp [idx3 t]; exact congrArg (· + (j 1).val) (Nat.mul_comm _ _)
  show mm s _ ⟨(j 0).val, _⟩ ⟨(j 1).val, _⟩ = prod _ _ _ (((win0_3.blk t).view.emb j) 0) (((win0_3.blk t).view.emb j) 1)
  unfold mm prod
  exact Finset.sum_congr rfl fun k _ => congrArg₂ (· * ·) (hs _ _ e0 k) (w_at m c t d2 k _ _ e1)

theorem close_inv' : iprop((∃ s, ⌜t.succ.val % 12 ≠ 0 → Good m c (t.succ.val / 12) s⌝ ∗ owns (c : Thread nD τ) (Memref.whole cc0_scratch0) fullShare s) ∗ (∃ r, prngReg c r))
    ⊢ ((dats m 0 c).Φ t.succ : sProp 𝕄) := Entails.refl _

theorem open_inv' : ((dats m 0 c).Φ t.castSucc : sProp 𝕄) ⊢ iprop((∃ s, ⌜t.val % 12 ≠ 0 → Good m c (t.val / 12) s⌝
    ∗ owns (c : Thread nD τ) (Memref.whole cc0_scratch0) fullShare s) ∗ (∃ r, prngReg c r)) := Entails.refl _

theorem close_out (arg : Memref sig .tc .vmem S512x512 .f32) (Z : S512x512.Idx → EReal) (A : (win0_3.xblock (grid0.coords t)).Idx → EReal)
    (h : win0_3.cut (grid0.coords t) Z = A) :
    (owns (c : Thread nD τ) arg fullShare (Z : Vec Ideal S512x512 .f32) : sProp 𝕄) ⊢ iprop(∃ d : Vec Ideal S512x512 .f32, owns (c : Thread nD τ) arg fullShare
      (win0_3.fill (grid0.coords t) d (win0_3.cut (grid0.coords t) (win0_3.fill (grid0.coords t) (fun _ => (0 : EReal)) A)) : Vec Ideal S512x512 .f32)) := by
  have e : (win0_3.fill (grid0.coords t) Z (win0_3.cut (grid0.coords t) (win0_3.fill (grid0.coords t) (fun _ => (0 : EReal)) A)) : S512x512.Idx → EReal) = Z := by
    rw [win0_3.cut_fill, ← h, win0_3.fill_cut]
  iintro H
  iexists Z
  rw [e]
  iexact H

set_option backward.isDefEq.respectTransparency.types false in
theorem body_value (c : Dev nD) : BodyObligationLoose (dats m 0 c) (defs₀ (F := Ideal)) Variants.none () Set.univ := fun t => by
  rw [bigSep_W0, bigSep_W0, row]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  ihave HΦ' := open_inv' m c t $$ HΦ
  icases HΦ' with ⟨⟨%s, %hs, Hs⟩, Hr⟩
  have hg := good_nxt m c t d0 s hs
  iapply body_val defs₀ c _ _ _ _ _ _ _ _ _ _ _ (win0_0.fill (grid0.coords t) d0 (iblk m c 0 t)) (iblk m c 1 t) (win0_2.fill (grid0.coords t) d2 (iblk m c 2 t)) s
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr]
  · iapply close_inv' m c t
    isplitl [Hs]
    · iexists _
      isplitr
      swap
      · iexact Hs
      · ipureintro
        intro hne
        have e : t.succ.val / 12 = t.val / 12 := by
          have : t.succ.val = t.val + 1 := rfl
          rw [this] at hne ⊢
          omega
        rw [e]; exact hg
    iexact Hr
  isplitl [Ho]; · iexact Ho
  isplitl [H0]
  · iexists d0
    change _ ⊢ owns (c : Thread nD τ) (stage0_0 (cfg0.slots t 0)) fullShare (win0_0.fill (grid0.coords t) d0 (win0_0.cut (grid0.coords t)
      (win0_0.fill (grid0.coords t) (fun _ => (0 : EReal)) (iblk m c 0 t))))
    rw [win0_0.cut_fill]; try iexact H0
  isplitl [H1]; · iexact H1
  isplitl [H2]
  · iexists d2
    change _ ⊢ owns (c : Thread nD τ) (stage0_2 (cfg0.slots t 2)) fullShare (win0_2.fill (grid0.coords t) d2 (win0_2.cut (grid0.coords t)
      (win0_2.fill (grid0.coords t) (fun _ => (0 : EReal)) (iblk m c 2 t))))
    rw [win0_2.cut_fill]; try iexact H2
  · iapply close_out c t _ (fun y : S512x512.Idx => mm (nxt (BitVec.ofNat 32 (grid0.coords t 1).val) (win0_0.fill (grid0.coords t) d0 (iblk m c 0 t)) (iblk m c 1 t) s) (win0_2.fill (grid0.coords t) d2 (iblk m c 2 t)) (y 0) (y 1))
      (fun j => G m c ((win0_3.blk t).view.emb j)) (out_cut m c t _ hg d2) $$ H3

theorem inv_in : (Pipeline.ΦA spec0 c : sProp 𝕄) ⊢ (dats m 0 c).Φ 0 := by
  refine (open_scratch c).trans ?_
  change _ ⊢ iprop((∃ s : Vec Ideal S512x2048 .bf16, ⌜0 % 12 ≠ 0 → Good m c (0 / 12) s⌝ ∗ owns (c : Thread nD τ) (Memref.whole cc0_scratch0) fullShare s) ∗ (∃ r, prngReg c r))
  iintro ⟨⟨%s, Hs⟩, Hr⟩
  isplitl [Hs]
  · iexists s
    isplitr
    · ipureintro; exact fun h => absurd rfl h
    iexact Hs
  iexact Hr

theorem inv_out : ((dats m 0 c).Φ (Fin.last cfg0.N) : sProp 𝕄) ⊢ Pipeline.ΦA spec0 c := by
  refine BIBase.Entails.trans ?_ (close_scratch c)
  change iprop((∃ s : Vec Ideal S512x2048 .bf16, ⌜(Fin.last cfg0.N).val % 12 ≠ 0 → Good m c ((Fin.last cfg0.N).val / 12) s⌝ ∗ owns (c : Thread nD τ) (Memref.whole cc0_scratch0) fullShare s) ∗ (∃ r, prngReg c r)) ⊢ _
  iintro ⟨⟨%s, -, Hs⟩, Hr⟩
  isplitl [Hs]
  · iexists s; iexact Hs
  iexact Hr

set_option backward.isDefEq.respectTransparency.types false in
/-- The run, every buffer the region and the lines after it leave named. -/
theorem run_value : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) 0 launch0 defs₀ Variants.none m ρ main
    (fun c => body_value m c) (fun c => (dats m 0 c).share_full fun _ => rfl) (fun _ _ => rfl) (V0 m) [hostOps1] sfx_sub sfx_fresh sfx_keeps
    (hmain m Variants.none) (fun _ _ => rfl) (fun c => inv_in m c) (fun c => inv_out m c)

/-- The result array. -/
theorem arr_eq : (dats m 0 c).arrAt 3 cfg0.N = G m c := by
  refine (dats m 0 c).arrAt_eq_of_covers 3 _ (by decide +kernel) fun t hf y => ?_
  exact (cast_eq _ _).trans (win0_3.fill_xinj (grid0.coords t) (fun _ => (0 : EReal)) (fun j => G m c ((win0_3.blk t).view.emb j)) y)

end Cert.Kernel2Ideal.Rows

end
-- ==== Proof.Tail2.lean ====
/- The lines after the projection's region, from any contents `W` of its buffers: the product's rows split into the prompt's and
   the samples' rows, and cut into the new cache rows, as the reference cuts its own product. -/
module
public import proofs.«01_k».proof.Proof.Val2Ideal
public import proofs.«01_k».proof.Proof.Gen.Reference2Ideal.Read
@[expose] public section
set_option maxRecDepth 16384
noncomputable section
namespace Cert.Kernel2Ideal.Rows
open Cert.Kernel2Ideal Cert.Kernel2Ideal.Gen Idealize.ShloMosaic
open Idealize.ShloMosaic.TcCoe Idealize.SL.Sem Idealize.ShloMosaic.Tactic
open Cert.Reference2Ideal.Read

variable (W : Valuation τ sig (Elt Ideal))
abbrev prj : Vec Ideal S8224x5724 .f32 := W (Proc.devRef .tc main_v5)

theorem split_p (b : Fin 4) (t : Fin 2048) (j : Fin 5724) (P : Fin 8224) (hP : P.val = b.val * 2048 + t.val) :
    (shapeCast S4x2048x5724 (extractStridedSlice S8192x5724 ![0, 0] (prj W) slices_S8224x5724_S8192x5724_0_0) shapeCasts_S8192x5724_S4x2048x5724 : Vec Ideal S4x2048x5724 .f32) (ix3 b t j) = prj W (ix2 P j) := by
  pointwise
  refine congrArg (prj W) (funext fun a => ?_)
  have hb := b.isLt
  have ht := t.isLt
  have hj := j.isLt
  match a with
  | ⟨0, _⟩ => exact Fin.ext (by simp; omega)
  | ⟨1, _⟩ => exact Fin.ext (by simp)

theorem split_s (b : Fin 8) (t : Fin 4) (j : Fin 5724) (P : Fin 8224) (hP : P.val = 8192 + (b.val * 4 + t.val)) :
    (shapeCast S8x4x5724 (extractStridedSlice S32x5724 ![8192, 0] (prj W) slices_S8224x5724_S32x5724_8192_0) shapeCasts_S32x5724_S8x4x5724 : Vec Ideal S8x4x5724 .f32) (ix3 b t j) = prj W (ix2 P j) := by
  pointwise
  refine congrArg (prj W) (funext fun a => ?_)
  have hb := b.isLt
  have ht := t.isLt
  have hj := j.isLt
  match a with
  | ⟨0, _⟩ => exact Fin.ext (by simp; omega)
  | ⟨1, _⟩ => exact Fin.ext (by simp)

variable (x0 : Vec Ideal S4x2048x2048 .f32) (x1 : Vec Ideal S8x4x2048 .f32) (x2 : Vec Ideal S8x512x2x2x64 .f32) (x3 : Vec Ideal S2048 .f32) (x4 : Vec Ideal S2048x5724 .f32) (x5 : Vec Ideal S512 .f32)

theorem tail_v7
    (hz : (shapeCast S4x2048x5724 (extractStridedSlice S8192x5724 ![0, 0] (prj W) slices_S8224x5724_S8192x5724_0_0) shapeCasts_S8192x5724_S4x2048x5724 : Vec Ideal S4x2048x5724 .f32) = val_main_v13 (F := Ideal) x0 x3 x4) :
    StableHlo.after (hostOps1 (F := Ideal)) W (Proc.devRef .tc main_v7) = val_main_v13 (F := Ideal) x0 x3 x4 := by
  simp only [hostOps1]
  after_results
  rw [← hz]
  rfl

theorem tail_v9
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v9) = val_main_v27 (F := Ideal) x1 x3 x4 := by
  simp only [hostOps1]
  after_results
  rw [← hz]
  rfl

theorem tail_v27
    (hz : (shapeCast S4x2048x5724 (extractStridedSlice S8192x5724 ![0, 0] (prj W) slices_S8224x5724_S8192x5724_0_0) shapeCasts_S8192x5724_S4x2048x5724 : Vec Ideal S4x2048x5724 .f32) = val_main_v13 (F := Ideal) x0 x3 x4) :
    StableHlo.after (hostOps1 (F := Ideal)) W (Proc.devRef .tc main_v27) = val_main_v45 (F := Ideal) x0 x3 x4 := by
  simp only [hostOps1]
  after_results
  unfold val_main_v45 val_main_v44 val_main_v43 val_main_v42 val_main_v30 val_main_v29
  rw [← hz]
  rfl

theorem tail_v66
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v66) = val_main_v84 (F := Ideal) x1 x3 x4 := by
  simp only [hostOps1]
  after_results
  unfold val_main_v84 val_main_v83 val_main_v82 val_main_v81 val_main_v69 val_main_v68
  rw [← hz]
  rfl

theorem tail_v29
    (hz : (shapeCast S4x2048x5724 (extractStridedSlice S8192x5724 ![0, 0] (prj W) slices_S8224x5724_S8192x5724_0_0) shapeCasts_S8192x5724_S4x2048x5724 : Vec Ideal S4x2048x5724 .f32) = val_main_v13 (F := Ideal) x0 x3 x4) :
    StableHlo.after (hostOps1 (F := Ideal)) W (Proc.devRef .tc main_v29) = val_main_v47 (F := Ideal) x0 x3 x4 := by
  simp only [hostOps1]
  after_results
  unfold val_main_v47 val_main_v46 val_main_v32
  rw [← hz]
  rfl

theorem tail_v68
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v68) = val_main_v86 (F := Ideal) x1 x3 x4 := by
  simp only [hostOps1]
  after_results
  unfold val_main_v86 val_main_v85 val_main_v71
  rw [← hz]
  rfl

theorem tail_v35
    (hz : (shapeCast S4x2048x5724 (extractStridedSlice S8192x5724 ![0, 0] (prj W) slices_S8224x5724_S8192x5724_0_0) shapeCasts_S8192x5724_S4x2048x5724 : Vec Ideal S4x2048x5724 .f32) = val_main_v13 (F := Ideal) x0 x3 x4) :
    StableHlo.after (hostOps1 (F := Ideal)) W (Proc.devRef .tc main_v35) = val_main_v53 (F := Ideal) x0 x3 x4 := by
  simp only [hostOps1]
  after_results
  unfold val_main_v53 val_main_v48 val_main_v46 val_main_v32
  rw [← hz]
  rfl

theorem tail_v75 (h2 : W (Proc.devRef .tc main_arg2) = x2)
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v75) = val_main_v93 (F := Ideal) x1 x2 x3 x4 := by
  simp only [hostOps1]
  after_results
  unfold val_main_v93 val_main_v92 val_main_v87 val_main_v85 val_main_v71
  rw [← hz, ← h2]
  rfl

theorem tail_v34
    (hz : (shapeCast S4x2048x5724 (extractStridedSlice S8192x5724 ![0, 0] (prj W) slices_S8224x5724_S8192x5724_0_0) shapeCasts_S8192x5724_S4x2048x5724 : Vec Ideal S4x2048x5724 .f32) = val_main_v13 (F := Ideal) x0 x3 x4) :
    StableHlo.after (hostOps1 (F := Ideal)) W (Proc.devRef .tc main_v34) = val_main_v52 (F := Ideal) x0 x3 x4 := by
  simp only [hostOps1]
  after_results
  unfold val_main_v52 val_main_v51 val_main_v50 val_main_v49 val_main_v36 val_main_v35
  rw [← hz]
  rfl

theorem tail_v73
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v73) = val_main_v91 (F := Ideal) x1 x3 x4 := by
  simp only [hostOps1]
  after_results
  unfold val_main_v91 val_main_v90 val_main_v89 val_main_v88 val_main_v75 val_main_v74
  rw [← hz]
  rfl

theorem tail_v20
    (hz : (shapeCast S4x2048x5724 (extractStridedSlice S8192x5724 ![0, 0] (prj W) slices_S8224x5724_S8192x5724_0_0) shapeCasts_S8192x5724_S4x2048x5724 : Vec Ideal S4x2048x5724 .f32) = val_main_v13 (F := Ideal) x0 x3 x4) :
    StableHlo.after (hostOps1 (F := Ideal)) W (Proc.devRef .tc main_v20) = val_main_v38 (F := Ideal) x0 x3 x4 := by
  simp only [hostOps1]
  after_results
  unfold val_main_v38
  rw [← hz]
  rfl

theorem tail_v59
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v59) = val_main_v77 (F := Ideal) x1 x3 x4 := by
  simp only [hostOps1]
  after_results
  unfold val_main_v77
  rw [← hz]
  rfl

theorem tail_v88 (h5 : W (Proc.devRef .tc main_arg5) = x5)
    (hz : (shapeCast S8x4x5724 (extractStridedSlice S32x5724 ![8192, 0] (prj W) slices_S8224x5724_S32x5724_8192_0) shapeCasts_S32x5724_S8x4x5724 : Vec Ideal S8x4x5724 .f32) = val_main_v27 (F := Ideal) x1 x3 x4) :
    StableHlo.after (hostOps1 (F := Ideal)) W (Proc.devRef .tc main_v88) = val_main_v106 (F := Ideal) x1 x3 x4 x5 := by
  simp only [hostOps1]
  after_results
  unfold val_main_v106 val_main_v105 val_main_v104 val_main_v103 val_main_v102 val_main_v101 val_main_v100 val_main_v99 val_main_cst_10 val_main_v98 val_main_v97 val_main_cst_9 val_main_v96 val_main_v95 val_main_cst_8 val_main_v94 val_main_v80
  rw [← hz, ← h5]
  rfl
end Cert.Kernel2Ideal.Rows
end
-- ==== Proof.Meet2.lean ====
/- The projection's kernel and its reference end with the same arrays. -/
module
public import proofs.«01_k».proof.Defs
public import proofs.«01_k».proof.Proof.Ref2
public import proofs.«01_k».proof.Proof.Tail2
public import proofs.«01_k».proof.Proof.Gen.Reference2Ideal.Run
public import proofs.«01_k».proof.Proof.Gen.Reference2Ideal
@[expose] public section
set_option maxRecDepth 16384
noncomputable section
namespace Cert.Kernel2Ideal.Rows
open Cert.Kernel2Ideal Cert.Kernel2Ideal.Gen Idealize.ShloMosaic
open Idealize.ShloMosaic.TcCoe Idealize.SL.Sem Idealize.ShloMosaic.Tactic
open Cert.Block (unit)
open Cert.Reference2Ideal.Read
open Cert.Reference2Ideal.Rows (zp_eq zs_eq)
variable (m : (ℓ : Loc nD τ sig) → Buf (Elt Ideal) ℓ) (ρ : Dev nD → PrngReg) (c : Dev nD)

theorem gain_eq (k : Fin 2048) : (V m c main_v3 : S1x2048.Idx → EReal) (ix2 0 k) = (m ((c : Thread nD τ).loc main_arg3) : S2048.Idx → EReal) (ix1 k) := by
  rw [show (V m c main_v3 : S1x2048.Idx → EReal) = V0 m c (Proc.devRef .tc main_v3) from rfl]
  simp only [V0, hostOps0, List.flatten_cons, List.flatten_nil, List.append_nil, List.cons_append, List.nil_append]
  after_results
  pointwise

theorem weight_eq (k : Fin 2048) (Q : Fin 5724) : (V m c main_v4 : S2048x5724.Idx → EReal) (ix2 k Q) = (m ((c : Thread nD τ).loc main_arg4) : S2048x5724.Idx → EReal) (ix2 k Q) := by
  rw [show (V m c main_v4 : S2048x5724.Idx → EReal) = V0 m c (Proc.devRef .tc main_v4) from rfl]
  simp only [V0, hostOps0, List.flatten_cons, List.flatten_nil, List.append_nil, List.cons_append, List.nil_append]
  after_results
  pointwise

/-- The rows the region reads: the prompt's, then the samples'. -/
theorem rows_p (b : Fin 4) (t k : Fin 2048) (P : Fin 8224) (hP : P.val = b.val * 2048 + t.val) :
    (V m c main_v2 : S8224x2048.Idx → EReal) (ix2 P k) = (m ((c : Thread nD τ).loc main_arg0) : S4x2048x2048.Idx → EReal) (ix3 b t k) := by
  rw [show (V m c main_v2 : S8224x2048.Idx → EReal) = V0 m c (Proc.devRef .tc main_v2) from rfl]
  simp only [V0, hostOps0, List.flatten_cons, List.flatten_nil, List.append_nil, List.cons_append, List.nil_append]
  after_results
  have hb := b.isLt
  have ht := t.isLt
  refine (concatenate_pair_apply_left (t := S8224x2048) (s₁ := S8192x2048) (s₂ := S32x2048) 0 _ _ _ (ix2 P k) rfl (ix2 ⟨P.val, by omega⟩ k) (fun a => match a with | ⟨0, _⟩ => rfl | ⟨1, _⟩ => rfl)).trans ?_
  refine shapeCast_apply (t := S8192x2048) _ _ _ (ix3 b t k) ?_
  rewrite [Shape.rowMajor_val_three, Shape.rowMajor_val_two]
  show (b.val * 2048 + t.val) * 2048 + k.val = P.val * 2048 + k.val
  rw [hP]

theorem rows_s (b : Fin 8) (t : Fin 4) (k : Fin 2048) (P : Fin 8224) (hP : P.val = 8192 + (b.val * 4 + t.val)) :
    (V m c main_v2 : S8224x2048.Idx → EReal) (ix2 P k) = (m ((c : Thread nD τ).loc main_arg1) : S8x4x2048.Idx → EReal) (ix3 b t k) := by
  rw [show (V m c main_v2 : S8224x2048.Idx → EReal) = V0 m c (Proc.devRef .tc main_v2) from rfl]
  simp only [V0, hostOps0, List.flatten_cons, List.flatten_nil, List.append_nil, List.cons_append, List.nil_append]
  after_results
  have hb := b.isLt
  have ht := t.isLt
  refine (concatenate_pair_apply_right (t := S8224x2048) (s₁ := S8192x2048) (s₂ := S32x2048) 0 _ _ _ (ix2 P k) rfl rfl (ix2 ⟨b.val * 4 + t.val, by omega⟩ k)
    (fun a h => match a, h with | ⟨0, _⟩, h => absurd rfl h | ⟨1, _⟩, _ => rfl) (by show b.val * 4 + t.val + 8192 = P.val; omega)).trans ?_
  refine shapeCast_apply (t := S32x2048) _ _ _ (ix3 b t k) ?_
  rewrite [Shape.rowMajor_val_three, Shape.rowMajor_val_two]
  rfl

theorem G_eq (P : Fin 8224) (Q : Fin 5724) (f : Fin 2048 → EReal) (hf : ∀ l, (V m c main_v2 : S8224x2048.Idx → EReal) (ix2 P l) = f l)
    (g3 : Vec Ideal S2048 .f32) (h3 : m ((c : Thread nD τ).loc main_arg3) = g3) (w4 : Vec Ideal S2048x5724 .f32) (h4 : m ((c : Thread nD τ).loc main_arg4) = w4) :
    G m c (ix2 P Q) = ∑ k : Fin 2048, unit f (fun l => g3 (ix1 l)) k * w4 (ix2 k Q) := by
  subst h3 h4
  show prod (V m c main_v2) (V m c main_v3) (V m c main_v4) P Q = _
  unfold prod
  rw [show (fun l => (V m c main_v2 : S8224x2048.Idx → EReal) (ix2 P l)) = f from funext hf]
  exact Finset.sum_congr rfl fun k _ => congrArg₂ (· * ·) (congrArg (unit f · k) (funext fun l => gain_eq m c l)) (weight_eq m c k Q)

/-- What the lines after the region start from. -/
abbrev Wt : Valuation τ sig (Elt Ideal) := Pipeline.withArrays spec0 c (V0 m c) fun w => (dats m 0 c).arrAt w cfg0.N

theorem Wt_out : Wt m c (Proc.devRef .tc main_v5) = G m c :=
  (Pipeline.withArrays_arr spec0 launch0.win.arr_inj c (V0 m c) (fun w => (dats m 0 c).arrAt w cfg0.N) 3).trans (arr_eq m c)
theorem Wt_2 : Wt m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem Wt_5 : Wt m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem z_p : (shapeCast S4x2048x5724 (extractStridedSlice S8192x5724 ![0, 0] (prj (Wt m c)) slices_S8224x5724_S8192x5724_0_0) shapeCasts_S8192x5724_S4x2048x5724 : Vec Ideal S4x2048x5724 .f32)
    = val_main_v13 (F := Ideal) (m ((c : Thread nD τ).loc main_arg0)) (m ((c : Thread nD τ).loc main_arg3)) (m ((c : Thread nD τ).loc main_arg4)) := by
  funext y
  have e : y = ix3 (y 0) (y 1) (y 2) := funext fun a => match a with | ⟨0, _⟩ => rfl | ⟨1, _⟩ => rfl | ⟨2, _⟩ => rfl
  have h0 : (y 0).val < 4 := (y 0).isLt
  have h1 : (y 1).val < 2048 := (y 1).isLt
  rw [e]
  have P : {P : Fin 8224 // P.val = (y 0).val * 2048 + (y 1).val} := ⟨⟨(y 0).val * 2048 + (y 1).val, by omega⟩, rfl⟩
  refine (split_p _ (y 0) (y 1) (y 2) P.1 P.2).trans (Eq.trans ?_ (zp_eq _ _ _ (y 0) (y 1) (y 2)).symm)
  rw [show prj (Wt m c) = _ from Wt_out m c]
  exact G_eq m c P.1 (y 2) _ (fun l => rows_p m c (y 0) (y 1) l P.1 P.2) _ rfl _ rfl

theorem z_s : (shapeCast S8x4x5724 (extractStridedSlice S32x5724 ![8192, 0] (prj (Wt m c)) slices_S8224x5724_S32x5724_8192_0) shapeCasts_S32x5724_S8x4x5724 : Vec Ideal S8x4x5724 .f32)
    = val_main_v27 (F := Ideal) (m ((c : Thread nD τ).loc main_arg1)) (m ((c : Thread nD τ).loc main_arg3)) (m ((c : Thread nD τ).loc main_arg4)) := by
  funext y
  have e : y = ix3 (y 0) (y 1) (y 2) := funext fun a => match a with | ⟨0, _⟩ => rfl | ⟨1, _⟩ => rfl | ⟨2, _⟩ => rfl
  have h0 : (y 0).val < 8 := (y 0).isLt
  have h1 : (y 1).val < 4 := (y 1).isLt
  rw [e]
  have P : {P : Fin 8224 // P.val = 8192 + ((y 0).val * 4 + (y 1).val)} := ⟨⟨8192 + ((y 0).val * 4 + (y 1).val), by omega⟩, rfl⟩
  refine (split_s _ (y 0) (y 1) (y 2) P.1 P.2).trans (Eq.trans ?_ (zs_eq _ _ _ (y 0) (y 1) (y 2)).symm)
  rw [show prj (Wt m c) = _ from Wt_out m c]
  exact G_eq m c P.1 (y 2) _ (fun l => rows_s m c (y 0) (y 1) l P.1 P.2) _ rfl _ rfl

/- The results' contents. -/
abbrev out_v7 : Buf (Elt Ideal) ((c : Thread nD τ).loc main_v7) := Pipeline.afterTail₀ cfgs (dats m) 0 (V0 m) [hostOps1] c main_v7
abbrev out_v9 : Buf (Elt Ideal) ((c : Thread nD τ).loc main_v9) := Pipeline.afterTail₀ cfgs (dats m) 0 (V0 m) [hostOps1] c main_v9
abbrev out_v27 : Buf (Elt Ideal) ((c : Thread nD τ).loc main_v27) := Pipeline.afterTail₀ cfgs (dats m) 0 (V0 m) [hostOps1] c main_v27
abbrev out_v66 : Buf (Elt Ideal) ((c : Thread nD τ).loc main_v66) := Pipeline.afterTail₀ cfgs (dats m) 0 (V0 m) [hostOps1] c main_v66
abbrev out_v29 : Buf (Elt Ideal) ((c : Thread nD τ).loc main_v29) := Pipeline.afterTail₀ cfgs (dats m) 0 (V0 m) [hostOps1] c main_v29
abbrev out_v68 : Buf (Elt Ideal) ((c : Thread nD τ).loc main_v68) := Pipeline.afterTail₀ cfgs (dats m) 0 (V0 m) [hostOps1] c main_v68
abbrev out_v35 : Buf (Elt Ideal) ((c : Thread nD τ).loc main_v35) := Pipeline.afterTail₀ cfgs (dats m) 0 (V0 m) [hostOps1] c main_v35
abbrev out_v75 : Buf (Elt Ideal) ((c : Thread nD τ).loc main_v75) := Pipeline.afterTail₀ cfgs (dats m) 0 (V0 m) [hostOps1] c main_v75
abbrev out_v34 : Buf (Elt Ideal) ((c : Thread nD τ).loc main_v34) := Pipeline.afterTail₀ cfgs (dats m) 0 (V0 m) [hostOps1] c main_v34
abbrev out_v73 : Buf (Elt Ideal) ((c : Thread nD τ).loc main_v73) := Pipeline.afterTail₀ cfgs (dats m) 0 (V0 m) [hostOps1] c main_v73
abbrev out_v20 : Buf (Elt Ideal) ((c : Thread nD τ).loc main_v20) := Pipeline.afterTail₀ cfgs (dats m) 0 (V0 m) [hostOps1] c main_v20
abbrev out_v59 : Buf (Elt Ideal) ((c : Thread nD τ).loc main_v59) := Pipeline.afterTail₀ cfgs (dats m) 0 (V0 m) [hostOps1] c main_v59
abbrev out_v88 : Buf (Elt Ideal) ((c : Thread nD τ).loc main_v88) := Pipeline.afterTail₀ cfgs (dats m) 0 (V0 m) [hostOps1] c main_v88

theorem out_v7_eq : out_v7 m c = val_main_v13 (F := Ideal) (m ((c : Thread nD τ).loc main_arg0)) (m ((c : Thread nD τ).loc main_arg3)) (m ((c : Thread nD τ).loc main_arg4)) := by
  unfold out_v7 Pipeline.afterTail₀
  rw [List.flatten_cons, List.flatten_nil, List.append_nil]
  exact tail_v7 (Wt m c) _ _ _ (z_p m c)

theorem out_v9_eq : out_v9 m c = val_main_v27 (F := Ideal) (m ((c : Thread nD τ).loc main_arg1)) (m ((c : Thread nD τ).loc main_arg3)) (m ((c : Thread nD τ).loc main_arg4)) := by
  unfold out_v9 Pipeline.afterTail₀
  rw [List.flatten_cons, List.flatten_nil, List.append_nil]
  exact tail_v9 (Wt m c) _ _ _ (z_s m c)

theorem out_v27_eq : out_v27 m c = val_main_v45 (F := Ideal) (m ((c : Thread nD τ).loc main_arg0)) (m ((c : Thread nD τ).loc main_arg3)) (m ((c : Thread nD τ).loc main_arg4)) := by
  unfold out_v27 Pipeline.afterTail₀
  rw [List.flatten_cons, List.flatten_nil, List.append_nil]
  exact tail_v27 (Wt m c) _ _ _ (z_p m c)

theorem out_v66_eq : out_v66 m c = val_main_v84 (F := Ideal) (m ((c : Thread nD τ).loc main_arg1)) (m ((c : Thread nD τ).loc main_arg3)) (m ((c : Thread nD τ).loc main_arg4)) := by
  unfold out_v66 Pipeline.afterTail₀
  rw [List.flatten_cons, List.flatten_nil, List.append_nil]
  exact tail_v66 (Wt m c) _ _ _ (z_s m c)

theorem out_v29_eq : out_v29 m c = val_main_v47 (F := Ideal) (m ((c : Thread nD τ).loc main_arg0)) (m ((c : Thread nD τ).loc main_arg3)) (m ((c : Thread nD τ).loc main_arg4)) := by
  unfold out_v29 Pipeline.afterTail₀
  rw [List.flatten_cons, List.flatten_nil, List.append_nil]
  exact tail_v29 (Wt m c) _ _ _ (z_p m c)

theorem out_v68_eq : out_v68 m c = val_main_v86 (F := Ideal) (m ((c : Thread nD τ).loc main_arg1)) (m ((c : Thread nD τ).loc main_arg3)) (m ((c : Thread nD τ).loc main_arg4)) := by
  unfold out_v68 Pipeline.afterTail₀
  rw [List.flatten_cons, List.flatten_nil, List.append_nil]
  exact tail_v68 (Wt m c) _ _ _ (z_s m c)

theorem out_v35_eq : out_v35 m c = val_main_v53 (F := Ideal) (m ((c : Thread nD τ).loc main_arg0)) (m ((c : Thread nD τ).loc main_arg3)) (m ((c : Thread nD τ).loc main_arg4)) := by
  unfold out_v35 Pipeline.afterTail₀
  rw [List.flatten_cons, List.flatten_nil, List.append_nil]
  exact tail_v35 (Wt m c) _ _ _ (z_p m c)

theorem out_v75_eq : out_v75 m c = val_main_v93 (F := Ideal) (m ((c : Thread nD τ).loc main_arg1)) (m ((c : Thread nD τ).loc main_arg2)) (m ((c : Thread nD τ).loc main_arg3)) (m ((c : Thread nD τ).loc main_arg4)) := by
  unfold out_v75 Pipeline.afterTail₀
  rw [List.flatten_cons, List.flatten_nil, List.append_nil]
  exact tail_v75 (Wt m c) _ _ _ _ (Wt_2 m c) (z_s m c)

theorem out_v34_eq : out_v34 m c = val_main_v52 (F := Ideal) (m ((c : Thread nD τ).loc main_arg0)) (m ((c : Thread nD τ).loc main_arg3)) (m ((c : Thread nD τ).loc main_arg4)) := by
  unfold out_v34 Pipeline.afterTail₀
  rw [List.flatten_cons, List.flatten_nil, List.append_nil]
  exact tail_v34 (Wt m c) _ _ _ (z_p m c)

theorem out_v73_eq : out_v73 m c = val_main_v91 (F := Ideal) (m ((c : Thread nD τ).loc main_arg1)) (m ((c : Thread nD τ).loc main_arg3)) (m ((c : Thread nD τ).loc main_arg4)) := by
  unfold out_v73 Pipeline.afterTail₀
  rw [List.flatten_cons, List.flatten_nil, List.append_nil]
  exact tail_v73 (Wt m c) _ _ _ (z_s m c)

theorem out_v20_eq : out_v20 m c = val_main_v38 (F := Ideal) (m ((c : Thread nD τ).loc main_arg0)) (m ((c : Thread nD τ).loc main_arg3)) (m ((c : Thread nD τ).loc main_arg4)) := by
  unfold out_v20 Pipeline.afterTail₀
  rw [List.flatten_cons, List.flatten_nil, List.append_nil]
  exact tail_v20 (Wt m c) _ _ _ (z_p m c)

theorem out_v59_eq : out_v59 m c = val_main_v77 (F := Ideal) (m ((c : Thread nD τ).loc main_arg1)) (m ((c : Thread nD τ).loc main_arg3)) (m ((c : Thread nD τ).loc main_arg4)) := by
  unfold out_v59 Pipeline.afterTail₀
  rw [List.flatten_cons, List.flatten_nil, List.append_nil]
  exact tail_v59 (Wt m c) _ _ _ (z_s m c)

theorem out_v88_eq : out_v88 m c = val_main_v106 (F := Ideal) (m ((c : Thread nD τ).loc main_arg1)) (m ((c : Thread nD τ).loc main_arg3)) (m ((c : Thread nD τ).loc main_arg4)) (m ((c : Thread nD τ).loc main_arg5)) := by
  unfold out_v88 Pipeline.afterTail₀
  rw [List.flatten_cons, List.flatten_nil, List.append_nil]
  exact tail_v88 (Wt m c) _ _ _ _ (Wt_5 m c) (z_s m c)

theorem run_out : θ_run defs (onTc (τ := τ) (main (F := Ideal))) ⟨m, fun _ => 0, ρ⟩ (fun r => ∀ c : Dev nD,
      r.2.mem ((c.tc : Thread nD τ).loc main_v7) = out_v7 m c
      ∧ r.2.mem ((c.tc : Thread nD τ).loc main_v9) = out_v9 m c
      ∧ r.2.mem ((c.tc : Thread nD τ).loc main_v27) = out_v27 m c
      ∧ r.2.mem ((c.tc : Thread nD τ).loc main_v66) = out_v66 m c
      ∧ r.2.mem ((c.tc : Thread nD τ).loc main_v29) = out_v29 m c
      ∧ r.2.mem ((c.tc : Thread nD τ).loc main_v68) = out_v68 m c
      ∧ r.2.mem ((c.tc : Thread nD τ).loc main_v35) = out_v35 m c
      ∧ r.2.mem ((c.tc : Thread nD τ).loc main_v75) = out_v75 m c
      ∧ r.2.mem ((c.tc : Thread nD τ).loc main_v34) = out_v34 m c
      ∧ r.2.mem ((c.tc : Thread nD τ).loc main_v73) = out_v73 m c
      ∧ r.2.mem ((c.tc : Thread nD τ).loc main_v20) = out_v20 m c
      ∧ r.2.mem ((c.tc : Thread nD τ).loc main_v59) = out_v59 m c
      ∧ r.2.mem ((c.tc : Thread nD τ).loc main_v88) = out_v88 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (h c).2 main_v7 (Pipeline.mem_restRefs_of main_v7 (by decide) (by decide)),
      (h c).2 main_v9 (Pipeline.mem_restRefs_of main_v9 (by decide) (by decide)),
      (h c).2 main_v27 (Pipeline.mem_restRefs_of main_v27 (by decide) (by decide)),
      (h c).2 main_v66 (Pipeline.mem_restRefs_of main_v66 (by decide) (by decide)),
      (h c).2 main_v29 (Pipeline.mem_restRefs_of main_v29 (by decide) (by decide)),
      (h c).2 main_v68 (Pipeline.mem_restRefs_of main_v68 (by decide) (by decide)),
      (h c).2 main_v35 (Pipeline.mem_restRefs_of main_v35 (by decide) (by decide)),
      (h c).2 main_v75 (Pipeline.mem_restRefs_of main_v75 (by decide) (by decide)),
      (h c).2 main_v34 (Pipeline.mem_restRefs_of main_v34 (by decide) (by decide)),
      (h c).2 main_v73 (Pipeline.mem_restRefs_of main_v73 (by decide) (by decide)),
      (h c).2 main_v20 (Pipeline.mem_restRefs_of main_v20 (by decide) (by decide)),
      (h c).2 main_v59 (Pipeline.mem_restRefs_of main_v59 (by decide) (by decide)),
      (h c).2 main_v88 (Pipeline.mem_restRefs_of main_v88 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_value m ρ)
end Cert.Kernel2Ideal.Rows

namespace Cert.Proof
open Idealize.ShloMosaic Idealize.ShloMosaic.TcCoe Idealize.SL.Sem

set_option maxHeartbeats 4000000 in
theorem project_algebraic : Cert.algebraic_Kernel2Ideal_Reference2Ideal (hKernel2Ideal := Cert.Kernel2Ideal.Gen.facts) (hReference2Ideal := Cert.Reference2Ideal.Gen.facts) :=
  fun m g m' g' _ hm => by
    refine ⟨fun c => Cert.Kernel2Ideal.Rows.out_v7 m c, fun c => Cert.Kernel2Ideal.Rows.out_v9 m c, fun c => Cert.Kernel2Ideal.Rows.out_v27 m c, fun c => Cert.Kernel2Ideal.Rows.out_v66 m c, fun c => Cert.Kernel2Ideal.Rows.out_v29 m c, fun c => Cert.Kernel2Ideal.Rows.out_v68 m c, fun c => Cert.Kernel2Ideal.Rows.out_v35 m c, fun c => Cert.Kernel2Ideal.Rows.out_v75 m c, fun c => Cert.Kernel2Ideal.Rows.out_v34 m c, fun c => Cert.Kernel2Ideal.Rows.out_v73 m c, fun c => Cert.Kernel2Ideal.Rows.out_v20 m c, fun c => Cert.Kernel2Ideal.Rows.out_v59 m c, fun c => Cert.Kernel2Ideal.Rows.out_v88 m c, Cert.Kernel2Ideal.Rows.run_out m g,
      (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2⟩) (Cert.Reference2Ideal.Value.run m' g')⟩
    · obtain ⟨e0, e1, e2, e3, e4, e5⟩ := hm c
      refine (Cert.Reference2Ideal.Read.val_main_v13_eq _ _ _).trans ?_
      rw [e0, e3, e4]
      exact (Cert.Kernel2Ideal.Rows.out_v7_eq m c).symm
    · obtain ⟨e0, e1, e2, e3, e4, e5⟩ := hm c
      refine (Cert.Reference2Ideal.Read.val_main_v27_eq _ _ _).trans ?_
      rw [e1, e3, e4]
      exact (Cert.Kernel2Ideal.Rows.out_v9_eq m c).symm
    · obtain ⟨e0, e1, e2, e3, e4, e5⟩ := hm c
      refine (Cert.Reference2Ideal.Read.val_main_v45_eq _ _ _).trans ?_
      rw [e0, e3, e4]
      exact (Cert.Kernel2Ideal.Rows.out_v27_eq m c).symm
    · obtain ⟨e0, e1, e2, e3, e4, e5⟩ := hm c
      refine (Cert.Reference2Ideal.Read.val_main_v84_eq _ _ _).trans ?_
      rw [e1, e3, e4]
      exact (Cert.Kernel2Ideal.Rows.out_v66_eq m c).symm
    · obtain ⟨e0, e1, e2, e3, e4, e5⟩ := hm c
      refine (Cert.Reference2Ideal.Read.val_main_v47_eq _ _ _).trans ?_
      rw [e0, e3, e4]
      exact (Cert.Kernel2Ideal.Rows.out_v29_eq m c).symm
    · obtain ⟨e0, e1, e2, e3, e4, e5⟩ := hm c
      refine (Cert.Reference2Ideal.Read.val_main_v86_eq _ _ _).trans ?_
      rw [e1, e3, e4]
      exact (Cert.Kernel2Ideal.Rows.out_v68_eq m c).symm
    · obtain ⟨e0, e1, e2, e3, e4, e5⟩ := hm c
      refine (Cert.Reference2Ideal.Read.val_main_v53_eq _ _ _).trans ?_
      rw [e0, e3, e4]
      exact (Cert.Kernel2Ideal.Rows.out_v35_eq m c).symm
    · obtain ⟨e0, e1, e2, e3, e4, e5⟩ := hm c
      refine (Cert.Reference2Ideal.Read.val_main_v93_eq _ _ _ _).trans ?_
      rw [e1, e2, e3, e4]
      exact (Cert.Kernel2Ideal.Rows.out_v75_eq m c).symm
    · obtain ⟨e0, e1, e2, e3, e4, e5⟩ := hm c
      refine (Cert.Reference2Ideal.Read.val_main_v52_eq _ _ _).trans ?_
      rw [e0, e3, e4]
      exact (Cert.Kernel2Ideal.Rows.out_v34_eq m c).symm
    · obtain ⟨e0, e1, e2, e3, e4, e5⟩ := hm c
      refine (Cert.Reference2Ideal.Read.val_main_v91_eq _ _ _).trans ?_
      rw [e1, e3, e4]
      exact (Cert.Kernel2Ideal.Rows.out_v73_eq m c).symm
    · obtain ⟨e0, e1, e2, e3, e4, e5⟩ := hm c
      refine (Cert.Reference2Ideal.Read.val_main_v38_eq _ _ _).trans ?_
      rw [e0, e3, e4]
      exact (Cert.Kernel2Ideal.Rows.out_v20_eq m c).symm
    · obtain ⟨e0, e1, e2, e3, e4, e5⟩ := hm c
      refine (Cert.Reference2Ideal.Read.val_main_v77_eq _ _ _).trans ?_
      rw [e1, e3, e4]
      exact (Cert.Kernel2Ideal.Rows.out_v59_eq m c).symm
    · obtain ⟨e0, e1, e2, e3, e4, e5⟩ := hm c
      refine (Cert.Reference2Ideal.Read.val_main_v106_eq _ _ _ _).trans ?_
      rw [e1, e3, e4, e5]
      exact (Cert.Kernel2Ideal.Rows.out_v88_eq m c).symm
end Cert.Proof
end
-- ==== Proof.Val3Ideal.lean ====
/-
  `Kernel3Ideal`'s matrix product in closed form: the region runs to the end, and its result array holds, at row `P` and column `Q`,
  the normalised row `P` of the rows' array times column `Q` of the weights. The last row block overhangs the array, so its
  buffers hold rows that nothing names past the array's end; the scratch is stated on the rows inside the array only.
-/
module

public import proofs.«01_k».proof.Proof.Frame3Ideal

@[expose] public section

set_option maxRecDepth 16384

noncomputable section

namespace Cert.Kernel3Ideal.Rows

open Cert.Kernel3Ideal Cert.Kernel3Ideal.Gen Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The product's entry at row `P` and column `Q`. -/
def prod (X : S8224x2048.Idx → EReal) (g : S1x2048.Idx → EReal) (W : S2048x8192.Idx → EReal) (P : Fin 8224) (Q : Fin 8192) : EReal :=
  ∑ k : Fin 2048, unit (fun l => X (ix2 P l)) (fun l => g (ix2 0 l)) k * W (ix2 k Q)

theorem first_iff : ∀ t : Fin cfg0.N, first (BitVec.ofNat 32 (grid0.coords t 1).val) = 1#1 ↔ t.val % 16 = 0 := (by decide +kernel : ∀ t : Fin grid0.N, _)
theorem idx0 : ∀ t : Fin cfg0.N, win0_0.index t = ![t.val / 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 16] := (by decide +kernel : ∀ t : Fin grid0.N, _)
theorem idx3 : ∀ t : Fin cfg0.N, win0_3.index t = ![t.val / 16, t.val % 16] := (by decide +kernel : ∀ t : Fin grid0.N, _)
theorem ext0 : ∀ (t : Fin cfg0.N), win0_0.xsize (grid0.coords t) 0 = min 512 (8224 - 512 * (t.val / 16)) ∧ win0_0.xsize (grid0.coords t) 1 = 2048 :=
  (by decide +kernel : ∀ t : Fin grid0.N, _)
theorem ext3 : ∀ (t : Fin cfg0.N), win0_3.xsize (grid0.coords t) 0 = min 512 (8224 - 512 * (t.val / 16))
    ∧ win0_3.xsize (grid0.coords t) 1 = min 512 (8192 - 512 * (t.val % 16)) :=
  (by decide +kernel : ∀ t : Fin grid0.N, _)

variable (m : (ℓ : Loc nD τ sig) → Buf (Elt Ideal) ℓ) (ρ : Dev nD → PrngReg) (c : Dev nD) (t : Fin cfg0.N)

/-- The result array's contents. -/
def G : S8224x8192.Idx → EReal := fun y => prod (V m c main_arg0) (V m c main_v0) (V m c main_v1) (y 0) (y 1)

theorem x_at (d : S512x2048.Idx → EReal) (p : Fin 512) (k : Fin 2048) (P : Fin 8224) (hP : P.val = 512 * (t.val / 16) + p.val) :
    win0_0.fill (grid0.coords t) d (iblk m c 0 t) (ix2 p k) = V m c main_arg0 (ix2 P k) := by
  have h0 : p.val < win0_0.xsize (grid0.coords t) 0 := by rw [(ext0 t).1]; have := P.isLt; have := p.isLt; omega
  have h1 : k.val < win0_0.xsize (grid0.coords t) 1 := by rw [(ext0 t).2]; exact k.isLt
  refine (fill_at (w := win0_0) (grid0.coords t) d (iblk m c 0 t) (fun a => match a with | ⟨0, _⟩ => ⟨p.val, h0⟩ | ⟨1, _⟩ => ⟨k.val, h1⟩) (ix2 p k)
    (funext fun a => by fin_cases a <;> rfl)).trans ?_
  blk_simp [iblk]
  refine congrArg (V m c main_arg0) (funext fun a => Fin.ext ?_)
  fin_cases a <;> blk_simp [idx0 t]
  · exact (congrArg (· + p.val) (Nat.mul_comm _ _)).trans hP.symm
  · rfl

theorem g_at (k : Fin 2048) : iblk m c 1 t (ix2 0 k) = V m c main_v0 (ix2 0 k) := by
  blk_simp [iblk]
  refine congrArg (V m c main_v0) (funext fun a => Fin.ext ?_)
  fin_cases a <;> blk_simp [idx1 t]
  all_goals rfl

theorem w_at (k : Fin 2048) (q : Fin 512) (Q : Fin 8192) (hQ : Q.val = 512 * (t.val % 16) + q.val) :
    iblk m c 2 t (ix2 k q) = V m c main_v1 (ix2 k Q) := by
  blk_simp [iblk]
  refine congrArg (V m c main_v1) (funext fun a => Fin.ext ?_)
  fin_cases a <;> blk_simp [idx2 t]
  · rfl
  · exact (congrArg (· + q.val) (Nat.mul_comm _ _)).trans hQ.symm

/-- The scratch holds the normalised rows of row block `r`, on the rows inside the array. -/
def Good (r : ℕ) (s : S512x2048.Idx → EReal) : Prop :=
  ∀ (p : Fin 512) (P : Fin 8224), P.val = 512 * r + p.val → ∀ k : Fin 2048,
    s (ix2 p k) = unit (fun l => V m c main_arg0 (ix2 P l)) (fun l => V m c main_v0 (ix2 0 l)) k

theorem good_nxt (d : S512x2048.Idx → EReal) (s : S512x2048.Idx → EReal) (hs : t.val % 16 ≠ 0 → Good m c (t.val / 16) s) :
    Good m c (t.val / 16) (nxt (BitVec.ofNat 32 (grid0.coords t 1).val) (win0_0.fill (grid0.coords t) d (iblk m c 0 t)) (iblk m c 1 t) s) := by
  unfold nxt
  by_cases h : first (BitVec.ofNat 32 (grid0.coords t 1).val) = 1#1
  · rw [if_pos h]
    intro p P hP k
    rw [pay1_apply]
    refine congrArg₂ (fun f g => unit f g k) (funext fun l => x_at m c t d p l P hP) (funext fun l => g_at m c t l)
  · rw [if_neg h]
    exact hs fun h0 => h ((first_iff t).mpr h0)

/-- The proof data: the arrays as the region finds them; the inputs' blocks left in place; the result's block the array's,
    as `G` has it. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => win0_3.fill (grid0.coords t) (fun _ => (0 : EReal)) fun j => G m c ((win0_3.blk t).view.emb j)
  Φ t := iprop((∃ s, ⌜t.val % 16 ≠ 0 → Good m c (t.val / 16) s⌝ ∗ owns (c : Thread nD τ) (Memref.whole cc0_scratch0) fullShare s) ∗ (∃ r, prngReg c r))
  q _ := fullShare
  owed _ := 0

theorem before_0 (d) : (dats m 0 c).before (0 : Fin 4) t d = win0_0.fill (grid0.coords t) d (iblk m c 0 t) :=
  (dats m 0 c).before_in_eq_fetched 0 rfl (fun _ => rfl)
    (fun t t' h => funext fun a => congrArg (fun f : Fin 2 → ℕ => Pipeline.Clip.of (f a) (S512x2048.size a) (S8224x2048.size a)) h)
    (fun t => win0_0.cut_fill _ _ _) t d
theorem before_1 (d) : (dats m 0 c).before (1 : Fin 4) t d = iblk m c 1 t := before0_1_of m (dats m 0 c) rfl (fun _ => rfl) t d
theorem before_2 (d) : (dats m 0 c).before (2 : Fin 4) t d = iblk m c 2 t := before0_2_of m (dats m 0 c) rfl (fun _ => rfl) t d

/-- What the body leaves in the result's buffer, on the rows and columns inside the array. -/
theorem out_cut (s : S512x2048.Idx → EReal) (hs : Good m c (t.val / 16) s)  :
    win0_3.cut (grid0.coords t) (fun y : S512x512.Idx => mm s (iblk m c 2 t) (y 0) (y 1)) = fun j => G m c ((win0_3.blk t).view.emb j) := by
  funext j
  have h0 : (j 0).val < min 512 (8224 - 512 * (t.val / 16)) := (ext3 t).1 ▸ (j 0).isLt
  have h1 : (j 1).val < min 512 (8192 - 512 * (t.val % 16)) := (ext3 t).2 ▸ (j 1).isLt
  have e0 : (((win0_3.blk t).view.emb j) 0 : Nat) = 512 * (t.val / 16) + (j 0).val := by
    blk_simp [idx3 t]; exact congrArg (· + (j 0).val) (Nat.mul_comm _ _)
  have e1 : (((win0_3.blk t).view.emb j) 1 : Nat) = 512 * (t.val % 16) + (j 1).val := by
    blk_simp [idx3 t]; exact congrArg (· + (j 1).val) (Nat.mul_comm _ _)
  show mm s _ ⟨(j 0).val, _⟩ ⟨(j 1).val, _⟩ = prod _ _ _ (((win0_3.blk t).view.emb j) 0) (((win0_3.blk t).view.emb j) 1)
  unfold mm prod
  exact Finset.sum_congr rfl fun k _ => congrArg₂ (· * ·) (hs _ _ e0 k) (w_at m c t  k _ _ e1)

theorem close_inv' : iprop((∃ s, ⌜t.succ.val % 16 ≠ 0 → Good m c (t.succ.val / 16) s⌝ ∗ owns (c : Thread nD τ) (Memref.whole cc0_scratch0) fullShare s) ∗ (∃ r, prngReg c r))
    ⊢ ((dats m 0 c).Φ t.succ : sProp 𝕄) := Entails.refl _

theorem open_inv' : ((dats m 0 c).Φ t.castSucc : sProp 𝕄) ⊢ iprop((∃ s, ⌜t.val % 16 ≠ 0 → Good m c (t.val / 16) s⌝
    ∗ owns (c : Thread nD τ) (Memref.whole cc0_scratch0) fullShare s) ∗ (∃ r, prngReg c r)) := Entails.refl _

theorem close_out (arg : Memref sig .tc .vmem S512x512 .f32) (Z : S512x512.Idx → EReal) (A : (win0_3.xblock (grid0.coords t)).Idx → EReal)
    (h : win0_3.cut (grid0.coords t) Z = A) :
    (owns (c : Thread nD τ) arg fullShare (Z : Vec Ideal S512x512 .f32) : sProp 𝕄) ⊢ iprop(∃ d : Vec Ideal S512x512 .f32, owns (c : Thread nD τ) arg fullShare
      (win0_3.fill (grid0.coords t) d (win0_3.cut (grid0.coords t) (win0_3.fill (grid0.coords t) (fun _ => (0 : EReal)) A)) : Vec Ideal S512x512 .f32)) := by
  have e : (win0_3.fill (grid0.coords t) Z (win0_3.cut (grid0.coords t) (win0_3.fill (grid0.coords t) (fun _ => (0 : EReal)) A)) : S512x512.Idx → EReal) = Z := by
    rw [win0_3.cut_fill, ← h, win0_3.fill_cut]
  iintro H
  iexists Z
  rw [e]
  iexact H

set_option backward.isDefEq.respectTransparency.types false in
theorem body_value (c : Dev nD) : BodyObligationLoose (dats m 0 c) (defs₀ (F := Ideal)) Variants.none () Set.univ := fun t => by
  rw [bigSep_W0, bigSep_W0, row]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  ihave HΦ' := open_inv' m c t $$ HΦ
  icases HΦ' with ⟨⟨%s, %hs, Hs⟩, Hr⟩
  have hg := good_nxt m c t d0 s hs
  iapply body_val defs₀ c _ _ _ _ _ _ _ _ _ _ _ (win0_0.fill (grid0.coords t) d0 (iblk m c 0 t)) (iblk m c 1 t) (iblk m c 2 t) s
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr]
  · iapply close_inv' m c t
    isplitl [Hs]
    · iexists _
      isplitr
      swap
      · iexact Hs
      · ipureintro
        intro hne
        have e : t.succ.val / 16 = t.val / 16 := by
          have : t.succ.val = t.val + 1 := rfl
          rw [this] at hne ⊢
          omega
        rw [e]; exact hg
    iexact Hr
  isplitl [Ho]; · iexact Ho
  isplitl [H0]
  · iexists d0
    change _ ⊢ owns (c : Thread nD τ) (stage0_0 (cfg0.slots t 0)) fullShare (win0_0.fill (grid0.coords t) d0 (win0_0.cut (grid0.coords t)
      (win0_0.fill (grid0.coords t) (fun _ => (0 : EReal)) (iblk m c 0 t))))
    rw [win0_0.cut_fill]; try iexact H0
  isplitl [H1]; · iexact H1
  isplitl [H2]
  · iexact H2
  · iapply close_out c t _ (fun y : S512x512.Idx => mm (nxt (BitVec.ofNat 32 (grid0.coords t 1).val) (win0_0.fill (grid0.coords t) d0 (iblk m c 0 t)) (iblk m c 1 t) s) (iblk m c 2 t) (y 0) (y 1))
      (fun j => G m c ((win0_3.blk t).view.emb j)) (out_cut m c t _ hg ) $$ H3

theorem inv_in : (Pipeline.ΦA spec0 c : sProp 𝕄) ⊢ (dats m 0 c).Φ 0 := by
  refine (open_scratch c).trans ?_
  change _ ⊢ iprop((∃ s : Vec Ideal S512x2048 .bf16, ⌜0 % 16 ≠ 0 → Good m c (0 / 16) s⌝ ∗ owns (c : Thread nD τ) (Memref.whole cc0_scratch0) fullShare s) ∗ (∃ r, prngReg c r))
  iintro ⟨⟨%s, Hs⟩, Hr⟩
  isplitl [Hs]
  · iexists s
    isplitr
    · ipureintro; exact fun h => absurd rfl h
    iexact Hs
  iexact Hr

theorem inv_out : ((dats m 0 c).Φ (Fin.last cfg0.N) : sProp 𝕄) ⊢ Pipeline.ΦA spec0 c := by
  refine BIBase.Entails.trans ?_ (close_scratch c)
  change iprop((∃ s : Vec Ideal S512x2048 .bf16, ⌜(Fin.last cfg0.N).val % 16 ≠ 0 → Good m c ((Fin.last cfg0.N).val / 16) s⌝ ∗ owns (c : Thread nD τ) (Memref.whole cc0_scratch0) fullShare s) ∗ (∃ r, prngReg c r)) ⊢ _
  iintro ⟨⟨%s, -, Hs⟩, Hr⟩
  isplitl [Hs]
  · iexists s; iexact Hs
  iexact Hr

set_option backward.isDefEq.respectTransparency.types false in
/-- The run, every buffer the region and the lines after it leave named. -/
theorem run_value : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) 0 launch0 defs₀ Variants.none m ρ main
    (fun c => body_value m c) (fun c => (dats m 0 c).share_full fun _ => rfl) (fun _ _ => rfl) (V0 m) [hostOps1] sfx_sub sfx_fresh sfx_keeps
    (hmain m Variants.none) (fun _ _ => rfl) (fun c => inv_in m c) (fun c => inv_out m c)

/-- The result array. -/
theorem arr_eq : (dats m 0 c).arrAt 3 cfg0.N = G m c := by
  refine (dats m 0 c).arrAt_eq_of_covers 3 _ (by decide +kernel) fun t hf y => ?_
  exact (cast_eq _ _).trans (win0_3.fill_xinj (grid0.coords t) (fun _ => (0 : EReal)) (fun j => G m c ((win0_3.blk t).view.emb j)) y)

end Cert.Kernel3Ideal.Rows

end
-- ==== Proof.Tail3.lean ====
/- What the lines after the matrix product make of it: the gated mix of the four branches, projected and added to the rows. -/
module
public import proofs.«01_k».proof.Proof.Val3Ideal
@[expose] public section
set_option maxRecDepth 16384
noncomputable section
namespace Cert.Kernel3Ideal.Rows
open Cert.Kernel3Ideal Cert.Kernel3Ideal.Gen Idealize.ShloMosaic
open Idealize.ShloMosaic.TcCoe Idealize.SL.Sem Idealize.ShloMosaic.Tactic

/-- A gate: the logistic of `z`, in the form the host computes it. -/
def gate (z : EReal) : EReal := Ideal.div 1 (1 + Ideal.exp (-z))

/-- One branch's part of the mix at a row and a column. -/
def part (z b : EReal) (y w : Fin 512 → EReal) : EReal := gate (z + b) * ∑ k : Fin 512, y k * w k

variable (W : Valuation τ sig (Elt Ideal))

abbrev gz : S8224x8192.Idx → EReal := W (Proc.devRef .tc main_v2)
abbrev rows : S8224x2048.Idx → EReal := W (Proc.devRef .tc main_arg0)
abbrev y0 : S8224x512.Idx → EReal := W (Proc.devRef .tc main_arg1)
abbrev y1 : S8224x512.Idx → EReal := W (Proc.devRef .tc main_arg2)
abbrev y2 : S8224x512.Idx → EReal := W (Proc.devRef .tc main_arg3)
abbrev y3 : S8224x512.Idx → EReal := W (Proc.devRef .tc main_arg4)
abbrev bias : S4x2048.Idx → EReal := W (Proc.devRef .tc main_arg7)
abbrev wb : S4x512x2048.Idx → EReal := W (Proc.devRef .tc main_arg8)
abbrev wo : S2048x2048.Idx → EReal := W (Proc.devRef .tc main_arg9)

def mixAt (gz : S8224x8192.Idx → EReal) (bias : S4x2048.Idx → EReal) (y0 y1 y2 y3 : S8224x512.Idx → EReal) (wb : S4x512x2048.Idx → EReal)
    (P : Fin 8224) (J : Fin 2048) : EReal :=
  part (gz (ix2 P ⟨J.val, by omega⟩)) (bias (ix2 0 J)) (fun k => y0 (ix2 P k)) (fun k => wb (ix3 0 k J))
  + part (gz (ix2 P ⟨2048 + J.val, by omega⟩)) (bias (ix2 1 J)) (fun k => y1 (ix2 P k)) (fun k => wb (ix3 1 k J))
  + part (gz (ix2 P ⟨4096 + J.val, by omega⟩)) (bias (ix2 2 J)) (fun k => y2 (ix2 P k)) (fun k => wb (ix3 2 k J))
  + part (gz (ix2 P ⟨6144 + J.val, by omega⟩)) (bias (ix2 3 J)) (fun k => y3 (ix2 P k)) (fun k => wb (ix3 3 k J))

set_option maxHeartbeats 8000000 in
theorem tail (P : Fin 8224) (D : Fin 2048) : (StableHlo.after hostOps1 W (Proc.devRef .tc main_v73) : S8224x2048.Idx → EReal) (ix2 P D)
    = rows W (ix2 P D) + ∑ J : Fin 2048, mixAt (gz W) (bias W) (y0 W) (y1 W) (y2 W) (y3 W) (wb W) P J * wo W (ix2 J D) := by
  unfold mixAt part gate
  simp only [hostOps1]
  after_results
  pointwise

end Cert.Kernel3Ideal.Rows
end
-- ==== Proof.Ref3.lean ====
/- The gated mix's reference, entry by entry: the normalised row times the gate's weights, the four gates, the four branches'
   projections, their sum, and its projection. -/
module
public import proofs.«01_k».proof.Proof.Tail3
public import proofs.«01_k».proof.Proof.Gen.Reference3Ideal.Read
@[expose] public section
set_option maxRecDepth 16384
noncomputable section
namespace Cert.Reference3Ideal.Rows
open Cert.Reference3Ideal Cert.Reference3Ideal.Gen Cert.Reference3Ideal.Read Idealize.ShloMosaic
open Idealize.ShloMosaic.TcCoe Idealize.SL.Sem Idealize.ShloMosaic.Tactic
open Cert.Kernel3Ideal.Rows (part gate mixAt prod)
open Cert.Block (unit)

variable (x0 : Vec Ideal S8224x2048 .f32) (x1 x2 x3 x4 : Vec Ideal S8224x512 .f32) (x5 : Vec Ideal S2048 .f32) (x6 : Vec Ideal S2048x8192 .f32)
  (x7 : Vec Ideal S4x2048 .f32) (x8 : Vec Ideal S4x512x2048 .f32) (x9 : Vec Ideal S2048x2048 .f32)

theorem norm_eq (P : Fin 8224) (k : Fin 2048) : val_main_v12 (F := Ideal) x0 x5 (ix2 P k) = unit (fun l => x0 (ix2 P l)) (fun l => x5 (ix1 l)) k := by
  unfold unit
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]

theorem gz_eq (P : Fin 8224) (n : Fin 4) (J : Fin 2048) (Q : Fin 8192) (hQ : Q.val = 2048 * n.val + J.val) :
    val_main_v21 (F := Ideal) x0 x5 x6 (ix3 P n J) = ∑ k : Fin 2048, unit (fun l => x0 (ix2 P l)) (fun l => x5 (ix1 l)) k * x6 (ix2 k Q) := by
  rw [val_main_v21_apply]
  have e : idx_main_v21 (ix3 P n J) = ix2 P Q := by
    funext a
    have hn := n.isLt
    have hJ := J.isLt
    match a with
    | ⟨0, _⟩ => exact Fin.ext (by show ((P.val * 4 + n.val) * 2048 + J.val) / 8192 = P.val; omega)
    | ⟨1, _⟩ => exact Fin.ext (by show ((P.val * 4 + n.val) * 2048 + J.val) % 8192 = Q.val; omega)
  rw [e, val_main_v20_apply]
  refine Finset.sum_congr rfl fun k _ => congrArg₂ (· * ·) ?_ (congrArg x6 ?_)
  · rw [← norm_eq]
    exact congrArg _ (funext fun a => match a with | ⟨0, _⟩ => rfl | ⟨1, _⟩ => rfl)
  · exact funext fun a => match a with | ⟨0, _⟩ => rfl | ⟨1, _⟩ => rfl

theorem gate_eq (P : Fin 8224) (n : Fin 4) (J : Fin 2048) :
    val_main_v30 (F := Ideal) x0 x5 x6 x7 (ix3 P n J) = gate (val_main_v21 (F := Ideal) x0 x5 x6 (ix3 P n J) + x7 (ix2 n J)) := by
  unfold gate
  rw [val_main_v30_apply, val_main_v28_apply, val_main_v26_apply, val_main_v25_apply, val_main_v24_apply]
  generalize val_main_v21 (F := Ideal) x0 x5 x6 = z
  pointwise [val_main_v29, val_main_cst_3, val_main_v27, val_main_cst_2, val_main_v23, val_main_v22]

/-- The branches, by number. -/
def br (P : Fin 8224) (k : Fin 512) : Fin 4 → EReal := ![x1 (ix2 P k), x2 (ix2 P k), x3 (ix2 P k), x4 (ix2 P k)]

theorem stack_eq (P : Fin 8224) (n : Fin 4) (k : Fin 512) : val_main_v17 (F := Ideal) x1 x2 x3 x4 (ix3 P n k) = br x1 x2 x3 x4 P k n := by
  fin_cases n
  all_goals
    unfold br
    pointwise [val_main_v17, val_main_v13, val_main_v14, val_main_v15, val_main_v16]
    try rfl

theorem proj_eq (P : Fin 8224) (n : Fin 4) (J : Fin 2048) :
    val_main_v19 (F := Ideal) x1 x2 x3 x4 x8 (ix3 P n J) = ∑ k : Fin 512, br x1 x2 x3 x4 P k n * x8 (ix3 n k J) := by
  rw [val_main_v19_apply, val_main_v18_apply]
  refine Finset.sum_congr rfl fun k _ => (mul_comm _ _).trans (congrArg₂ (· * ·) ?_ (congrArg x8 ?_))
  · rw [← stack_eq]
    exact congrArg _ (funext fun a => match a with | ⟨0, _⟩ => rfl | ⟨1, _⟩ => rfl | ⟨2, _⟩ => rfl)
  · exact funext fun a => match a with | ⟨0, _⟩ => rfl | ⟨1, _⟩ => rfl | ⟨2, _⟩ => rfl

theorem mix_eq (gz : S8224x8192.Idx → EReal) (hgz : ∀ P Q, gz (ix2 P Q) = ∑ k : Fin 2048, unit (fun l => x0 (ix2 P l)) (fun l => x5 (ix1 l)) k * x6 (ix2 k Q))
    (P : Fin 8224) (J : Fin 2048) : val_main_v32 (F := Ideal) x0 x1 x2 x3 x4 x5 x6 x7 x8 (ix2 P J) = mixAt gz x7 x1 x2 x3 x4 x8 P J := by
  rw [val_main_v32_apply]
  have h0 : (val_main_cst_4 (F := Ideal)) (Shape.Idx.first h_S_) = (0 : EReal) := by pointwise [val_main_cst_4]
  rw [h0, zero_add, Fin.sum_univ_four]
  have key : ∀ (n : Fin 4) (Q : Fin 8192), Q.val = 2048 * n.val + J.val →
      val_main_v31 (F := Ideal) x0 x1 x2 x3 x4 x5 x6 x7 x8 (idx_main_v32 (ix2 P J) n) = part (gz (ix2 P Q)) (x7 (ix2 n J)) (fun k => br x1 x2 x3 x4 P k n) (fun k => x8 (ix3 n k J)) := by
    intro n Q hQ
    have e : idx_main_v32 (ix2 P J) n = ix3 P n J := funext fun a => match a with | ⟨0, _⟩ => rfl | ⟨1, _⟩ => rfl | ⟨2, _⟩ => rfl
    rw [e, val_main_v31_apply, gate_eq, proj_eq, gz_eq _ _ _ P n J Q hQ, ← hgz]
    rfl
  rw [key 0 ⟨J.val, by omega⟩ (by show J.val = 2048 * 0 + J.val; omega), key 1 ⟨2048 + J.val, by omega⟩ (by show 2048 + J.val = 2048 * 1 + J.val; omega),
    key 2 ⟨4096 + J.val, by omega⟩ (by show 4096 + J.val = 2048 * 2 + J.val; omega), key 3 ⟨6144 + J.val, by omega⟩ (by show 6144 + J.val = 2048 * 3 + J.val; omega)]
  rfl

theorem result_eq (gz : S8224x8192.Idx → EReal) (hgz : ∀ P Q, gz (ix2 P Q) = ∑ k : Fin 2048, unit (fun l => x0 (ix2 P l)) (fun l => x5 (ix1 l)) k * x6 (ix2 k Q))
    (P : Fin 8224) (D : Fin 2048) : val_main_v34 (F := Ideal) x0 x1 x2 x3 x4 x5 x6 x7 x8 x9 (ix2 P D)
      = x0 (ix2 P D) + ∑ J : Fin 2048, mixAt gz x7 x1 x2 x3 x4 x8 P J * x9 (ix2 J D) := by
  rw [val_main_v34_apply, val_main_v33_apply]
  refine congrArg (x0 (ix2 P D) + ·) (Finset.sum_congr rfl fun J _ => congrArg₂ (· * ·) ?_ (congrArg x9 ?_))
  · rw [← mix_eq x0 x1 x2 x3 x4 x5 x6 x7 x8 gz hgz]
    exact congrArg _ (funext fun a => match a with | ⟨0, _⟩ => rfl | ⟨1, _⟩ => rfl)
  · exact funext fun a => match a with | ⟨0, _⟩ => rfl | ⟨1, _⟩ => rfl
end Cert.Reference3Ideal.Rows
end
-- ==== Proof.Meet3.lean ====
/- The gated mix's kernel and its reference end with the same array. -/
module
public import proofs.«01_k».proof.Defs
public import proofs.«01_k».proof.Proof.Ref3
public import proofs.«01_k».proof.Proof.Gen.Reference3Ideal.Run
public import proofs.«01_k».proof.Proof.Gen.Reference3Ideal
@[expose] public section
set_option maxRecDepth 16384
noncomputable section
namespace Cert.Kernel3Ideal.Rows
open Cert.Kernel3Ideal Cert.Kernel3Ideal.Gen Idealize.ShloMosaic
open Idealize.ShloMosaic.TcCoe Idealize.SL.Sem Idealize.ShloMosaic.Tactic
open Cert.Block (unit)
variable (m : (ℓ : Loc nD τ sig) → Buf (Elt Ideal) ℓ) (ρ : Dev nD → PrngReg) (c : Dev nD)

theorem gain_eq (k : Fin 2048) : (V m c main_v0 : S1x2048.Idx → EReal) (ix2 0 k) = (m ((c : Thread nD τ).loc main_arg5) : S2048.Idx → EReal) (ix1 k) := by
  rw [show (V m c main_v0 : S1x2048.Idx → EReal) = V0 m c (Proc.devRef .tc main_v0) from rfl]
  simp only [V0, hostOps0, List.flatten_cons, List.flatten_nil, List.append_nil, List.cons_append, List.nil_append]
  after_results
  pointwise

theorem weight_eq (k : Fin 2048) (Q : Fin 8192) : (V m c main_v1 : S2048x8192.Idx → EReal) (ix2 k Q) = (m ((c : Thread nD τ).loc main_arg6) : S2048x8192.Idx → EReal) (ix2 k Q) := by
  rw [show (V m c main_v1 : S2048x8192.Idx → EReal) = V0 m c (Proc.devRef .tc main_v1) from rfl]
  simp only [V0, hostOps0, List.flatten_cons, List.flatten_nil, List.append_nil, List.cons_append, List.nil_append]
  after_results
  pointwise

theorem G_eq (P : Fin 8224) (Q : Fin 8192) : G m c (ix2 P Q)
    = ∑ k : Fin 2048, unit (fun l => (m ((c : Thread nD τ).loc main_arg0) : S8224x2048.Idx → EReal) (ix2 P l))
        (fun l => (m ((c : Thread nD τ).loc main_arg5) : S2048.Idx → EReal) (ix1 l)) k * (m ((c : Thread nD τ).loc main_arg6) : S2048x8192.Idx → EReal) (ix2 k Q) := by
  show prod (V m c main_arg0) (V m c main_v0) (V m c main_v1) P Q = _
  unfold prod
  rw [V_main_arg0]
  refine Finset.sum_congr rfl fun k _ => congrArg₂ (· * ·) (congrArg (unit _ · k) (funext fun l => gain_eq m c l)) (weight_eq m c k Q)

/-- What the lines after the region start from. -/
abbrev Wt : Valuation τ sig (Elt Ideal) := Pipeline.withArrays spec0 c (V0 m c) fun w => (dats m 0 c).arrAt w cfg0.N

theorem Wt_out : Wt m c (Proc.devRef .tc main_v2) = G m c :=
  (Pipeline.withArrays_arr spec0 launch0.win.arr_inj c (V0 m c) (fun w => (dats m 0 c).arrAt w cfg0.N) 3).trans (arr_eq m c)
theorem Wt_rows : Wt m c (Proc.devRef .tc main_arg0) = m ((c : Thread nD τ).loc main_arg0) :=
  (Pipeline.withArrays_arr spec0 launch0.win.arr_inj c (V0 m c) (fun w => (dats m 0 c).arrAt w cfg0.N) 0).trans
    (((dats m 0 c).arrAt_in 0 rfl _).trans (V_main_arg0 m c))
theorem Wt_1 : Wt m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem Wt_2 : Wt m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem Wt_3 : Wt m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem Wt_4 : Wt m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem Wt_7 : Wt m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
theorem Wt_8 : Wt m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)
theorem Wt_9 : Wt m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

/-- The result's contents. -/
def out : Vec Ideal S8224x2048 .f32 := Pipeline.afterTail₀ cfgs (dats m) 0 (V0 m) [hostOps1] c main_v73

theorem out_at (x0 : Vec Ideal S8224x2048 .f32) (wo : Vec Ideal S2048x2048 .f32) (h0 : m ((c : Thread nD τ).loc main_arg0) = x0)
    (h9 : m ((c : Thread nD τ).loc main_arg9) = wo) (P : Fin 8224) (D : Fin 2048) : out m c (ix2 P D)
    = x0 (ix2 P D) + ∑ J : Fin 2048, mixAt (G m c) (m ((c : Thread nD τ).loc main_arg7)) (m ((c : Thread nD τ).loc main_arg1)) (m ((c : Thread nD τ).loc main_arg2))
          (m ((c : Thread nD τ).loc main_arg3)) (m ((c : Thread nD τ).loc main_arg4)) (m ((c : Thread nD τ).loc main_arg8)) P J
        * wo (ix2 J D) := by
  subst h0 h9
  unfold out Pipeline.afterTail₀
  rw [List.flatten_cons, List.flatten_nil, List.append_nil]
  refine (tail (Wt m c) P D).trans ?_
  rw [show rows (Wt m c) = _ from Wt_rows m c, show gz (Wt m c) = _ from Wt_out m c, show y0 (Wt m c) = _ from Wt_1 m c,
    show y1 (Wt m c) = _ from Wt_2 m c, show y2 (Wt m c) = _ from Wt_3 m c, show y3 (Wt m c) = _ from Wt_4 m c,
    show bias (Wt m c) = _ from Wt_7 m c, show wb (Wt m c) = _ from Wt_8 m c, show wo (Wt m c) = _ from Wt_9 m c]

theorem run_out : θ_run defs (onTc (τ := τ) (main (F := Ideal))) ⟨m, fun _ => 0, ρ⟩ (fun r => ∀ c : Dev nD,
      r.2.mem ((c.tc : Thread nD τ).loc main_v73) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v73 (Pipeline.mem_restRefs_of main_v73 (by decide) (by decide)),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_value m ρ)
end Cert.Kernel3Ideal.Rows

namespace Cert.Proof
open Idealize.ShloMosaic Idealize.ShloMosaic.TcCoe Idealize.SL.Sem

theorem mix_algebraic : Cert.algebraic_Kernel3Ideal_Reference3Ideal (hKernel3Ideal := Cert.Kernel3Ideal.Gen.facts) (hReference3Ideal := Cert.Reference3Ideal.Gen.facts) :=
  fun m g m' g' _ hm => by
    refine ⟨fun c => Cert.Kernel3Ideal.Rows.out m c, Cert.Kernel3Ideal.Rows.run_out m g,
      (θ_run _ _ _).mono (fun r h c => ⟨(h c).1.trans ?_, (h c).2⟩) (Cert.Reference3Ideal.Value.run m' g')⟩
    obtain ⟨e0, e1, e2, e3, e4, e5, e6, e7, e8, e9⟩ := hm c
    rw [Cert.Reference3Ideal.Read.val_main_v34_eq, e0, e1, e2, e3, e4, e5, e6, e7, e8, e9]
    funext y
    have e : y = ix2 (y 0) (y 1) := funext fun a => match a with | ⟨0, _⟩ => rfl | ⟨1, _⟩ => rfl
    rw [e]
    exact (Cert.Reference3Ideal.Rows.result_eq _ _ _ _ _ _ _ _ _ _ (Cert.Kernel3Ideal.Rows.G m c) (Cert.Kernel3Ideal.Rows.G_eq m c) (y 0) (y 1)).trans
      (Cert.Kernel3Ideal.Rows.out_at m c _ _ rfl rfl (y 0) (y 1)).symm
end Cert.Proof
end
-- ==== Proof.Val4Ideal.lean ====
/-
  `Kernel4Ideal`'s matrix product in closed form: the region runs to the end, and its result array holds, at row `P` and column `Q`,
  the normalised row `P` of the rows' array times column `Q` of the weights. The last row block overhangs the array, so its
  buffers hold rows that nothing names past the array's end; the scratch is stated on the rows inside the array only.
-/
module

public import proofs.«01_k».proof.Proof.Frame4Ideal

@[expose] public section

set_option maxRecDepth 16384

noncomputable section

namespace Cert.Kernel4Ideal.Rows

open Cert.Kernel4Ideal Cert.Kernel4Ideal.Gen Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The product's entry at row `P` and column `Q`. -/
def prod (X : S8224x2048.Idx → EReal) (g : S1x2048.Idx → EReal) (W : S2048x512.Idx → EReal) (P : Fin 8224) (Q : Fin 512) : EReal :=
  ∑ k : Fin 2048, unit (fun l => X (ix2 P l)) (fun l => g (ix2 0 l)) k * W (ix2 k Q)

theorem first_iff : ∀ t : Fin cfg0.N, first (BitVec.ofNat 32 (grid0.coords t 1).val) = 1#1 ↔ t.val % 1 = 0 := (by decide +kernel : ∀ t : Fin grid0.N, _)
theorem idx0 : ∀ t : Fin cfg0.N, win0_0.index t = ![t.val / 1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 1] := (by decide +kernel : ∀ t : Fin grid0.N, _)
theorem idx3 : ∀ t : Fin cfg0.N, win0_3.index t = ![t.val / 1, t.val % 1] := (by decide +kernel : ∀ t : Fin grid0.N, _)
theorem ext0 : ∀ (t : Fin cfg0.N), win0_0.xsize (grid0.coords t) 0 = min 512 (8224 - 512 * (t.val / 1)) ∧ win0_0.xsize (grid0.coords t) 1 = 2048 :=
  (by decide +kernel : ∀ t : Fin grid0.N, _)
theorem ext3 : ∀ (t : Fin cfg0.N), win0_3.xsize (grid0.coords t) 0 = min 512 (8224 - 512 * (t.val / 1))
    ∧ win0_3.xsize (grid0.coords t) 1 = min 512 (512 - 512 * (t.val % 1)) :=
  (by decide +kernel : ∀ t : Fin grid0.N, _)

variable (m : (ℓ : Loc nD τ sig) → Buf (Elt Ideal) ℓ) (ρ : Dev nD → PrngReg) (c : Dev nD) (t : Fin cfg0.N)

/-- The result array's contents. -/
def G : S8224x512.Idx → EReal := fun y => prod (V m c main_arg0) (V m c main_v2) (V m c main_v3) (y 0) (y 1)

theorem x_at (d : S512x2048.Idx → EReal) (p : Fin 512) (k : Fin 2048) (P : Fin 8224) (hP : P.val = 512 * (t.val / 1) + p.val) :
    win0_0.fill (grid0.coords t) d (iblk m c 0 t) (ix2 p k) = V m c main_arg0 (ix2 P k) := by
  have h0 : p.val < win0_0.xsize (grid0.coords t) 0 := by rw [(ext0 t).1]; have := P.isLt; have := p.isLt; omega
  have h1 : k.val < win0_0.xsize (grid0.coords t) 1 := by rw [(ext0 t).2]; exact k.isLt
  refine (fill_at (w := win0_0) (grid0.coords t) d (iblk m c 0 t) (fun a => match a with | ⟨0, _⟩ => ⟨p.val, h0⟩ | ⟨1, _⟩ => ⟨k.val, h1⟩) (ix2 p k)
    (funext fun a => by fin_cases a <;> rfl)).trans ?_
  blk_simp [iblk]
  refine congrArg (V m c main_arg0) (funext fun a => Fin.ext ?_)
  fin_cases a <;> blk_simp [idx0 t]
  · exact (congrArg (· + p.val) (Nat.mul_comm _ _)).trans hP.symm
  · rfl

theorem g_at (k : Fin 2048) : iblk m c 1 t (ix2 0 k) = V m c main_v2 (ix2 0 k) := by
  blk_simp [iblk]
  refine congrArg (V m c main_v2) (funext fun a => Fin.ext ?_)
  fin_cases a <;> blk_simp [idx1 t]
  all_goals rfl

theorem w_at (k : Fin 2048) (q : Fin 512) (Q : Fin 512) (hQ : Q.val = 512 * (t.val % 1) + q.val) :
    iblk m c 2 t (ix2 k q) = V m c main_v3 (ix2 k Q) := by
  blk_simp [iblk]
  refine congrArg (V m c main_v3) (funext fun a => Fin.ext ?_)
  fin_cases a <;> blk_simp [idx2 t]
  · rfl
  · exact (congrArg (· + q.val) (Nat.mul_comm _ _)).trans hQ.symm

/-- The scratch holds the normalised rows of row block `r`, on the rows inside the array. -/
def Good (r : ℕ) (s : S512x2048.Idx → EReal) : Prop :=
  ∀ (p : Fin 512) (P : Fin 8224), P.val = 512 * r + p.val → ∀ k : Fin 2048,
    s (ix2 p k) = unit (fun l => V m c main_arg0 (ix2 P l)) (fun l => V m c main_v2 (ix2 0 l)) k

theorem good_nxt (d : S512x2048.Idx → EReal) (s : S512x2048.Idx → EReal) (hs : t.val % 1 ≠ 0 → Good m c (t.val / 1) s) :
    Good m c (t.val / 1) (nxt (BitVec.ofNat 32 (grid0.coords t 1).val) (win0_0.fill (grid0.coords t) d (iblk m c 0 t)) (iblk m c 1 t) s) := by
  unfold nxt
  by_cases h : first (BitVec.ofNat 32 (grid0.coords t 1).val) = 1#1
  · rw [if_pos h]
    intro p P hP k
    rw [pay1_apply]
    refine congrArg₂ (fun f g => unit f g k) (funext fun l => x_at m c t d p l P hP) (funext fun l => g_at m c t l)
  · rw [if_neg h]
    exact hs fun h0 => h ((first_iff t).mpr h0)

/-- The proof data: the arrays as the region finds them; the inputs' blocks left in place; the result's block the array's,
    as `G` has it. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => win0_3.fill (grid0.coords t) (fun _ => (0 : EReal)) fun j => G m c ((win0_3.blk t).view.emb j)
  Φ t := iprop((∃ s, ⌜t.val % 1 ≠ 0 → Good m c (t.val / 1) s⌝ ∗ owns (c : Thread nD τ) (Memref.whole cc0_scratch0) fullShare s) ∗ (∃ r, prngReg c r))
  q _ := fullShare
  owed _ := 0

theorem before_0 (d) : (dats m 0 c).before (0 : Fin 4) t d = win0_0.fill (grid0.coords t) d (iblk m c 0 t) :=
  (dats m 0 c).before_in_eq_fetched 0 rfl (fun _ => rfl)
    (fun t t' h => funext fun a => congrArg (fun f : Fin 2 → ℕ => Pipeline.Clip.of (f a) (S512x2048.size a) (S8224x2048.size a)) h)
    (fun t => win0_0.cut_fill _ _ _) t d
theorem before_1 (d) : (dats m 0 c).before (1 : Fin 4) t d = iblk m c 1 t := before0_1_of m (dats m 0 c) rfl (fun _ => rfl) t d
theorem before_2 (d) : (dats m 0 c).before (2 : Fin 4) t d = iblk m c 2 t := before0_2_of m (dats m 0 c) rfl (fun _ => rfl) t d

/-- What the body leaves in the result's buffer, on the rows and columns inside the array. -/
theorem out_cut (s : S512x2048.Idx → EReal) (hs : Good m c (t.val / 1) s)  :
    win0_3.cut (grid0.coords t) (fun y : S512x512.Idx => mm s (iblk m c 2 t) (y 0) (y 1)) = fun j => G m c ((win0_3.blk t).view.emb j) := by
  funext j
  have h0 : (j 0).val < min 512 (8224 - 512 * (t.val / 1)) := (ext3 t).1 ▸ (j 0).isLt
  have h1 : (j 1).val < min 512 (512 - 512 * (t.val % 1)) := (ext3 t).2 ▸ (j 1).isLt
  have e0 : (((win0_3.blk t).view.emb j) 0 : Nat) = 512 * (t.val / 1) + (j 0).val := by
    blk_simp [idx3 t]; exact congrArg (· + (j 0).val) (Nat.mul_comm _ _)
  have e1 : (((win0_3.blk t).view.emb j) 1 : Nat) = 512 * (t.val % 1) + (j 1).val := by
    blk_simp [idx3 t]; exact congrArg (· + (j 1).val) (Nat.mul_comm _ _)
  show mm s _ ⟨(j 0).val, _⟩ ⟨(j 1).val, _⟩ = prod _ _ _ (((win0_3.blk t).view.emb j) 0) (((win0_3.blk t).view.emb j) 1)
  unfold mm prod
  exact Finset.sum_congr rfl fun k _ => congrArg₂ (· * ·) (hs _ _ e0 k) (w_at m c t  k _ _ e1)

theorem close_inv' : iprop((∃ s, ⌜t.succ.val % 1 ≠ 0 → Good m c (t.succ.val / 1) s⌝ ∗ owns (c : Thread nD τ) (Memref.whole cc0_scratch0) fullShare s) ∗ (∃ r, prngReg c r))
    ⊢ ((dats m 0 c).Φ t.succ : sProp 𝕄) := Entails.refl _

theorem open_inv' : ((dats m 0 c).Φ t.castSucc : sProp 𝕄) ⊢ iprop((∃ s, ⌜t.val % 1 ≠ 0 → Good m c (t.val / 1) s⌝
    ∗ owns (c : Thread nD τ) (Memref.whole cc0_scratch0) fullShare s) ∗ (∃ r, prngReg c r)) := Entails.refl _

theorem close_out (arg : Memref sig .tc .vmem S512x512 .f32) (Z : S512x512.Idx → EReal) (A : (win0_3.xblock (grid0.coords t)).Idx → EReal)
    (h : win0_3.cut (grid0.coords t) Z = A) :
    (owns (c : Thread nD τ) arg fullShare (Z : Vec Ideal S512x512 .f32) : sProp 𝕄) ⊢ iprop(∃ d : Vec Ideal S512x512 .f32, owns (c : Thread nD τ) arg fullShare
      (win0_3.fill (grid0.coords t) d (win0_3.cut (grid0.coords t) (win0_3.fill (grid0.coords t) (fun _ => (0 : EReal)) A)) : Vec Ideal S512x512 .f32)) := by
  have e : (win0_3.fill (grid0.coords t) Z (win0_3.cut (grid0.coords t) (win0_3.fill (grid0.coords t) (fun _ => (0 : EReal)) A)) : S512x512.Idx → EReal) = Z := by
    rw [win0_3.cut_fill, ← h, win0_3.fill_cut]
  iintro H
  iexists Z
  rw [e]
  iexact H

set_option backward.isDefEq.respectTransparency.types false in
theorem body_value (c : Dev nD) : BodyObligationLoose (dats m 0 c) (defs₀ (F := Ideal)) Variants.none () Set.univ := fun t => by
  rw [bigSep_W0, bigSep_W0, row]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  ihave HΦ' := open_inv' m c t $$ HΦ
  icases HΦ' with ⟨⟨%s, %hs, Hs⟩, Hr⟩
  have hg := good_nxt m c t d0 s hs
  iapply body_val defs₀ c _ _ _ _ _ _ _ _ _ _ _ (win0_0.fill (grid0.coords t) d0 (iblk m c 0 t)) (iblk m c 1 t) (iblk m c 2 t) s
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr]
  · iapply close_inv' m c t
    isplitl [Hs]
    · iexists _
      isplitr
      swap
      · iexact Hs
      · ipureintro
        intro hne
        have e : t.succ.val / 1 = t.val / 1 := by
          have : t.succ.val = t.val + 1 := rfl
          rw [this] at hne ⊢
          omega
        rw [e]; exact hg
    iexact Hr
  isplitl [Ho]; · iexact Ho
  isplitl [H0]
  · iexists d0
    change _ ⊢ owns (c : Thread nD τ) (stage0_0 (cfg0.slots t 0)) fullShare (win0_0.fill (grid0.coords t) d0 (win0_0.cut (grid0.coords t)
      (win0_0.fill (grid0.coords t) (fun _ => (0 : EReal)) (iblk m c 0 t))))
    rw [win0_0.cut_fill]; try iexact H0
  isplitl [H1]; · iexact H1
  isplitl [H2]
  · iexact H2
  · iapply close_out c t _ (fun y : S512x512.Idx => mm (nxt (BitVec.ofNat 32 (grid0.coords t 1).val) (win0_0.fill (grid0.coords t) d0 (iblk m c 0 t)) (iblk m c 1 t) s) (iblk m c 2 t) (y 0) (y 1))
      (fun j => G m c ((win0_3.blk t).view.emb j)) (out_cut m c t _ hg ) $$ H3

theorem inv_in : (Pipeline.ΦA spec0 c : sProp 𝕄) ⊢ (dats m 0 c).Φ 0 := by
  refine (open_scratch c).trans ?_
  change _ ⊢ iprop((∃ s : Vec Ideal S512x2048 .bf16, ⌜0 % 1 ≠ 0 → Good m c (0 / 1) s⌝ ∗ owns (c : Thread nD τ) (Memref.whole cc0_scratch0) fullShare s) ∗ (∃ r, prngReg c r))
  iintro ⟨⟨%s, Hs⟩, Hr⟩
  isplitl [Hs]
  · iexists s
    isplitr
    · ipureintro; exact fun h => absurd rfl h
    iexact Hs
  iexact Hr

theorem inv_out : ((dats m 0 c).Φ (Fin.last cfg0.N) : sProp 𝕄) ⊢ Pipeline.ΦA spec0 c := by
  refine BIBase.Entails.trans ?_ (close_scratch c)
  change iprop((∃ s : Vec Ideal S512x2048 .bf16, ⌜(Fin.last cfg0.N).val % 1 ≠ 0 → Good m c ((Fin.last cfg0.N).val / 1) s⌝ ∗ owns (c : Thread nD τ) (Memref.whole cc0_scratch0) fullShare s) ∗ (∃ r, prngReg c r)) ⊢ _
  iintro ⟨⟨%s, -, Hs⟩, Hr⟩
  isplitl [Hs]
  · iexists s; iexact Hs
  iexact Hr

set_option backward.isDefEq.respectTransparency.types false in
/-- The run, every buffer the region and the lines after it leave named. -/
theorem run_value : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) 0 launch0 defs₀ Variants.none m ρ main
    (fun c => body_value m c) (fun c => (dats m 0 c).share_full fun _ => rfl) (fun _ _ => rfl) (V0 m) [hostOps1] sfx_sub sfx_fresh sfx_keeps
    (hmain m Variants.none) (fun _ _ => rfl) (fun c => inv_in m c) (fun c => inv_out m c)

/-- The result array. -/
theorem arr_eq : (dats m 0 c).arrAt 3 cfg0.N = G m c := by
  refine (dats m 0 c).arrAt_eq_of_covers 3 _ (by decide +kernel) fun t hf y => ?_
  exact (cast_eq _ _).trans (win0_3.fill_xinj (grid0.coords t) (fun _ => (0 : EReal)) (fun j => G m c ((win0_3.blk t).view.emb j)) y)

end Cert.Kernel4Ideal.Rows

end
-- ==== Proof.Ref4.lean ====
/- The memory attention's reference: its queries are the normalised row times the query weights, and what follows them are
   the lines that follow the kernel's region. -/
module
public import proofs.«01_k».proof.Proof.Block
public import proofs.«01_k».proof.Proof.Val4Ideal
public import proofs.«01_k».proof.Proof.Gen.Reference4Ideal.Read
@[expose] public section
set_option maxRecDepth 16384
noncomputable section
namespace Cert.Reference4Ideal.Rows
open Cert.Reference4Ideal Cert.Reference4Ideal.Gen Cert.Reference4Ideal.Read Idealize.ShloMosaic
open Idealize.ShloMosaic.TcCoe Idealize.SL.Sem Idealize.ShloMosaic.Tactic
open Cert.Block (unit)

variable (x0 : Vec Ideal S8224x2048 .f32) (x1 : Vec Ideal S2048 .f32) (x2 : Vec Ideal S2048x512 .f32) (x3 : Vec Ideal S4x256x2048 .f32)
  (x4 : Vec Ideal S2048x1024 .f32) (x5 : Vec Ideal S8x256x2x4x128 .f32) (x6 : Vec Ideal S512x2048 .f32)

theorem norm_eq (P : Fin 8224) (k : Fin 2048) : val_main_v14 (F := Ideal) x0 x1 (ix2 P k) = unit (fun l => x0 (ix2 P l)) (fun l => x1 (ix1 l)) k := by
  unfold unit
  pointwise [val_main_v14, val_main_v13, val_main_v12, val_main_v11, val_main_v10, val_main_v9, val_main_v8, val_main_v7, val_main_cst_1, val_main_v6,
    val_main_v5, val_main_cst_0, val_main_v4, val_main_v3, val_main_cst, val_main_v2]

/-- A row of the product. -/
def qrow (P : Fin 8224) (j : Fin 512) : EReal := ∑ k : Fin 2048, unit (fun l => x0 (ix2 P l)) (fun l => x1 (ix1 l)) k * x2 (ix2 k j)

theorem qp_eq (b : Fin 4) (t : Fin 2048) (j : Fin 512) (P : Fin 8224) (hP : P.val = b.val * 2048 + t.val) :
    val_main_v17 (F := Ideal) x0 x1 x2 (ix3 b t j) = qrow x0 x1 x2 P j := by
  rw [val_main_v17_apply]
  refine Finset.sum_congr rfl fun k _ => congrArg₂ (· * ·) ?_ (congrArg x2 ?_)
  · rw [← norm_eq, val_main_v16_apply, val_main_v15_apply]
    refine congrArg _ (funext fun a => ?_)
    have hb := b.isLt
    have ht := t.isLt
    have hk := k.isLt
    match a with
    | ⟨0, _⟩ => exact Fin.ext (by simp; omega)
    | ⟨1, _⟩ => exact Fin.ext (by simp)
  · exact funext fun a => match a with | ⟨0, _⟩ => rfl | ⟨1, _⟩ => rfl

theorem qs_eq (b : Fin 8) (t : Fin 4) (j : Fin 512) (P : Fin 8224) (hP : P.val = 8192 + (b.val * 4 + t.val)) :
    val_main_v44 (F := Ideal) x0 x1 x2 (ix3 b t j) = qrow x0 x1 x2 P j := by
  rw [val_main_v44_apply]
  refine Finset.sum_congr rfl fun k _ => congrArg₂ (· * ·) ?_ (congrArg x2 ?_)
  · rw [← norm_eq, val_main_v43_apply, val_main_v42_apply]
    refine congrArg _ (funext fun a => ?_)
    have hb := b.isLt
    have ht := t.isLt
    have hk := k.isLt
    match a with
    | ⟨0, _⟩ => exact Fin.ext (by simp; omega)
    | ⟨1, _⟩ => exact Fin.ext (by simp)
  · exact funext fun a => match a with | ⟨0, _⟩ => rfl | ⟨1, _⟩ => rfl
end Cert.Reference4Ideal.Rows

namespace Cert.Kernel4Ideal.Rows
open Cert.Kernel4Ideal Cert.Kernel4Ideal.Gen Idealize.ShloMosaic
open Idealize.ShloMosaic.TcCoe Idealize.SL.Sem Idealize.ShloMosaic.Tactic
open Cert.Reference4Ideal.Read

variable (W : Valuation τ sig (Elt Ideal))
abbrev prj : Vec Ideal S8224x512 .f32 := W (Proc.devRef .tc main_v4)

theorem split_p (b : Fin 4) (t : Fin 2048) (j : Fin 512) (P : Fin 8224) (hP : P.val = b.val * 2048 + t.val) :
    (shapeCast S4x2048x512 (extractStridedSlice S8192x512 ![0, 0] (prj W) slices_S8224x512_S8192x512_0_0) shapeCasts_S8192x512_S4x2048x512 : Vec Ideal S4x2048x512 .f32) (ix3 b t j) = prj W (ix2 P j) := by
  pointwise
  refine congrArg (prj W) (funext fun a => ?_)
  have hb := b.isLt
  have ht := t.isLt
  have hj := j.isLt
  match a with
  | ⟨0, _⟩ => exact Fin.ext (by simp; omega)
  | ⟨1, _⟩ => exact Fin.ext (by simp)

theorem split_s (b : Fin 8) (t : Fin 4) (j : Fin 512) (P : Fin 8224) (hP : P.val = 8192 + (b.val * 4 + t.val)) :
    (shapeCast S8x4x512 (extractStridedSlice S32x512 ![8192, 0] (prj W) slices_S8224x512_S32x512_8192_0) shapeCasts_S32x512_S8x4x512 : Vec Ideal S8x4x512 .f32) (ix3 b t j) = prj W (ix2 P j) := by
  pointwise
  refine congrArg (prj W) (funext fun a => ?_)
  have hb := b.isLt
  have ht := t.isLt
  have hj := j.isLt
  match a with
  | ⟨0, _⟩ => exact Fin.ext (by simp; omega)
  | ⟨1, _⟩ => exact Fin.ext (by simp)

theorem tail (x0 : Vec Ideal S8224x2048 .f32) (x1 : Vec Ideal S2048 .f32) (x2 : Vec Ideal S2048x512 .f32) (x3 : Vec Ideal S4x256x2048 .f32)
  (x4 : Vec Ideal S2048x1024 .f32) (x5 : Vec Ideal S8x256x2x4x128 .f32) (x6 : Vec Ideal S512x2048 .f32)
    (h0 : W (Proc.devRef .tc main_arg0) = x0) (h5 : W (Proc.devRef .tc main_arg5) = x5) (h6 : W (Proc.devRef .tc main_arg6) = x6)
    (h1 : W (Proc.devRef .tc main_v1) = val_main_v1 (F := Ideal) x3 x4)
    (hp : (shapeCast S4x2048x512 (extractStridedSlice S8192x512 ![0, 0] (prj W) slices_S8224x512_S8192x512_0_0) shapeCasts_S8192x512_S4x2048x512 : Vec Ideal S4x2048x512 .f32) = val_main_v17 (F := Ideal) x0 x1 x2)
    (hs : (shapeCast S8x4x512 (extractStridedSlice S32x512 ![8192, 0] (prj W) slices_S8224x512_S32x512_8192_0) shapeCasts_S32x512_S8x4x512 : Vec Ideal S8x4x512 .f32) = val_main_v44 (F := Ideal) x0 x1 x2) :
    StableHlo.after (hostOps1 (F := Ideal)) W (Proc.devRef .tc main_v60) = val_main_v72 (F := Ideal) x0 x1 x2 x3 x4 x5 x6 := by
  simp only [hostOps1]
  after_results
  unfold val_main_v72 val_main_v71 val_main_v70 val_main_v69 val_main_v68 val_main_v67 val_main_v66 val_main_v65 val_main_v64 val_main_v63 val_main_v62 val_main_v61 val_main_v60 val_main_v59 val_main_cst_9 val_main_v58 val_main_v57 val_main_v56 val_main_v55 val_main_v54 val_main_v53 val_main_cst_8 val_main_v52 val_main_cst_7 val_main_v51 val_main_v50 val_main_cst_6 val_main_v49 val_main_v48 val_main_v47 val_main_v46 val_main_v45 val_main_v41 val_main_v40 val_main_v39 val_main_v38 val_main_v37 val_main_v36 val_main_v35 val_main_v34 val_main_v33 val_main_v32 val_main_cst_5 val_main_v31 val_main_v30 val_main_v29 val_main_v28 val_main_v27 val_main_v26 val_main_cst_4 val_main_v25 val_main_cst_3 val_main_v24 val_main_v23 val_main_cst_2 val_main_v22 val_main_v21 val_main_v20 val_main_v19 val_main_v18

  rw [← hp, ← hs, ← h1, ← h0, ← h5, ← h6]
  rfl
end Cert.Kernel4Ideal.Rows
end
-- ==== Proof.Meet4.lean ====
/- The memory attention's kernel and its reference end with the same arrays. -/
module
public import proofs.«01_k».proof.Defs
public import proofs.«01_k».proof.Proof.Ref4
public import proofs.«01_k».proof.Proof.Gen.Reference4Ideal.Run
public import proofs.«01_k».proof.Proof.Gen.Reference4Ideal
@[expose] public section
set_option maxRecDepth 16384
noncomputable section
namespace Cert.Kernel4Ideal.Rows
open Cert.Kernel4Ideal Cert.Kernel4Ideal.Gen Idealize.ShloMosaic
open Idealize.ShloMosaic.TcCoe Idealize.SL.Sem Idealize.ShloMosaic.Tactic
open Cert.Block (unit)
open Cert.Reference4Ideal.Read
open Cert.Reference4Ideal.Rows (qrow qp_eq qs_eq)
variable (m : (ℓ : Loc nD τ sig) → Buf (Elt Ideal) ℓ) (ρ : Dev nD → PrngReg) (c : Dev nD)

theorem gain_eq (k : Fin 2048) : (V m c main_v2 : S1x2048.Idx → EReal) (ix2 0 k) = (m ((c : Thread nD τ).loc main_arg1) : S2048.Idx → EReal) (ix1 k) := by
  rw [show (V m c main_v2 : S1x2048.Idx → EReal) = V0 m c (Proc.devRef .tc main_v2) from rfl]
  simp only [V0, hostOps0, List.flatten_cons, List.flatten_nil, List.append_nil, List.cons_append, List.nil_append]
  after_results
  pointwise

theorem weight_eq (k : Fin 2048) (Q : Fin 512) : (V m c main_v3 : S2048x512.Idx → EReal) (ix2 k Q) = (m ((c : Thread nD τ).loc main_arg2) : S2048x512.Idx → EReal) (ix2 k Q) := by
  rw [show (V m c main_v3 : S2048x512.Idx → EReal) = V0 m c (Proc.devRef .tc main_v3) from rfl]
  simp only [V0, hostOps0, List.flatten_cons, List.flatten_nil, List.append_nil, List.cons_append, List.nil_append]
  after_results
  pointwise

/-- The memory's keys and values, before the region. -/
theorem mem_eq : V m c main_v1 = val_main_v1 (F := Ideal) (m ((c : Thread nD τ).loc main_arg3)) (m ((c : Thread nD τ).loc main_arg4)) := by
  show V0 m c (Proc.devRef .tc main_v1) = _
  simp only [V0, hostOps0, List.flatten_cons, List.flatten_nil, List.append_nil, List.cons_append, List.nil_append]
  after_results
  rfl

theorem G_eq (P : Fin 8224) (Q : Fin 512) : G m c (ix2 P Q)
    = qrow (m ((c : Thread nD τ).loc main_arg0)) (m ((c : Thread nD τ).loc main_arg1)) (m ((c : Thread nD τ).loc main_arg2)) P Q := by
  show prod (V m c main_arg0) (V m c main_v2) (V m c main_v3) P Q = _
  unfold prod qrow
  rw [V_main_arg0]
  refine Finset.sum_congr rfl fun k _ => congrArg₂ (· * ·) (congrArg (unit _ · k) (funext fun l => gain_eq m c l)) (weight_eq m c k Q)

/-- What the lines after the region start from. -/
abbrev Wt : Valuation τ sig (Elt Ideal) := Pipeline.withArrays spec0 c (V0 m c) fun w => (dats m 0 c).arrAt w cfg0.N

theorem Wt_out : Wt m c (Proc.devRef .tc main_v4) = G m c :=
  (Pipeline.withArrays_arr spec0 launch0.win.arr_inj c (V0 m c) (fun w => (dats m 0 c).arrAt w cfg0.N) 3).trans (arr_eq m c)
theorem Wt_rows : Wt m c (Proc.devRef .tc main_arg0) = m ((c : Thread nD τ).loc main_arg0) :=
  (Pipeline.withArrays_arr spec0 launch0.win.arr_inj c (V0 m c) (fun w => (dats m 0 c).arrAt w cfg0.N) 0).trans
    (((dats m 0 c).arrAt_in 0 rfl _).trans (V_main_arg0 m c))
theorem Wt_mem : Wt m c (Proc.devRef .tc main_v1) = val_main_v1 (F := Ideal) (m ((c : Thread nD τ).loc main_arg3)) (m ((c : Thread nD τ).loc main_arg4)) :=
  (Pipeline.withArrays_of_ne _ c (V0 m c) _ main_v1 (by exact (by decide : ∀ w, Pipeline.arrRef spec0 w ≠ main_v1))).trans (mem_eq m c)
theorem Wt_5 : Wt m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem Wt_6 : Wt m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem queries_p : (shapeCast S4x2048x512 (extractStridedSlice S8192x512 ![0, 0] (prj (Wt m c)) slices_S8224x512_S8192x512_0_0) shapeCasts_S8192x512_S4x2048x512 : Vec Ideal S4x2048x512 .f32)
    = val_main_v17 (F := Ideal) (m ((c : Thread nD τ).loc main_arg0)) (m ((c : Thread nD τ).loc main_arg1)) (m ((c : Thread nD τ).loc main_arg2)) := by
  funext y
  have e : y = ix3 (y 0) (y 1) (y 2) := funext fun a => match a with | ⟨0, _⟩ => rfl | ⟨1, _⟩ => rfl | ⟨2, _⟩ => rfl
  have h0 : (y 0).val < 4 := (y 0).isLt
  have h1 : (y 1).val < 2048 := (y 1).isLt
  rw [e]
  have P : {P : Fin 8224 // P.val = (y 0).val * 2048 + (y 1).val} := ⟨⟨(y 0).val * 2048 + (y 1).val, by omega⟩, rfl⟩
  refine (split_p _ (y 0) (y 1) (y 2) P.1 P.2).trans (Eq.trans ?_ (qp_eq _ _ _ (y 0) (y 1) (y 2) P.1 P.2).symm)
  rw [show prj (Wt m c) = _ from Wt_out m c]
  exact G_eq m c P.1 (y 2)

theorem queries_s : (shapeCast S8x4x512 (extractStridedSlice S32x512 ![8192, 0] (prj (Wt m c)) slices_S8224x512_S32x512_8192_0) shapeCasts_S32x512_S8x4x512 : Vec Ideal S8x4x512 .f32)
    = val_main_v44 (F := Ideal) (m ((c : Thread nD τ).loc main_arg0)) (m ((c : Thread nD τ).loc main_arg1)) (m ((c : Thread nD τ).loc main_arg2)) := by
  funext y
  have e : y = ix3 (y 0) (y 1) (y 2) := funext fun a => match a with | ⟨0, _⟩ => rfl | ⟨1, _⟩ => rfl | ⟨2, _⟩ => rfl
  have h0 : (y 0).val < 8 := (y 0).isLt
  have h1 : (y 1).val < 4 := (y 1).isLt
  rw [e]
  have P : {P : Fin 8224 // P.val = 8192 + ((y 0).val * 4 + (y 1).val)} := ⟨⟨8192 + ((y 0).val * 4 + (y 1).val), by omega⟩, rfl⟩
  refine (split_s _ (y 0) (y 1) (y 2) P.1 P.2).trans (Eq.trans ?_ (qs_eq _ _ _ (y 0) (y 1) (y 2) P.1 P.2).symm)
  rw [show prj (Wt m c) = _ from Wt_out m c]
  exact G_eq m c P.1 (y 2)

theorem keep_mem (W : Valuation τ sig (Elt Ideal)) : StableHlo.after (hostOps1 (F := Ideal)) W (Proc.devRef .tc main_v1) = W (Proc.devRef .tc main_v1) := by
  simp only [hostOps1]
  after_results

/-- The results' contents. -/
abbrev out : Vec Ideal S8224x2048 .f32 := Pipeline.afterTail₀ cfgs (dats m) 0 (V0 m) [hostOps1] c main_v60
abbrev mkv : Vec Ideal S4x256x2x4x128 .f32 := Pipeline.afterTail₀ cfgs (dats m) 0 (V0 m) [hostOps1] c main_v1

theorem out_eq : out m c = val_main_v72 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  unfold out Pipeline.afterTail₀
  rw [List.flatten_cons, List.flatten_nil, List.append_nil]
  exact tail (Wt m c) _ _ _ _ _ _ _ (Wt_rows m c) (Wt_5 m c) (Wt_6 m c) (Wt_mem m c) (queries_p m c) (queries_s m c)

theorem mkv_eq : mkv m c = val_main_v1 (F := Ideal) (m ((c : Thread nD τ).loc main_arg3)) (m ((c : Thread nD τ).loc main_arg4)) := by
  unfold mkv Pipeline.afterTail₀
  rw [List.flatten_cons, List.flatten_nil, List.append_nil]
  exact (keep_mem (Wt m c)).trans (Wt_mem m c)

theorem run_out : θ_run defs (onTc (τ := τ) (main (F := Ideal))) ⟨m, fun _ => 0, ρ⟩ (fun r => ∀ c : Dev nD,
      r.2.mem ((c.tc : Thread nD τ).loc main_v60) = out m c
      ∧ r.2.mem ((c.tc : Thread nD τ).loc main_v1) = mkv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v60 (Pipeline.mem_restRefs_of main_v60 (by decide) (by decide)),
      (h c).2 main_v1 (Pipeline.mem_restRefs_of main_v1 (by decide) (by decide)),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_value m ρ)
end Cert.Kernel4Ideal.Rows

namespace Cert.Proof
open Idealize.ShloMosaic Idealize.ShloMosaic.TcCoe Idealize.SL.Sem

theorem memory_algebraic : Cert.algebraic_Kernel4Ideal_Reference4Ideal (hKernel4Ideal := Cert.Kernel4Ideal.Gen.facts) (hReference4Ideal := Cert.Reference4Ideal.Gen.facts) :=
  fun m g m' g' _ hm => by
    refine ⟨fun c => Cert.Kernel4Ideal.Rows.out m c, fun c => Cert.Kernel4Ideal.Rows.mkv m c, Cert.Kernel4Ideal.Rows.run_out m g,
      (θ_run _ _ _).mono (fun r h c => ⟨(h c).1.trans ?_, (h c).2.1.trans ?_, (h c).2.2⟩) (Cert.Reference4Ideal.Value.run m' g')⟩
    · obtain ⟨e0, e1, e2, e3, e4, e5, e6⟩ := hm c
      rw [Cert.Reference4Ideal.Read.val_main_v72_eq, e0, e1, e2, e3, e4, e5, e6]
      exact (Cert.Kernel4Ideal.Rows.out_eq m c).symm
    · obtain ⟨e0, e1, e2, e3, e4, e5, e6⟩ := hm c
      rw [Cert.Reference4Ideal.Read.val_main_v1_eq, e3, e4]
      exact (Cert.Kernel4Ideal.Rows.mkv_eq m c).symm
end Cert.Proof
end
-- ==== Proof.lean ====
/- The claims of `Cert.Claim`, gathered from the modules: the sliding-window attention, the input projection, the gated branch
   mix and the memory attention, each with its frames, its idealization and its agreement with its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Meet
public import proofs.«01_k».proof.Proof.Frames
public import proofs.«01_k».proof.Proof.Frame2Ideal
public import proofs.«01_k».proof.Proof.Meet2
public import proofs.«01_k».proof.Proof.Frame3Ideal
public import proofs.«01_k».proof.Proof.Meet3
public import proofs.«01_k».proof.Proof.Frame4Ideal
public import proofs.«01_k».proof.Proof.Meet4
public import Idealize.ShloMosaic.Adequacy
public import Idealize.ShloMosaic.Init

@[expose] public section

noncomputable section

namespace Cert.Proof

open Idealize.ShloMosaic Idealize.SL.Sem Cert.Kernel

/-- The windowed attention's kernel and its reference end with the same array. -/
theorem win_algebraic : Cert.algebraic_KernelIdeal_ReferenceIdeal (hKernelIdeal := Cert.KernelIdeal.Gen.facts) (hReferenceIdeal := Cert.ReferenceIdeal.Gen.facts) :=
  fun m g m' g' _ hm => by
    refine ⟨fun c => (Cert.KernelIdeal.Gen.dats m 0 c).arrAt 4 Cert.KernelIdeal.cfg0.N, Cert.KernelIdeal.Value.run_blocks m g,
      (θ_run _ _ _).mono (fun r h c => ⟨(h c).1.trans ?_, (h c).2⟩) (Cert.ReferenceIdeal.Value.run m' g')⟩
    rw [Cert.ReferenceIdeal.Read.val_main_v81_eq, (hm c).1, (hm c).2.1, (hm c).2.2.1, (hm c).2.2.2]
    refine Eq.trans ?_ (Cert.KernelIdeal.Win.arr_eq m c).symm
    funext y
    have e : y = ix4 (y 0) (y 1) (y 2) (y 3) := by
      funext a
      match a with
      | ⟨0, _⟩ => rfl
      | ⟨1, _⟩ => rfl
      | ⟨2, _⟩ => rfl
      | ⟨3, _⟩ => rfl
    exact (congrArg (Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) e).trans (Meet.meet m c (y 0) (y 1) (y 2) (y 3)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run m ρ),
  project_frame, fun m ρ _ => Cert.Kernel2Ideal.Rows.frame_run m ρ,
  fun m ρ _ => (θ_run Cert.Reference2Ideal.defs _ _).mono (fun r h => ⟨fun c => (h c).2.2.2.2.2.2.2.2.2.2.2.2.2, sem_eq_zero_of_no_sems (by decide) r.2⟩)
    (Cert.Reference2Ideal.Value.run m ρ),
  mix_frame, fun m ρ _ => Cert.Kernel3Ideal.Rows.frame_run m ρ,
  fun m ρ _ => (θ_run Cert.Reference3Ideal.defs _ _).mono (fun r h => ⟨fun c => (h c).2, sem_eq_zero_of_no_sems (by decide) r.2⟩)
    (Cert.Reference3Ideal.Value.run m ρ),
  memory_frame, fun m ρ _ => Cert.Kernel4Ideal.Rows.frame_run m ρ,
  fun m ρ _ => (θ_run Cert.Reference4Ideal.defs _ _).mono (fun r h => ⟨fun c => (h c).2.2, sem_eq_zero_of_no_sems (by decide) r.2⟩)
    (Cert.Reference4Ideal.Value.run m ρ),
  IdealRules.named_const.statement Cert.KernelIdeal.κ "mask" .f32 0xF149F2CA#32 ⊥ rfl, win_algebraic,
  trivial, project_algebraic, trivial, mix_algebraic, trivial, memory_algebraic⟩

end Cert.Proof

end
